-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes [hPre_boxes : Cert.Pre_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes [hPre_boxes : Cert.Pre_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mine (m : (ℓ : Loc Cert.Mine.nD Cert.Mine.τ Cert.Mine.sig) → Buf (Elt Bits) ℓ) : Prop :=
  True

def Pre_MiningIdeal (m : (ℓ : Loc Cert.MiningIdeal.nD Cert.MiningIdeal.τ Cert.MiningIdeal.sig) → Buf (Elt Ideal) ℓ) : Prop :=
  True

def Pre_MiningIdeal_scored [hPre_scored : Cert.Pre_scored.Facts] (m : (ℓ : Loc Cert.MiningIdeal.nD Cert.MiningIdeal.τ Cert.MiningIdeal.sig) → Buf (Elt Ideal) ℓ) : Prop :=
  ∀ c : Dev Cert.MiningIdeal.nD,
    (Cert.Pre_scored.fn (F := Ideal) (m ((c.tc : Thread Cert.MiningIdeal.nD Cert.MiningIdeal.τ).loc Cert.MiningIdeal.main_arg0)) (m ((c.tc : Thread Cert.MiningIdeal.nD Cert.MiningIdeal.τ).loc Cert.MiningIdeal.main_arg1))) = (fun _ => 1#1)

def Pre_ClassificationIdeal (m : (ℓ : Loc Cert.ClassificationIdeal.nD Cert.ClassificationIdeal.τ Cert.ClassificationIdeal.sig) → Buf (Elt Ideal) ℓ) : Prop :=
  True

def Pre_ClassificationIdeal_scored [hPre_scored : Cert.Pre_scored.Facts] (m : (ℓ : Loc Cert.ClassificationIdeal.nD Cert.ClassificationIdeal.τ Cert.ClassificationIdeal.sig) → Buf (Elt Ideal) ℓ) : Prop :=
  ∀ c : Dev Cert.ClassificationIdeal.nD,
    (Cert.Pre_scored.fn (F := Ideal) (m ((c.tc : Thread Cert.ClassificationIdeal.nD Cert.ClassificationIdeal.τ).loc Cert.ClassificationIdeal.main_arg0)) (m ((c.tc : Thread Cert.ClassificationIdeal.nD Cert.ClassificationIdeal.τ).loc Cert.ClassificationIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boxes [hKernelIdeal : Cert.KernelIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boxes [hReferenceIdeal : Cert.ReferenceIdeal.Facts] [hPre_boxes : Cert.Pre_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mine [hMine : Cert.Mine.Facts] : Prop :=
  ∀ (m : (ℓ : Loc Cert.Mine.nD Cert.Mine.τ Cert.Mine.sig) → Buf (Elt Bits) ℓ) (g : Dev Cert.Mine.nD → PrngReg), Pre_Mine m →
    θ_run (Cert.Mine.defs (F := Bits)) (onTc (τ := Cert.Mine.τ) (Cert.Mine.main (F := Bits))) ⟨m, fun _ => 0, g⟩ (fun r => (∀ c : Dev Cert.Mine.nD,
      r.2.mem ((c.tc : Thread Cert.Mine.nD Cert.Mine.τ).loc Cert.Mine.main_arg0) = m ((c.tc : Thread Cert.Mine.nD Cert.Mine.τ).loc Cert.Mine.main_arg0)
      ∧ r.2.mem ((c.tc : Thread Cert.Mine.nD Cert.Mine.τ).loc Cert.Mine.main_arg1) = m ((c.tc : Thread Cert.Mine.nD Cert.Mine.τ).loc Cert.Mine.main_arg1))
      ∧ r.2.sem = fun _ => 0)

def quiescent_MiningIdeal [hMiningIdeal : Cert.MiningIdeal.Facts] : Prop :=
  ∀ (m : (ℓ : Loc Cert.MiningIdeal.nD Cert.MiningIdeal.τ Cert.MiningIdeal.sig) → Buf (Elt Ideal) ℓ) (g : Dev Cert.MiningIdeal.nD → PrngReg), Pre_MiningIdeal m →
    θ_run (Cert.MiningIdeal.defs (F := Ideal)) (onTc (τ := Cert.MiningIdeal.τ) (Cert.MiningIdeal.main (F := Ideal))) ⟨m, fun _ => 0, g⟩ (fun r => (∀ c : Dev Cert.MiningIdeal.nD,
      r.2.mem ((c.tc : Thread Cert.MiningIdeal.nD Cert.MiningIdeal.τ).loc Cert.MiningIdeal.main_arg0) = m ((c.tc : Thread Cert.MiningIdeal.nD Cert.MiningIdeal.τ).loc Cert.MiningIdeal.main_arg0)
      ∧ r.2.mem ((c.tc : Thread Cert.MiningIdeal.nD Cert.MiningIdeal.τ).loc Cert.MiningIdeal.main_arg1) = m ((c.tc : Thread Cert.MiningIdeal.nD Cert.MiningIdeal.τ).loc Cert.MiningIdeal.main_arg1))
      ∧ r.2.sem = fun _ => 0)

def quiescent_MiningIdeal_pre_scored [hMiningIdeal : Cert.MiningIdeal.Facts] [hPre_scored : Cert.Pre_scored.Facts] : Prop :=
  ∀ (m : (ℓ : Loc Cert.MiningIdeal.nD Cert.MiningIdeal.τ Cert.MiningIdeal.sig) → Buf (Elt Ideal) ℓ) (g : Dev Cert.MiningIdeal.nD → PrngReg), Pre_MiningIdeal_scored m →
    θ_run (Cert.MiningIdeal.defs (F := Ideal)) (onTc (τ := Cert.MiningIdeal.τ) (Cert.MiningIdeal.main (F := Ideal))) ⟨m, fun _ => 0, g⟩ (fun r => (∀ c : Dev Cert.MiningIdeal.nD,
      r.2.mem ((c.tc : Thread Cert.MiningIdeal.nD Cert.MiningIdeal.τ).loc Cert.MiningIdeal.main_arg0) = m ((c.tc : Thread Cert.MiningIdeal.nD Cert.MiningIdeal.τ).loc Cert.MiningIdeal.main_arg0)
      ∧ r.2.mem ((c.tc : Thread Cert.MiningIdeal.nD Cert.MiningIdeal.τ).loc Cert.MiningIdeal.main_arg1) = m ((c.tc : Thread Cert.MiningIdeal.nD Cert.MiningIdeal.τ).loc Cert.MiningIdeal.main_arg1))
      ∧ r.2.sem = fun _ => 0)

def quiescent_ClassificationIdeal [hClassificationIdeal : Cert.ClassificationIdeal.Facts] : Prop :=
  ∀ (m : (ℓ : Loc Cert.ClassificationIdeal.nD Cert.ClassificationIdeal.τ Cert.ClassificationIdeal.sig) → Buf (Elt Ideal) ℓ) (g : Dev Cert.ClassificationIdeal.nD → PrngReg), Pre_ClassificationIdeal m →
    θ_run (Cert.ClassificationIdeal.defs (F := Ideal)) (onTc (τ := Cert.ClassificationIdeal.τ) (Cert.ClassificationIdeal.main (F := Ideal))) ⟨m, fun _ => 0, g⟩ (fun r => (∀ c : Dev Cert.ClassificationIdeal.nD,
      r.2.mem ((c.tc : Thread Cert.ClassificationIdeal.nD Cert.ClassificationIdeal.τ).loc Cert.ClassificationIdeal.main_arg0) = m ((c.tc : Thread Cert.ClassificationIdeal.nD Cert.ClassificationIdeal.τ).loc Cert.ClassificationIdeal.main_arg0)
      ∧ r.2.mem ((c.tc : Thread Cert.ClassificationIdeal.nD Cert.ClassificationIdeal.τ).loc Cert.ClassificationIdeal.main_arg1) = m ((c.tc : Thread Cert.ClassificationIdeal.nD Cert.ClassificationIdeal.τ).loc Cert.ClassificationIdeal.main_arg1))
      ∧ r.2.sem = fun _ => 0)

def quiescent_ClassificationIdeal_pre_scored [hClassificationIdeal : Cert.ClassificationIdeal.Facts] [hPre_scored : Cert.Pre_scored.Facts] : Prop :=
  ∀ (m : (ℓ : Loc Cert.ClassificationIdeal.nD Cert.ClassificationIdeal.τ Cert.ClassificationIdeal.sig) → Buf (Elt Ideal) ℓ) (g : Dev Cert.ClassificationIdeal.nD → PrngReg), Pre_ClassificationIdeal_scored m →
    θ_run (Cert.ClassificationIdeal.defs (F := Ideal)) (onTc (τ := Cert.ClassificationIdeal.τ) (Cert.ClassificationIdeal.main (F := Ideal))) ⟨m, fun _ => 0, g⟩ (fun r => (∀ c : Dev Cert.ClassificationIdeal.nD,
      r.2.mem ((c.tc : Thread Cert.ClassificationIdeal.nD Cert.ClassificationIdeal.τ).loc Cert.ClassificationIdeal.main_arg0) = m ((c.tc : Thread Cert.ClassificationIdeal.nD Cert.ClassificationIdeal.τ).loc Cert.ClassificationIdeal.main_arg0)
      ∧ r.2.mem ((c.tc : Thread Cert.ClassificationIdeal.nD Cert.ClassificationIdeal.τ).loc Cert.ClassificationIdeal.main_arg1) = m ((c.tc : Thread Cert.ClassificationIdeal.nD Cert.ClassificationIdeal.τ).loc Cert.ClassificationIdeal.main_arg1))
      ∧ r.2.sem = fun _ => 0)

def preserves_Kernel_KernelIdeal : Prop :=
  True

def algebraic_KernelIdeal_ReferenceIdeal_pre_boxes [hKernelIdeal : Cert.KernelIdeal.Facts] [hReferenceIdeal : Cert.ReferenceIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_MiningIdeal_ClassificationIdeal_pre_scored [hMiningIdeal : Cert.MiningIdeal.Facts] [hClassificationIdeal : Cert.ClassificationIdeal.Facts] [hPre_scored : Cert.Pre_scored.Facts] : Prop :=
  ∀ (m : (ℓ : Loc Cert.MiningIdeal.nD Cert.MiningIdeal.τ Cert.MiningIdeal.sig) → Buf (Elt Ideal) ℓ) (g : Dev Cert.MiningIdeal.nD → PrngReg)
    (m' : (ℓ : Loc Cert.ClassificationIdeal.nD Cert.ClassificationIdeal.τ Cert.ClassificationIdeal.sig) → Buf (Elt Ideal) ℓ) (g' : Dev Cert.ClassificationIdeal.nD → PrngReg), Pre_MiningIdeal_scored m →
    (∀ c : Dev Cert.MiningIdeal.nD,
      m' ((c.tc : Thread Cert.ClassificationIdeal.nD Cert.ClassificationIdeal.τ).loc Cert.ClassificationIdeal.main_arg0) = m ((c.tc : Thread Cert.MiningIdeal.nD Cert.MiningIdeal.τ).loc Cert.MiningIdeal.main_arg0)
      ∧ m' ((c.tc : Thread Cert.ClassificationIdeal.nD Cert.ClassificationIdeal.τ).loc Cert.ClassificationIdeal.main_arg1) = m ((c.tc : Thread Cert.MiningIdeal.nD Cert.MiningIdeal.τ).loc Cert.MiningIdeal.main_arg1)) →
    ∃ (v0 : (c : Dev Cert.MiningIdeal.nD) → Buf (Elt Ideal) ((c.tc : Thread Cert.MiningIdeal.nD Cert.MiningIdeal.τ).loc Cert.MiningIdeal.main_v3)),
      θ_run (Cert.MiningIdeal.defs (F := Ideal)) (onTc (τ := Cert.MiningIdeal.τ) (Cert.MiningIdeal.main (F := Ideal))) ⟨m, fun _ => 0, g⟩ (fun r => ∀ c : Dev Cert.MiningIdeal.nD,
          r.2.mem ((c.tc : Thread Cert.MiningIdeal.nD Cert.MiningIdeal.τ).loc Cert.MiningIdeal.main_v3) = v0 c
          ∧ r.2.mem ((c.tc : Thread Cert.MiningIdeal.nD Cert.MiningIdeal.τ).loc Cert.MiningIdeal.main_arg0) = m ((c.tc : Thread Cert.MiningIdeal.nD Cert.MiningIdeal.τ).loc Cert.MiningIdeal.main_arg0)
          ∧ r.2.mem ((c.tc : Thread Cert.MiningIdeal.nD Cert.MiningIdeal.τ).loc Cert.MiningIdeal.main_arg1) = m ((c.tc : Thread Cert.MiningIdeal.nD Cert.MiningIdeal.τ).loc Cert.MiningIdeal.main_arg1))
      ∧ θ_run (Cert.ClassificationIdeal.defs (F := Ideal)) (onTc (τ := Cert.ClassificationIdeal.τ) (Cert.ClassificationIdeal.main (F := Ideal))) ⟨m', fun _ => 0, g'⟩ (fun r => ∀ c : Dev Cert.ClassificationIdeal.nD,
          r.2.mem ((c.tc : Thread Cert.ClassificationIdeal.nD Cert.ClassificationIdeal.τ).loc Cert.ClassificationIdeal.main_v50) = v0 c
          ∧ r.2.mem ((c.tc : Thread Cert.ClassificationIdeal.nD Cert.ClassificationIdeal.τ).loc Cert.ClassificationIdeal.main_arg0) = m' ((c.tc : Thread Cert.ClassificationIdeal.nD Cert.ClassificationIdeal.τ).loc Cert.ClassificationIdeal.main_arg0)
          ∧ r.2.mem ((c.tc : Thread Cert.ClassificationIdeal.nD Cert.ClassificationIdeal.τ).loc Cert.ClassificationIdeal.main_arg1) = m' ((c.tc : Thread Cert.ClassificationIdeal.nD Cert.ClassificationIdeal.τ).loc Cert.ClassificationIdeal.main_arg1))

def Claim : Prop :=
  ∃ (hKernel : Cert.Kernel.Facts) (hKernelIdeal : Cert.KernelIdeal.Facts) (hReferenceIdeal : Cert.ReferenceIdeal.Facts) (hMine : Cert.Mine.Facts) (hMiningIdeal : Cert.MiningIdeal.Facts) (hClassificationIdeal : Cert.ClassificationIdeal.Facts) (hPre_boxes : Cert.Pre_boxes.Facts) (hPre_scored : Cert.Pre_scored.Facts),
    quiescent_Kernel (hKernel := hKernel)
    ∧ quiescent_KernelIdeal (hKernelIdeal := hKernelIdeal)
    ∧ quiescent_KernelIdeal_pre_boxes (hKernelIdeal := hKernelIdeal) (hPre_boxes := hPre_boxes)
    ∧ quiescent_ReferenceIdeal (hReferenceIdeal := hReferenceIdeal)
    ∧ quiescent_ReferenceIdeal_pre_boxes (hReferenceIdeal := hReferenceIdeal) (hPre_boxes := hPre_boxes)
    ∧ quiescent_Mine (hMine := hMine)
    ∧ quiescent_MiningIdeal (hMiningIdeal := hMiningIdeal)
    ∧ quiescent_MiningIdeal_pre_scored (hMiningIdeal := hMiningIdeal) (hPre_scored := hPre_scored)
    ∧ quiescent_ClassificationIdeal (hClassificationIdeal := hClassificationIdeal)
    ∧ quiescent_ClassificationIdeal_pre_scored (hClassificationIdeal := hClassificationIdeal) (hPre_scored := hPre_scored)
    ∧ preserves_Kernel_KernelIdeal
    ∧ algebraic_KernelIdeal_ReferenceIdeal_pre_boxes (hKernelIdeal := hKernelIdeal) (hReferenceIdeal := hReferenceIdeal) (hPre_boxes := hPre_boxes)
    ∧ algebraic_MiningIdeal_ClassificationIdeal_pre_scored (hMiningIdeal := hMiningIdeal) (hClassificationIdeal := hClassificationIdeal) (hPre_scored := hPre_scored)
-- ==== Pre_boxes.lean ====
abbrev S16x24564x4 : Shape := ⟨3, ![16, 24564, 4]⟩
abbrev S16x20x5 : Shape := ⟨3, ![16, 20, 5]⟩
abbrev S24564x4 : Shape := ⟨2, ![24564, 4]⟩
abbrev S2 : Shape := ⟨1, ![2]⟩
abbrev S16x20x1 : Shape := ⟨3, ![16, 20, 1]⟩
abbrev S16x20 : Shape := ⟨2, ![16, 20]⟩
abbrev S_ : Shape := ⟨0, ![]⟩
abbrev S24564x2 : Shape := ⟨2, ![24564, 2]⟩

class Facts : Prop where
  slices_S16x20x5_S16x20x1_0_0_0 : S16x20x5.Slices ![0, 0, 0] S16x20x1
  shapeCasts_S16x20x1_S16x20 : S16x20x1.ShapeCasts S16x20
  slices_S16x20x5_S16x20x1_0_0_1 : S16x20x5.Slices ![0, 0, 1] S16x20x1
  slices_S16x20x5_S16x20x1_0_0_2 : S16x20x5.Slices ![0, 0, 2] S16x20x1
  slices_S16x20x5_S16x20x1_0_0_3 : S16x20x5.Slices ![0, 0, 3] S16x20x1
  bcast_S_S16x20 : S_.BroadcastsInDim S16x20 (![] : Fin 0 → Fin S16x20.rank)
  reducesTo_S16x20_S_d0_1 : S16x20.ReducesTo [0, 1] S_
  h_S_ : 0 < S_.numel
  slices_S24564x4_S24564x2_0_2 : S24564x4.Slices ![0, 2] S24564x2
  bcast_S_S24564x2 : S_.BroadcastsInDim S24564x2 (![] : Fin 0 → Fin S24564x2.rank)
  reducesTo_S24564x2_S_d0_1 : S24564x2.ReducesTo [0, 1] S_

variable [Facts]

def fn_part1 {F : FTy → Type} [FloatOps F] (main_arg2 : FVec F S24564x4 .f32) (main_v16 : IVec S_ 1) (main_v18 : IVec S_ 1) : IVec S_ 1 :=
  let main_v19 : IVec S_ 1 := andi main_v16 main_v18
  let main_v20 : FVec F S24564x2 .f32 := (extractStridedSlice S24564x2 ![0, 2] · slices_S24564x4_S24564x2_0_2) main_arg2
  let main_cst_3 : FVec F S_ .f32 := constant S_ .f32 0x00000000#32
  let main_v21 : FVec F S24564x2 .f32 := broadcastInDim S24564x2 ![] bcast_S_S24564x2 main_cst_3
  let main_v22 : IVec S24564x2 1 := cmpf .ogt main_v20 main_v21
  let main_c_4 : IVec S_ 1 := constantI S_ 1 1#1
  let main_v23 : IVec S_ 1 := (fun x v => Host.reduce IntOp.andi x v reducesTo_S24564x2_S_d0_1 h_S_) main_v22 main_c_4
  let main_v24 : IVec S_ 1 := andi main_v19 main_v23
  main_v24

def fn {F : FTy → Type} [FloatOps F] (main_arg0 : FVec F S16x24564x4 .f32) (main_arg1 : FVec F S16x20x5 .f32) (main_arg2 : FVec F S24564x4 .f32) (main_arg3 : FVec F S2 .f32) : IVec S_ 1 :=
  let main_v0 : FVec F S16x20x1 .f32 := (extractStridedSlice S16x20x1 ![0, 0, 0] · slices_S16x20x5_S16x20x1_0_0_0) main_arg1
  let main_v1 : FVec F S16x20 .f32 := shapeCast S16x20 main_v0 shapeCasts_S16x20x1_S16x20
  let main_v2 : FVec F S16x20x1 .f32 := (extractStridedSlice S16x20x1 ![0, 0, 1] · slices_S16x20x5_S16x20x1_0_0_1) main_arg1
  let main_v3 : FVec F S16x20 .f32 := shapeCast S16x20 main_v2 shapeCasts_S16x20x1_S16x20
  let main_v4 : FVec F S16x20x1 .f32 := (extractStridedSlice S16x20x1 ![0, 0, 2] · slices_S16x20x5_S16x20x1_0_0_2) main_arg1
  let main_v5 : FVec F S16x20 .f32 := shapeCast S16x20 main_v4 shapeCasts_S16x20x1_S16x20
  let main_v6 : FVec F S16x20x1 .f32 := (extractStridedSlice S16x20x1 ![0, 0, 3] · slices_S16x20x5_S16x20x1_0_0_3) main_arg1
  let main_v7 : FVec F S16x20 .f32 := shapeCast S16x20 main_v6 shapeCasts_S16x20x1_S16x20
  let main_cst : FVec F S_ .f32 := constant S_ .f32 0xC2460000#32
  let main_v8 : FVec F S16x20 .f32 := broadcastInDim S16x20 ![] bcast_S_S16x20 main_cst
  let main_v9 : IVec S16x20 1 := cmpf .oge main_v1 main_v8
  let main_cst_0 : FVec F S_ .f32 := constant S_ .f32 0xC2460000#32
  let main_v10 : FVec F S16x20 .f32 := broadcastInDim S16x20 ![] bcast_S_S16x20 main_cst_0
  let main_v11 : IVec S16x20 1 := cmpf .oge main_v3 main_v10
  let main_v12 : IVec S16x20 1 := ori main_v9 main_v11
  let main_c : IVec S_ 1 := constantI S_ 1 1#1
  let main_v13 : IVec S_ 1 := (fun x v => Host.reduce IntOp.andi x v reducesTo_S16x20_S_d0_1 h_S_) main_v12 main_c
  let main_v14 : IVec S16x20 1 := cmpf .oge main_v5 main_v1
  let main_c_1 : IVec S_ 1 := constantI S_ 1 1#1
  let main_v15 : IVec S_ 1 := (fun x v => Host.reduce IntOp.andi x v reducesTo_S16x20_S_d0_1 h_S_) main_v14 main_c_1
  let main_v16 : IVec S_ 1 := andi main_v13 main_v15
  let main_v17 : IVec S16x20 1 := cmpf .oge main_v7 main_v3
  let main_c_2 : IVec S_ 1 := constantI S_ 1 1#1
  let main_v18 : IVec S_ 1 := (fun x v => Host.reduce IntOp.andi x v reducesTo_S16x20_S_d0_1 h_S_) main_v17 main_c_2
  fn_part1 (F := F) main_arg2 main_v16 main_v18
-- ==== Pre_scored.lean ====
abbrev S16x24564x81 : Shape := ⟨3, ![16, 24564, 81]⟩
abbrev S16x192x128 : Shape := ⟨3, ![16, 192, 128]⟩
abbrev S_ : Shape := ⟨0, ![]⟩
abbrev S16x24576 : Shape := ⟨2, ![16, 24576]⟩
abbrev S16x12 : Shape := ⟨2, ![16, 12]⟩

class Facts : Prop where
  bcast_S_S16x24564x81 : S_.BroadcastsInDim S16x24564x81 (![] : Fin 0 → Fin S16x24564x81.rank)
  reducesTo_S16x24564x81_S_d0_1_2 : S16x24564x81.ReducesTo [0, 1, 2] S_
  h_S_ : 0 < S_.numel
  bcast_S_S16x192x128 : S_.BroadcastsInDim S16x192x128 (![] : Fin 0 → Fin S16x192x128.rank)
  reducesTo_S16x192x128_S_d0_1_2 : S16x192x128.ReducesTo [0, 1, 2] S_
  shapeCasts_S16x192x128_S16x24576 : S16x192x128.ShapeCasts S16x24576
  slices_S16x24576_S16x12_0_24564 : S16x24576.Slices ![0, 24564] S16x12
  bcast_S_S16x12 : S_.BroadcastsInDim S16x12 (![] : Fin 0 → Fin S16x12.rank)
  reducesTo_S16x12_S_d0_1 : S16x12.ReducesTo [0, 1] S_

variable [Facts]

def fn_part1 {F : FTy → Type} [FloatOps F] (main_v11 : IVec S_ 1) (main_v15 : IVec S16x12 1) (main_c_5 : IVec S_ 1) : IVec S_ 1 :=
  let main_v16 : IVec S_ 1 := (fun x v => Host.reduce IntOp.andi x v reducesTo_S16x12_S_d0_1 h_S_) main_v15 main_c_5
  let main_v17 : IVec S_ 1 := andi main_v11 main_v16
  main_v17

def fn {F : FTy → Type} [FloatOps F] (main_arg0 : FVec F S16x24564x81 .f32) (main_arg1 : IVec S16x192x128 32) : IVec S_ 1 :=
  let main_v0 : FVec F S16x24564x81 .f32 := Host.absf main_arg0
  let main_cst : FVec F S_ .f32 := constant S_ .f32 0x7F800000#32
  let main_v1 : FVec F S16x24564x81 .f32 := broadcastInDim S16x24564x81 ![] bcast_S_S16x24564x81 main_cst
  let main_v2 : IVec S16x24564x81 1 := cmpf .olt main_v0 main_v1
  let main_c : IVec S_ 1 := constantI S_ 1 1#1
  let main_v3 : IVec S_ 1 := (fun x v => Host.reduce IntOp.andi x v reducesTo_S16x24564x81_S_d0_1_2 h_S_) main_v2 main_c
  let main_c_0 : IVec S_ 32 := constantI S_ 32 0#32
  let main_v4 : IVec S16x192x128 32 := broadcastInDim S16x192x128 ![] bcast_S_S16x192x128 main_c_0
  let main_v5 : IVec S16x192x128 1 := cmpi .sge main_arg1 main_v4
  let main_c_1 : IVec S_ 1 := constantI S_ 1 1#1
  let main_v6 : IVec S_ 1 := (fun x v => Host.reduce IntOp.andi x v reducesTo_S16x192x128_S_d0_1_2 h_S_) main_v5 main_c_1
  let main_v7 : IVec S_ 1 := andi main_v3 main_v6
  let main_c_2 : IVec S_ 32 := constantI S_ 32 80#32
  let main_v8 : IVec S16x192x128 32 := broadcastInDim S16x192x128 ![] bcast_S_S16x192x128 main_c_2
  let main_v9 : IVec S16x192x128 1 := cmpi .sle main_arg1 main_v8
  let main_c_3 : IVec S_ 1 := constantI S_ 1 1#1
  let main_v10 : IVec S_ 1 := (fun x v => Host.reduce IntOp.andi x v reducesTo_S16x192x128_S_d0_1_2 h_S_) main_v9 main_c_3
  let main_v11 : IVec S_ 1 := andi main_v7 main_v10
  let main_v12 : IVec S16x24576 32 := shapeCast S16x24576 main_arg1 shapeCasts_S16x192x128_S16x24576
  let main_v13 : IVec S16x12 32 := (extractStridedSlice S16x12 ![0, 24564] · slices_S16x24576_S16x12_0_24564) main_v12
  let main_c_4 : IVec S_ 32 := constantI S_ 32 0#32
  let main_v14 : IVec S16x12 32 := broadcastInDim S16x12 ![] bcast_S_S16x12 main_c_4
  let main_v15 : IVec S16x12 1 := cmpi .eq main_v13 main_v14
  let main_c_5 : IVec S_ 1 := constantI S_ 1 1#1
  fn_part1 (F := F) main_v11 main_v15 main_c_5
-- ==== Kernel.lean ====
abbrev S16x24564x4 : Shape := ⟨3, ![16, 24564, 4]⟩
abbrev S16x20x5 : Shape := ⟨3, ![16, 20, 5]⟩
abbrev S24564x4 : Shape := ⟨2, ![24564, 4]⟩
abbrev S2 : Shape := ⟨1, ![2]⟩
abbrev S4x1 : Shape := ⟨2, ![4, 1]⟩
abbrev S4x24564 : Shape := ⟨2, ![4, 24564]⟩
abbrev S4x12 : Shape := ⟨2, ![4, 12]⟩
abbrev S4x24576 : Shape := ⟨2, ![4, 24576]⟩
abbrev S4x192x128 : Shape := ⟨3, ![4, 192, 128]⟩
abbrev S16x4x24564 : Shape := ⟨3, ![16, 4, 24564]⟩
abbrev S_ : Shape := ⟨0, ![]⟩
abbrev S16x4x24576 : Shape := ⟨3, ![16, 4, 24576]⟩
abbrev S16x4x192x128 : Shape := ⟨4, ![16, 4, 192, 128]⟩
abbrev S16x192x128 : Shape := ⟨3, ![16, 192, 128]⟩
abbrev S16x1x128 : Shape := ⟨3, ![16, 1, 128]⟩
abbrev S1x20x5 : Shape := ⟨3, ![1, 20, 5]⟩
abbrev S1x4x192x128 : Shape := ⟨4, ![1, 4, 192, 128]⟩
abbrev S1x192x128 : Shape := ⟨3, ![1, 192, 128]⟩
abbrev S1x1x128 : Shape := ⟨3, ![1, 1, 128]⟩
abbrev S192x128 : Shape := ⟨2, ![192, 128]⟩
abbrev S1x1x1 : Shape := ⟨3, ![1, 1, 1]⟩
abbrev S1 : Shape := ⟨1, ![1]⟩
abbrev S1x1x192x128 : Shape := ⟨4, ![1, 1, 192, 128]⟩
abbrev S1x128 : Shape := ⟨2, ![1, 128]⟩

abbrev nBuf : Space → Nat
  | .hbm => 16
  | .vmem => 7
  | .smem => 3
  | _ => 0

abbrev bufTy : (tb : Table) → Fin (tcTables nBuf tb) → BufTy
  | .hbm, ⟨0, _⟩ => ⟨S16x24564x4, .f32⟩
  | .hbm, ⟨1, _⟩ => ⟨S16x20x5, .f32⟩
  | .hbm, ⟨2, _⟩ => ⟨S24564x4, .f32⟩
  | .hbm, ⟨3, _⟩ => ⟨S2, .f32⟩
  | .hbm, ⟨4, _⟩ => ⟨S4x1, .f32⟩
  | .hbm, ⟨5, _⟩ => ⟨S4x24564, .f32⟩
  | .hbm, ⟨6, _⟩ => ⟨S4x12, .f32⟩
  | .hbm, ⟨7, _⟩ => ⟨S4x24576, .f32⟩
  | .hbm, ⟨8, _⟩ => ⟨S4x192x128, .f32⟩
  | .hbm, ⟨9, _⟩ => ⟨S16x4x24564, .f32⟩
  | .hbm, ⟨10, _⟩ => ⟨S_, .i32⟩
  | .hbm, ⟨11, _⟩ => ⟨S_, .f32⟩
  | .hbm, ⟨12, _⟩ => ⟨S16x4x24576, .f32⟩
  | .hbm, ⟨13, _⟩ => ⟨S16x4x192x128, .f32⟩
  | .hbm, ⟨14, _⟩ => ⟨S16x192x128, .i32⟩
  | .hbm, ⟨15, _⟩ => ⟨S16x1x128, .f32⟩
  | .local _ .vmem, ⟨0, _⟩ => ⟨S4x192x128, .f32⟩
  | .local _ .vmem, ⟨1, _⟩ => ⟨S1x4x192x128, .f32⟩
  | .local _ .vmem, ⟨2, _⟩ => ⟨S1x4x192x128, .f32⟩
  | .local _ .vmem, ⟨3, _⟩ => ⟨S1x192x128, .i32⟩
  | .local _ .vmem, ⟨4, _⟩ => ⟨S1x192x128, .i32⟩
  | .local _ .vmem, ⟨5, _⟩ => ⟨S1x1x128, .f32⟩
  | .local _ .vmem, ⟨6, _⟩ => ⟨S1x1x128, .f32⟩
  | .local _ .smem, ⟨0, _⟩ => ⟨S1x20x5, .f32⟩
  | .local _ .smem, ⟨1, _⟩ => ⟨S1x20x5, .f32⟩
  | .local _ .smem, ⟨2, _⟩ => ⟨S2, .f32⟩
  | _, _ => ⟨S16x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x20x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x192x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x24564x4 : Shape := ⟨3, ![16, 24564, 4]⟩
abbrev S16x20x5 : Shape := ⟨3, ![16, 20, 5]⟩
abbrev S24564x4 : Shape := ⟨2, ![24564, 4]⟩
abbrev S2 : Shape := ⟨1, ![2]⟩
abbrev S16x20x4 : Shape := ⟨3, ![16, 20, 4]⟩
abbrev S16x20x1 : Shape := ⟨3, ![16, 20, 1]⟩
abbrev S16x20 : Shape := ⟨2, ![16, 20]⟩
abbrev S24564x2 : Shape := ⟨2, ![24564, 2]⟩
abbrev S_ : Shape := ⟨0, ![]⟩
abbrev S16x20x2 : Shape := ⟨3, ![16, 20, 2]⟩
abbrev S16x20x1x2 : Shape := ⟨4, ![16, 20, 1, 2]⟩
abbrev S1x24564x2 : Shape := ⟨3, ![1, 24564, 2]⟩
abbrev S1x1x24564x2 : Shape := ⟨4, ![1, 1, 24564, 2]⟩
abbrev S16x20x24564x2 : Shape := ⟨4, ![16, 20, 24564, 2]⟩
abbrev S16x20x24564x1 : Shape := ⟨4, ![16, 20, 24564, 1]⟩
abbrev S16x20x24564 : Shape := ⟨3, ![16, 20, 24564]⟩
abbrev S24564x1 : Shape := ⟨2, ![24564, 1]⟩
abbrev S24564 : Shape := ⟨1, ![24564]⟩
abbrev S1x24564 : Shape := ⟨2, ![1, 24564]⟩
abbrev S1x1x24564 : Shape := ⟨3, ![1, 1, 24564]⟩
abbrev S16x24564 : Shape := ⟨2, ![16, 24564]⟩
abbrev S20 : Shape := ⟨1, ![20]⟩
abbrev S20x1 : Shape := ⟨2, ![20, 1]⟩
abbrev S20x24564 : Shape := ⟨2, ![20, 24564]⟩
abbrev S16x24564x1 : Shape := ⟨3, ![16, 24564, 1]⟩
abbrev S16x24564x2 : Shape := ⟨3, ![16, 24564, 2]⟩
abbrev S1 : Shape := ⟨1, ![1]⟩
abbrev S16 : Shape := ⟨1, ![16]⟩
abbrev S16x24576 : Shape := ⟨2, ![16, 24576]⟩
abbrev S16x192x128 : Shape := ⟨3, ![16, 192, 128]⟩
abbrev S16x1 : Shape := ⟨2, ![16, 1]⟩
abbrev S16x2 : Shape := ⟨2, ![16, 2]⟩
abbrev S16x128 : Shape := ⟨2, ![16, 128]⟩
abbrev S16x1x128 : Shape := ⟨3, ![16, 1, 128]⟩

abbrev nBuf : Space → Nat
  | .hbm => 216
  | .vmem => 0
  | .smem => 0
  | _ => 0

abbrev hbmTy0_0 (i : Nat) : BufTy := match i % 128 with
  | 0 => ⟨S16x24564x4, .f32⟩
  | 1 => ⟨S16x20x5, .f32⟩
  | 2 => ⟨S24564x4, .f32⟩
  | 3 => ⟨S2, .f32⟩
  | 4 => ⟨S16x20x4, .f32⟩
  | 5 => ⟨S16x20x1, .f32⟩
  | 6 => ⟨S16x20, .f32⟩
  | 7 => ⟨S24564x2, .f32⟩
  | 8 => ⟨S24564x2, .f32⟩
  | 9 => ⟨S_, .f32⟩
  | 10 => ⟨S24564x2, .f32⟩
  | 11 => ⟨S24564x2, .f32⟩
  | 12 => ⟨S24564x2, .f32⟩
  | 13 => ⟨S24564x2, .f32⟩
  | 14 => ⟨S24564x2, .f32⟩
  | 15 => ⟨S_, .f32⟩
  | 16 => ⟨S24564x2, .f32⟩
  | 17 => ⟨S24564x2, .f32⟩
  | 18 => ⟨S24564x2, .f32⟩
  | 19 => ⟨S24564x4, .f32⟩
  | 20 => ⟨S16x20x2, .f32⟩
  | 21 => ⟨S16x20x1x2, .f32⟩
  | 22 => ⟨S24564x2, .f32⟩
  | 23 => ⟨S1x24564x2, .f32⟩
  | 24 => ⟨S1x1x24564x2, .f32⟩
  | 25 => ⟨S16x20x24564x2, .f32⟩
  | 26 => ⟨S16x20x24564x2, .f32⟩
  | 27 => ⟨S16x20x24564x2, .f32⟩
  | 28 => ⟨S16x20x2, .f32⟩
  | 29 => ⟨S16x20x1x2, .f32⟩
  | 30 => ⟨S24564x2, .f32⟩
  | 31 => ⟨S1x24564x2, .f32⟩
  | 32 => ⟨S1x1x24564x2, .f32⟩
  | 33 => ⟨S16x20x24564x2, .f32⟩
  | 34 => ⟨S16x20x24564x2, .f32⟩
  | 35 => ⟨S16x20x24564x2, .f32⟩
  | 36 => ⟨S16x20x24564x2, .f32⟩
  | 37 => ⟨S_, .f32⟩
  | 38 => ⟨S_, .f32⟩
  | 39 => ⟨S16x20x24564x2, .f32⟩
  | 40 => ⟨S16x20x24564x2, .f32⟩
  | 41 => ⟨S16x20x24564x1, .f32⟩
  | 42 => ⟨S16x20x24564, .f32⟩
  | 43 => ⟨S16x20x24564x1, .f32⟩
  | 44 => ⟨S16x20x24564, .f32⟩
  | 45 => ⟨S16x20x24564, .f32⟩
  | 46 => ⟨S16x20x1, .f32⟩
  | 47 => ⟨S16x20, .f32⟩
  | 48 => ⟨S16x20x1, .f32⟩
  | 49 => ⟨S16x20, .f32⟩
  | 50 => ⟨S16x20, .f32⟩
  | 51 => ⟨S16x20x1, .f32⟩
  | 52 => ⟨S16x20, .f32⟩
  | 53 => ⟨S16x20x1, .f32⟩
  | 54 => ⟨S16x20, .f32⟩
  | 55 => ⟨S16x20, .f32⟩
  | 56 => ⟨S16x20, .f32⟩
  | 57 => ⟨S16x20x1, .f32⟩
  | 58 => ⟨S24564x1, .f32⟩
  | 59 => ⟨S24564, .f32⟩
  | 60 => ⟨S24564x1, .f32⟩
  | 61 => ⟨S24564, .f32⟩
  | 62 => ⟨S24564, .f32⟩
  | 63 => ⟨S24564x1, .f32⟩
  | 64 => ⟨S24564, .f32⟩
  | 65 => ⟨S24564x1, .f32⟩
  | 66 => ⟨S24564, .f32⟩
  | 67 => ⟨S24564, .f32⟩
  | 68 => ⟨S24564, .f32⟩
  | 69 => ⟨S1x24564, .f32⟩
  | 70 => ⟨S1x1x24564, .f32⟩
  | 71 => ⟨S16x20x24564, .f32⟩
  | 72 => ⟨S16x20x24564, .f32⟩
  | 73 => ⟨S16x20x24564, .f32⟩
  | 74 => ⟨S16x20x24564, .f32⟩
  | 75 => ⟨S16x20x24564, .f32⟩
  | 76 => ⟨S16x20x24564, .i32⟩
  | 77 => ⟨S_, .f32⟩
  | 78 => ⟨S_, .i32⟩
  | 79 => ⟨S16x20, .f32⟩
  | 80 => ⟨S16x20, .i32⟩
  | 81 => ⟨S_, .f32⟩
  | 82 => ⟨S16x24564, .f32⟩
  | 83 => ⟨S16x20x24564, .i32⟩
  | 84 => ⟨S_, .f32⟩
  | 85 => ⟨S_, .i32⟩
  | 86 => ⟨S16x24564, .f32⟩
  | 87 => ⟨S16x24564, .i32⟩
  | 88 => ⟨S16x20x1, .i32⟩
  | 89 => ⟨S24564, .i32⟩
  | 90 => ⟨S1x24564, .i32⟩
  | 91 => ⟨S1x1x24564, .i32⟩
  | 92 => ⟨S16x20x24564, .i32⟩
  | 93 => ⟨S16x20x24564, .i32⟩
  | 94 => ⟨S16x20x24564, .i1⟩
  | 95 => ⟨S20, .i32⟩
  | 96 => ⟨S20x1, .i32⟩
  | 97 => ⟨S_, .i32⟩
  | 98 => ⟨S_, .i32⟩
  | 99 => ⟨S20x24564, .i32⟩
  | 100 => ⟨S20x24564, .i32⟩
  | 101 => ⟨S16x20x24564, .i32⟩
  | 102 => ⟨S16x20x24564, .i32⟩
  | 103 => ⟨S16x20x24564, .i32⟩
  | 104 => ⟨S_, .i32⟩
  | 105 => ⟨S16x24564, .i32⟩
  | 106 => ⟨S_, .i32⟩
  | 107 => ⟨S16x24564, .i32⟩
  | 108 => ⟨S16x24564, .i1⟩
  | 109 => ⟨S_, .f32⟩
  | 110 => ⟨S_, .f32⟩
  | 111 => ⟨S24564, .f32⟩
  | 112 => ⟨S16x24564, .f32⟩
  | 113 => ⟨S16x24564, .f32⟩
  | 114 => ⟨S_, .i32⟩
  | 115 => ⟨S16x24564, .i32⟩
  | 116 => ⟨S16x24564, .i1⟩
  | 117 => ⟨S16x24564, .i32⟩
  | 118 => ⟨S_, .i32⟩
  | 119 => ⟨S16x24564, .i32⟩
  | 120 => ⟨S16x24564, .i1⟩
  | 121 => ⟨S_, .i32⟩
  | 122 => ⟨S16x24564, .i32⟩
  | 123 => ⟨S16x24564, .i32⟩
  | 124 => ⟨S16x24564, .i32⟩
  | 125 => ⟨S16x24564x1, .i32⟩
  | 126 => ⟨S16x24564x4, .f32⟩
  | 127 => ⟨S_, .i32⟩
  | _ => ⟨S16x24564x4, .f32⟩

abbrev hbmTy0_1 (i : Nat) : BufTy := match i % 128 with
  | 0 => ⟨S16x24564, .i32⟩
  | 1 => ⟨S16x24564, .i1⟩
  | 2 => ⟨S_, .i32⟩
  | 3 => ⟨S16x24564, .i32⟩
  | 4 => ⟨S16x24564, .i32⟩
  | 5 => ⟨S16x24564, .i32⟩
  | 6 => ⟨S16x24564x1, .i32⟩
  | 7 => ⟨S16x24564, .f32⟩
  | 8 => ⟨S16x24564, .i32⟩
  | 9 => ⟨S_, .i32⟩
  | 10 => ⟨S16x24564, .i32⟩
  | 11 => ⟨S16x24564, .i32⟩
  | 12 => ⟨S_, .f32⟩
  | 13 => ⟨S16x24564, .f32⟩
  | 14 => ⟨S16x24564, .i1⟩
  | 15 => ⟨S_, .i32⟩
  | 16 => ⟨S_, .i32⟩
  | 17 => ⟨S24564, .i32⟩
  | 18 => ⟨S16x24564, .i32⟩
  | 19 => ⟨S16x24564, .i32⟩
  | 20 => ⟨S16x24564x2, .f32⟩
  | 21 => ⟨S16x24564x2, .f32⟩
  | 22 => ⟨S16x24564x2, .f32⟩
  | 23 => ⟨S_, .f32⟩
  | 24 => ⟨S16x24564x2, .f32⟩
  | 25 => ⟨S16x24564x2, .f32⟩
  | 26 => ⟨S24564x2, .f32⟩
  | 27 => ⟨S1x24564x2, .f32⟩
  | 28 => ⟨S16x24564x2, .f32⟩
  | 29 => ⟨S16x24564x2, .f32⟩
  | 30 => ⟨S1, .f32⟩
  | 31 => ⟨S_, .f32⟩
  | 32 => ⟨S24564x2, .f32⟩
  | 33 => ⟨S24564x2, .f32⟩
  | 34 => ⟨S24564x2, .f32⟩
  | 35 => ⟨S1x24564x2, .f32⟩
  | 36 => ⟨S16x24564x2, .f32⟩
  | 37 => ⟨S16x24564x2, .f32⟩
  | 38 => ⟨S16x24564x2, .f32⟩
  | 39 => ⟨S16x24564x2, .f32⟩
  | 40 => ⟨S16x24564x2, .f32⟩
  | 41 => ⟨S24564x2, .f32⟩
  | 42 => ⟨S1x24564x2, .f32⟩
  | 43 => ⟨S16x24564x2, .f32⟩
  | 44 => ⟨S16x24564x2, .f32⟩
  | 45 => ⟨S16x24564x2, .f32⟩
  | 46 => ⟨S1, .f32⟩
  | 47 => ⟨S_, .f32⟩
  | 48 => ⟨S16x24564x2, .f32⟩
  | 49 => ⟨S16x24564x2, .f32⟩
  | 50 => ⟨S16x24564x4, .f32⟩
  | 51 => ⟨S_, .i32⟩
  | 52 => ⟨S16x24564, .i32⟩
  | 53 => ⟨S16x24564, .i1⟩
  | 54 => ⟨S16x24564x4, .f32⟩
  | 55 => ⟨S16x24564x4, .f32⟩
  | 56 => ⟨S_, .f32⟩
  | 57 => ⟨S16x24564x4, .f32⟩
  | 58 => ⟨S16x24564x4, .i1⟩
  | 59 => ⟨S_, .f32⟩
  | 60 => ⟨S16x24564x4, .f32⟩
  | 61 => ⟨S16x24564x4, .f32⟩
  | 62 => ⟨S16x24564x4, .f32⟩
  | 63 => ⟨S_, .f32⟩
  | 64 => ⟨S16x24564x4, .f32⟩
  | 65 => ⟨S16x24564x4, .f32⟩
  | 66 => ⟨S16x24564x4, .f32⟩
  | 67 => ⟨S16x24564x1, .i1⟩
  | 68 => ⟨S16x24564x1, .f32⟩
  | 69 => ⟨S16x24564x4, .f32⟩
  | 70 => ⟨S16x24564x4, .f32⟩
  | 71 => ⟨S_, .f32⟩
  | 72 => ⟨S16, .f32⟩
  | 73 => ⟨S16x24564, .i32⟩
  | 74 => ⟨S_, .i32⟩
  | 75 => ⟨S16, .i32⟩
  | 76 => ⟨S_, .i32⟩
  | 77 => ⟨S_, .i32⟩
  | 78 => ⟨S16x24576, .i32⟩
  | 79 => ⟨S16x192x128, .i32⟩
  | 80 => ⟨S16, .f32⟩
  | 81 => ⟨S16x1, .f32⟩
  | 82 => ⟨S16x1, .f32⟩
  | 83 => ⟨S16x2, .f32⟩
  | 84 => ⟨S_, .i32⟩
  | 85 => ⟨S_, .f32⟩
  | 86 => ⟨S16x128, .f32⟩
  | 87 => ⟨S16x1x128, .f32⟩
  | _ => ⟨S16x24564x4, .f32⟩

abbrev hbmTy (i : Nat) : BufTy := match i / 128 with
  | 0 => hbmTy0_0 i
  | 1 => hbmTy0_1 i
  | _ => ⟨S16x24564x4, .f32⟩

abbrev bufTy : (tb : Table) → Fin (tcTables nBuf tb) → BufTy
  | .hbm, ⟨i, _⟩ => hbmTy i
  | _, _ => ⟨S16x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_call1_v0 : Ref sig .tc := ⟨.hbm, 76, rfl⟩
abbrev main_call1_cst : Ref sig .tc := ⟨.hbm, 77, rfl⟩
abbrev main_call1_c : Ref sig .tc := ⟨.hbm, 78, rfl⟩
abbrev main_call1_v1_0 : Ref sig .tc := ⟨.hbm, 79, rfl⟩
abbrev main_v67 : Ref sig .tc := ⟨.hbm, 80, rfl⟩
abbrev main_cst_2 : Ref sig .tc := ⟨.hbm, 81, rfl⟩
abbrev main_v68 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v79 : Ref sig .tc := ⟨.hbm, 103, rfl⟩
abbrev main_c_3 : Ref sig .tc := ⟨.hbm, 104, rfl⟩
abbrev main_v80 : Ref sig .tc := ⟨.hbm, 105, rfl⟩
abbrev main_c_4 : Ref sig .tc := ⟨.hbm, 106, rfl⟩
abbrev main_v81 : Ref sig .tc := ⟨.hbm, 107, rfl⟩
abbrev main_v82 : Ref sig .tc := ⟨.hbm, 108, rfl⟩
abbrev main_cst_5 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v83 : Ref sig .tc := ⟨.hbm, 113, rfl⟩
abbrev main_c_6 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_7 : Ref sig .tc := ⟨.hbm, 118, rfl⟩
abbrev main_v87 : Ref sig .tc := ⟨.hbm, 119, rfl⟩
abbrev main_v88 : Ref sig .tc := ⟨.hbm, 120, rfl⟩
abbrev main_c_8 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_9 : Ref sig .tc := ⟨.hbm, 127, rfl⟩
abbrev main_v94 : Ref sig .tc := ⟨.hbm, 128, rfl⟩
abbrev main_v95 : Ref sig .tc := ⟨.hbm, 129, rfl⟩
abbrev main_c_10 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_11 : Ref sig .tc := ⟨.hbm, 137, rfl⟩
abbrev main_v102 : Ref sig .tc := ⟨.hbm, 138, rfl⟩
abbrev main_v103 : Ref sig .tc := ⟨.hbm, 139, rfl⟩
abbrev main_cst_12 : Ref sig .tc := ⟨.hbm, 140, rfl⟩
abbrev main_v104 : Ref sig .tc := ⟨.hbm, 141, rfl⟩
abbrev main_v105 : Ref sig .tc := ⟨.hbm, 142, rfl⟩
abbrev main_c_13 : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_14 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_15 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_16 : Ref sig .tc := ⟨.hbm, 184, rfl⟩
abbrev main_v141 : Ref sig .tc := ⟨.hbm, 185, rfl⟩
abbrev main_v142 : Ref sig .tc := ⟨.hbm, 186, rfl⟩
abbrev main_cst_17 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_18 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_19 : Ref sig .tc := ⟨.hbm, 199, rfl⟩
abbrev main_v153 : Ref sig .tc := ⟨.hbm, 200, rfl⟩
abbrev main_v154 : Ref sig .tc := ⟨.hbm, 201, rfl⟩
abbrev main_c_20 : Ref sig .tc := ⟨.hbm, 202, rfl⟩
abbrev main_v155 : Ref sig .tc := ⟨.hbm, 203, rfl⟩
abbrev main_c_21 : Ref sig .tc := ⟨.hbm, 204, rfl⟩
abbrev main_call8_v0 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_22 : Ref sig .tc := ⟨.hbm, 212, rfl⟩
abbrev main_call9_v0 : Ref sig .tc := ⟨.hbm, 213, rfl⟩
abbrev main_v162 : Ref sig .tc := ⟨.hbm, 214, rfl⟩
abbrev main_v163 : Ref sig .tc := ⟨.hbm, 215, rfl⟩

abbrev nD : Nat := 1
abbrev τ : Topo := Topo.v7x

variable {F : FTy → Type} [FloatOps F]
-- ==== Mine.lean ====
abbrev S16x24564x81 : Shape := ⟨3, ![16, 24564, 81]⟩
abbrev S16x192x128 : Shape := ⟨3, ![16, 192, 128]⟩
abbrev S16x3x8192 : Shape := ⟨3, ![16, 3, 8192]⟩
abbrev S_ : Shape := ⟨0, ![]⟩
abbrev S16x8x8192 : Shape := ⟨3, ![16, 8, 8192]⟩
abbrev S16x1x128 : Shape := ⟨3, ![16, 1, 128]⟩
abbrev S1x8192x81 : Shape := ⟨3, ![1, 8192, 81]⟩
abbrev S1x8x8192 : Shape := ⟨3, ![1, 8, 8192]⟩
abbrev S1x1x128 : Shape := ⟨3, ![1, 1, 128]⟩
abbrev S24x8192 : Shape := ⟨2, ![24, 8192]⟩
abbrev S8192x81 : Shape := ⟨2, ![8192, 81]⟩
abbrev S1x1x8192 : Shape := ⟨3, ![1, 1, 8192]⟩
abbrev S1x8192 : Shape := ⟨2, ![1, 8192]⟩
abbrev S8192x1 : Shape := ⟨2, ![8192, 1]⟩
abbrev S8192 : Shape := ⟨1, ![8192]⟩
abbrev S1x81 : Shape := ⟨2, ![1, 81]⟩
abbrev S81 : Shape := ⟨1, ![81]⟩
abbrev S8192x3 : Shape := ⟨2, ![8192, 3]⟩
abbrev S3x8192 : Shape := ⟨2, ![3, 8192]⟩
abbrev S6x8192 : Shape := ⟨2, ![6, 8192]⟩
abbrev S1x6x8192 : Shape := ⟨3, ![1, 6, 8192]⟩
abbrev S1 : Shape := ⟨1, ![1]⟩
abbrev S1x1x1 : Shape := ⟨3, ![1, 1, 1]⟩
abbrev S1x128 : Shape := ⟨2, ![1, 128]⟩

abbrev nBuf : Space → Nat
  | .hbm => 8
  | .vmem => 7
  | .smem => 0
  | _ => 0

abbrev bufTy : (tb : Table) → Fin (tcTables nBuf tb) → BufTy
  | .hbm, ⟨0, _⟩ => ⟨S16x24564x81, .f32⟩
  | .hbm, ⟨1, _⟩ => ⟨S16x192x128, .i32⟩
  | .hbm, ⟨2, _⟩ => ⟨S16x3x8192, .i32⟩
  | .hbm, ⟨3, _⟩ => ⟨S16x3x8192, .i8⟩
  | .hbm, ⟨4, _⟩ => ⟨S_, .i32⟩
  | .hbm, ⟨5, _⟩ => ⟨S_, .i8⟩
  | .hbm, ⟨6, _⟩ => ⟨S16x8x8192, .i8⟩
  | .hbm, ⟨7, _⟩ => ⟨S16x1x128, .f32⟩
  | .local _ .vmem, ⟨0, _⟩ => ⟨S1x8192x81, .f32⟩
  | .local _ .vmem, ⟨1, _⟩ => ⟨S1x8192x81, .f32⟩
  | .local _ .vmem, ⟨2, _⟩ => ⟨S1x8x8192, .i8⟩
  | .local _ .vmem, ⟨3, _⟩ => ⟨S1x8x8192, .i8⟩
  | .local _ .vmem, ⟨4, _⟩ => ⟨S1x1x128, .f32⟩
  | .local _ .vmem, ⟨5, _⟩ => ⟨S1x1x128, .f32⟩
  | .local _ .vmem, ⟨6, _⟩ => ⟨S24x8192, .f32⟩
  | _, _ => ⟨S16x24564x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![16, 3], ![false, false]⟩

def k0_cond4 (i : grid0.Coords) : BitVec 1 :=
  let arg1 : BitVec 32 := BitVec.ofNat 32 (i 1).val
  let c2_i32_3 : BitVec 32 := 2#32
  let v9 : BitVec 1 := Scalar.cmpi .eq arg1 c2_i32_3
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_16 : BitVec 32 := 0#32
  let c31_i32 : BitVec 32 := 31#32
  let v48 : BitVec 32 := Scalar.addi c0_i32_16 c31_i32
  let c1_i32_17 : BitVec 32 := 1#32
  ⟨c0_i32_16, v48, c1_i32_17⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MiningIdeal.lean ====
abbrev S16x24564x81 : Shape := ⟨3, ![16, 24564, 81]⟩
abbrev S16x192x128 : Shape := ⟨3, ![16, 192, 128]⟩
abbrev S16x3x8192 : Shape := ⟨3, ![16, 3, 8192]⟩
abbrev S_ : Shape := ⟨0, ![]⟩
abbrev S16x8x8192 : Shape := ⟨3, ![16, 8, 8192]⟩
abbrev S16x1x128 : Shape := ⟨3, ![16, 1, 128]⟩
abbrev S1x8192x81 : Shape := ⟨3, ![1, 8192, 81]⟩
abbrev S1x8x8192 : Shape := ⟨3, ![1, 8, 8192]⟩
abbrev S1x1x128 : Shape := ⟨3, ![1, 1, 128]⟩
abbrev S24x8192 : Shape := ⟨2, ![24, 8192]⟩
abbrev S8192x81 : Shape := ⟨2, ![8192, 81]⟩
abbrev S1x1x8192 : Shape := ⟨3, ![1, 1, 8192]⟩
abbrev S1x8192 : Shape := ⟨2, ![1, 8192]⟩
abbrev S8192x1 : Shape := ⟨2, ![8192, 1]⟩
abbrev S8192 : Shape := ⟨1, ![8192]⟩
abbrev S1x81 : Shape := ⟨2, ![1, 81]⟩
abbrev S81 : Shape := ⟨1, ![81]⟩
abbrev S8192x3 : Shape := ⟨2, ![8192, 3]⟩
abbrev S3x8192 : Shape := ⟨2, ![3, 8192]⟩
abbrev S6x8192 : Shape := ⟨2, ![6, 8192]⟩
abbrev S1x6x8192 : Shape := ⟨3, ![1, 6, 8192]⟩
abbrev S1 : Shape := ⟨1, ![1]⟩
abbrev S1x1x1 : Shape := ⟨3, ![1, 1, 1]⟩
abbrev S1x128 : Shape := ⟨2, ![1, 128]⟩

abbrev nBuf : Space → Nat
  | .hbm => 8
  | .vmem => 7
  | .smem => 0
  | _ => 0

abbrev bufTy : (tb : Table) → Fin (tcTables nBuf tb) → BufTy
  | .hbm, ⟨0, _⟩ => ⟨S16x24564x81, .f32⟩
  | .hbm, ⟨1, _⟩ => ⟨S16x192x128, .i32⟩
  | .hbm, ⟨2, _⟩ => ⟨S16x3x8192, .i32⟩
  | .hbm, ⟨3, _⟩ => ⟨S16x3x8192, .i8⟩
  | .hbm, ⟨4, _⟩ => ⟨S_, .i32⟩
  | .hbm, ⟨5, _⟩ => ⟨S_, .i8⟩
  | .hbm, ⟨6, _⟩ => ⟨S16x8x8192, .i8⟩
  | .hbm, ⟨7, _⟩ => ⟨S16x1x128, .f32⟩
  | .local _ .vmem, ⟨0, _⟩ => ⟨S1x8192x81, .f32⟩
  | .local _ .vmem, ⟨1, _⟩ => ⟨S1x8192x81, .f32⟩
  | .local _ .vmem, ⟨2, _⟩ => ⟨S1x8x8192, .i8⟩
  | .local _ .vmem, ⟨3, _⟩ => ⟨S1x8x8192, .i8⟩
  | .local _ .vmem, ⟨4, _⟩ => ⟨S1x1x128, .f32⟩
  | .local _ .vmem, ⟨5, _⟩ => ⟨S1x1x128, .f32⟩
  | .local _ .vmem, ⟨6, _⟩ => ⟨S24x8192, .f32⟩
  | _, _ => ⟨S16x24564x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def k0_cond4 (i : grid0.Coords) : BitVec 1 :=
  let arg1 : BitVec 32 := BitVec.ofNat 32 (i 1).val
  let c2_i32_3 : BitVec 32 := 2#32
  let v9 : BitVec 1 := Scalar.cmpi .eq arg1 c2_i32_3
  let v10 : BitVec 32 := Scalar.extui v9
  let c0_i32_4 : BitVec 32 := 0#32
  let v11 : BitVec 1 := Scalar.cmpi .ne v10 c0_i32_4
  v11

@[reducible] def k0_t1_loop : Scf.Loop 32 :=
  let c0_i32_17 : BitVec 32 := 0#32
  let c49152_i32 : BitVec 32 := 49152#32
  let v47 : BitVec 32 := Scalar.addi c0_i32_17 c49152_i32
  let c1_i32_18 : BitVec 32 := 1#32
  ⟨c0_i32_17, v47, c1_i32_18⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ClassificationIdeal.lean ====
abbrev S16x24564x81 : Shape := ⟨3, ![16, 24564, 81]⟩
abbrev S16x192x128 : Shape := ⟨3, ![16, 192, 128]⟩
abbrev S16x24576 : Shape := ⟨2, ![16, 24576]⟩
abbrev S16x24564 : Shape := ⟨2, ![16, 24564]⟩
abbrev S_ : Shape := ⟨0, ![]⟩
abbrev S16x24564x1 : Shape := ⟨3, ![16, 24564, 1]⟩
abbrev S16x24564x1x1 : Shape := ⟨4, ![16, 24564, 1, 1]⟩
abbrev S1 : Shape := ⟨1, ![1]⟩
abbrev S1x1x1x1 : Shape := ⟨4, ![1, 1, 1, 1]⟩
abbrev S16 : Shape := ⟨1, ![16]⟩
abbrev S16x1 : Shape := ⟨2, ![16, 1]⟩
abbrev S16x2 : Shape := ⟨2, ![16, 2]⟩
abbrev S16x128 : Shape := ⟨2, ![16, 128]⟩
abbrev S16x1x128 : Shape := ⟨3, ![16, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S16x24564x81, .f32⟩
  | .hbm, ⟨1, _⟩ => ⟨S16x192x128, .i32⟩
  | .hbm, ⟨2, _⟩ => ⟨S16x24576, .i32⟩
  | .hbm, ⟨3, _⟩ => ⟨S16x24564, .i32⟩
  | .hbm, ⟨4, _⟩ => ⟨S_, .i32⟩
  | .hbm, ⟨5, _⟩ => ⟨S16x24564, .i32⟩
  | .hbm, ⟨6, _⟩ => ⟨S16x24564, .i1⟩
  | .hbm, ⟨7, _⟩ => ⟨S_, .f32⟩
  | .hbm, ⟨8, _⟩ => ⟨S_, .f32⟩
  | .hbm, ⟨9, _⟩ => ⟨S16x24564x81, .f32⟩
  | .hbm, ⟨10, _⟩ => ⟨S16x24564x81, .f32⟩
  | .hbm, ⟨11, _⟩ => ⟨S16x24564x81, .f32⟩
  | .hbm, ⟨12, _⟩ => ⟨S_, .f32⟩
  | .hbm, ⟨13, _⟩ => ⟨S16x24564, .f32⟩
  | .hbm, ⟨14, _⟩ => ⟨S16x24564, .f32⟩
  | .hbm, ⟨15, _⟩ => ⟨S16x24564, .f32⟩
  | .hbm, ⟨16, _⟩ => ⟨S16x24564, .f32⟩
  | .hbm, ⟨17, _⟩ => ⟨S16x24564x1, .i32⟩
  | .hbm, ⟨18, _⟩ => ⟨S_, .i32⟩
  | .hbm, ⟨19, _⟩ => ⟨S16x24564x1, .i32⟩
  | .hbm, ⟨20, _⟩ => ⟨S16x24564x1, .i1⟩
  | .hbm, ⟨21, _⟩ => ⟨S_, .i32⟩
  | .hbm, ⟨22, _⟩ => ⟨S16x24564x1, .i32⟩
  | .hbm, ⟨23, _⟩ => ⟨S16x24564x1, .i32⟩
  | .hbm, ⟨24, _⟩ => ⟨S16x24564x1, .i32⟩
  | .hbm, ⟨25, _⟩ => ⟨S16x24564x1x1, .i32⟩
  | .hbm, ⟨26, _⟩ => ⟨S1, .i32⟩
  | .hbm, ⟨27, _⟩ => ⟨S_, .i32⟩
  | .hbm, ⟨28, _⟩ => ⟨S16x24564x1x1, .i32⟩
  | .hbm, ⟨29, _⟩ => ⟨S16x24564x1x1, .i1⟩
  | .hbm, ⟨30, _⟩ => ⟨S1x1x1x1, .i32⟩
  | .hbm, ⟨31, _⟩ => ⟨S16x24564x1x1, .i32⟩
  | .hbm, ⟨32, _⟩ => ⟨S16x24564x1x1, .i1⟩
  | .hbm, ⟨33, _⟩ => ⟨S16x24564x1x1, .i1⟩
  | .hbm, ⟨34, _⟩ => ⟨S_, .i1⟩
  | .hbm, ⟨35, _⟩ => ⟨S16x24564x1, .i1⟩
  | .hbm, ⟨36, _⟩ => ⟨S16x24564x1, .f32⟩
  | .hbm, ⟨37, _⟩ => ⟨S_, .f32⟩
  | .hbm, ⟨38, _⟩ => ⟨S16x24564x1, .f32⟩
  | .hbm, ⟨39, _⟩ => ⟨S16x24564x1, .f32⟩
  | .hbm, ⟨40, _⟩ => ⟨S16x24564, .f32⟩
  | .hbm, ⟨41, _⟩ => ⟨S16x24564, .f32⟩
  | .hbm, ⟨42, _⟩ => ⟨S_, .f32⟩
  | .hbm, ⟨43, _⟩ => ⟨S_, .f32⟩
  | .hbm, ⟨44, _⟩ => ⟨S16x24564, .f32⟩
  | .hbm, ⟨45, _⟩ => ⟨S16x24564, .f32⟩
  | .hbm, ⟨46, _⟩ => ⟨S16x24564, .f32⟩
  | .hbm, ⟨47, _⟩ => ⟨S16x24564, .i32⟩
  | .hbm, ⟨48, _⟩ => ⟨S16x24564, .f32⟩
  | .hbm, ⟨49, _⟩ => ⟨S16x24564, .i32⟩
  | .hbm, ⟨50, _⟩ => ⟨S16x24564, .i32⟩
  | .hbm, ⟨51, _⟩ => ⟨S16x24564, .i32⟩
  | .hbm, ⟨52, _⟩ => ⟨S16x24564, .i32⟩
  | .hbm, ⟨53, _⟩ => ⟨S16x24564, .i32⟩
  | .hbm, ⟨54, _⟩ => ⟨S_, .i32⟩
  | .hbm, ⟨55, _⟩ => ⟨S16, .i32⟩
  | .hbm, ⟨56, _⟩ => ⟨S16x1, .i32⟩
  | .hbm, ⟨57, _⟩ => ⟨S_, .i32⟩
  | .hbm, ⟨58, _⟩ => ⟨S16x1, .i32⟩
  | .hbm, ⟨59, _⟩ => ⟨S16x1, .i32⟩
  | .hbm, ⟨60, _⟩ => ⟨S_, .i32⟩
  | .hbm, ⟨61, _⟩ => ⟨S16x1, .i32⟩
  | .hbm, ⟨62, _⟩ => ⟨S16x1, .i32⟩
  | .hbm, ⟨63, _⟩ => ⟨S16x24564, .i32⟩
  | .hbm, ⟨64, _⟩ => ⟨S16x24564, .i1⟩
  | .hbm, ⟨65, _⟩ => ⟨S16x24564, .i1⟩
  | .hbm, ⟨66, _⟩ => ⟨S16x24564, .f32⟩
  | .hbm, ⟨67, _⟩ => ⟨S_, .f32⟩
  | .hbm, ⟨68, _⟩ => ⟨S16x24564, .f32⟩
  | .hbm, ⟨69, _⟩ => ⟨S16x24564x1, .f32⟩
  | .hbm, ⟨70, _⟩ => ⟨S16x24564x81, .f32⟩
  | .hbm, ⟨71, _⟩ => ⟨S16x24564x81, .f32⟩
  | .hbm, ⟨72, _⟩ => ⟨S16x24564x81, .f32⟩
  | .hbm, ⟨73, _⟩ => ⟨S_, .f32⟩
  | .hbm, ⟨74, _⟩ => ⟨S16x24564, .f32⟩
  | .hbm, ⟨75, _⟩ => ⟨S16x24564, .f32⟩
  | .hbm, ⟨76, _⟩ => ⟨S16x24564, .f32⟩
  | .hbm, ⟨77, _⟩ => ⟨S16x24564, .f32⟩
  | .hbm, ⟨78, _⟩ => ⟨S16x24564x1, .i32⟩
  | .hbm, ⟨79, _⟩ => ⟨S_, .i32⟩
  | .hbm, ⟨80, _⟩ => ⟨S16x24564x1, .i32⟩
  | .hbm, ⟨81, _⟩ => ⟨S16x24564x1, .i1⟩
  | .hbm, ⟨82, _⟩ => ⟨S_, .i32⟩
  | .hbm, ⟨83, _⟩ => ⟨S16x24564x1, .i32⟩
  | .hbm, ⟨84, _⟩ => ⟨S16x24564x1, .i32⟩
  | .hbm, ⟨85, _⟩ => ⟨S16x24564x1, .i32⟩
  | .hbm, ⟨86, _⟩ => ⟨S16x24564x1x1, .i32⟩
  | .hbm, ⟨87, _⟩ => ⟨S1, .i32⟩
  | .hbm, ⟨88, _⟩ => ⟨S_, .i32⟩
  | .hbm, ⟨89, _⟩ => ⟨S16x24564x1x1, .i32⟩
  | .hbm, ⟨90, _⟩ => ⟨S16x24564x1x1, .i1⟩
  | .hbm, ⟨91, _⟩ => ⟨S1x1x1x1, .i32⟩
  | .hbm, ⟨92, _⟩ => ⟨S16x24564x1x1, .i32⟩
  | .hbm, ⟨93, _⟩ => ⟨S16x24564x1x1, .i1⟩
  | .hbm, ⟨94, _⟩ => ⟨S16x24564x1x1, .i1⟩
  | .hbm, ⟨95, _⟩ => ⟨S_, .i1⟩
  | .hbm, ⟨96, _⟩ => ⟨S16x24564x1, .i1⟩
  | .hbm, ⟨97, _⟩ => ⟨S16x24564x1, .f32⟩
  | .hbm, ⟨98, _⟩ => ⟨S_, .f32⟩
  | .hbm, ⟨99, _⟩ => ⟨S16x24564x1, .f32⟩
  | .hbm, ⟨100, _⟩ => ⟨S16x24564x1, .f32⟩
  | .hbm, ⟨101, _⟩ => ⟨S16x24564, .f32⟩
  | .hbm, ⟨102, _⟩ => ⟨S16x24564, .f32⟩
  | .hbm, ⟨103, _⟩ => ⟨S16x24564, .f32⟩
  | .hbm, ⟨104, _⟩ => ⟨S_, .f32⟩
  | .hbm, ⟨105, _⟩ => ⟨S16, .f32⟩
  | .hbm, ⟨106, _⟩ => ⟨S16x1, .f32⟩
  | .hbm, ⟨107, _⟩ => ⟨S16x1, .f32⟩
  | .hbm, ⟨108, _⟩ => ⟨S16x2, .f32⟩
  | .hbm, ⟨109, _⟩ => ⟨S_, .i32⟩
  | .hbm, ⟨110, _⟩ => ⟨S_, .f32⟩
  | .hbm, ⟨111, _⟩ => ⟨S16x128, .f32⟩
  | .hbm, ⟨112, _⟩ => ⟨S16x1x128, .f32⟩
  | _, _ => ⟨S16x24564x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_v17 : Ref sig .tc := ⟨.hbm, 46, rfl⟩
abbrev main_call2_v0 : Ref sig .tc := ⟨.hbm, 47, rfl⟩
abbrev main_call2_v1_0 : Ref sig .tc := ⟨.hbm, 48, rfl⟩
abbrev main_v18 : Ref sig .tc := ⟨.hbm, 49, rfl⟩
abbrev main_call3_v0 : Ref sig .tc := ⟨.hbm, 50, rfl⟩
abbrev main_call3_v1_0 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call4_c : Ref sig .tc := ⟨.hbm, 79, rfl⟩
abbrev main_call4_v0 : Ref sig .tc := ⟨.hbm, 80, rfl⟩
abbrev main_call4_v1 : Ref sig .tc := ⟨.hbm, 81, rfl⟩
abbrev main_call4_c_0 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_c_1 : Ref sig .tc := ⟨.hbm, 87, rfl⟩
abbrev main_call4_c_2 : Ref sig .tc := ⟨.hbm, 88, rfl⟩
abbrev main_call4_v6 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_3 : Ref sig .tc := ⟨.hbm, 95, rfl⟩
abbrev main_call4_v12 : Ref sig .tc := ⟨.hbm, 96, rfl⟩
abbrev main_call4_v13 : Ref sig .tc := ⟨.hbm, 97, rfl⟩
abbrev main_call4_cst : Ref sig .tc := ⟨.hbm, 98, rfl⟩
abbrev main_call4_v14 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_7 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_8 : Ref sig .tc := ⟨.hbm, 109, rfl⟩
abbrev main_call5_v0 : Ref sig .tc := ⟨.hbm, 110, rfl⟩
abbrev main_v49 : Ref sig .tc := ⟨.hbm, 111, rfl⟩
abbrev main_v50 : Ref sig .tc := ⟨.hbm, 112, rfl⟩

abbrev nD : Nat := 1
abbrev τ : Topo := Topo.v7x

variable {F : FTy → Type} [FloatOps F]
-- ==== Proof.Spec.lean ====
/- The matching of priors to truths, on extended reals: the overlap of a truth with a prior and why it is never negative,
   the place of a first greatest value, which truth each prior takes, and folds that pick one of their arguments. -/
module

public import proofs.«01_k».proof.Proof.Gen.ReferenceIdeal
public import Idealize.ShloMosaic.Lib.IdealHost
public import Idealize.ShloMosaic.PureOps.Ideal.Laws

@[expose] public section

noncomputable section

namespace Cert.Proof.Spec

open Idealize.ShloMosaic

/-! ## Words -/

theorem toInt_ofNat {n : ℕ} (h : n < 2 ^ 31) : (BitVec.ofNat 32 n).toInt = n := by
  rw [BitVec.toInt_eq_toNat_cond, BitVec.toNat_ofNat, Nat.mod_eq_of_lt (by omega), if_pos (by omega)]
theorem ofNat_inj {n m : ℕ} (hn : n < 2 ^ 31) (hm : m < 2 ^ 31) : BitVec.ofNat 32 n = BitVec.ofNat 32 m ↔ n = m := by
  constructor
  · intro h; have := congrArg BitVec.toInt h; rw [toInt_ofNat hn, toInt_ofNat hm] at this; exact_mod_cast this
  · rintro rfl; rfl

theorem cmpi_eq (a b : BitVec 32) : IntOp.cmpi .eq a b = BitVec.ofBool (decide (a = b)) := by
  by_cases h : a = b
  · subst h; simp [IntOp.cmpi]
  · simp [IntOp.cmpi, h, beq_eq_false_iff_ne.2 h]

theorem select_ofBool {α : Type} (p : Prop) [Decidable p] (a b : α) : Scalar.select (BitVec.ofBool (decide p)) a b = if p then a else b := by
  by_cases h : p <;> simp [Scalar.select, h]

theorem sel_at {s : Shape} {α : Type} (c : IVec s 1) (x y : s.Idx → α) (i : s.Idx) : select c x y i = Scalar.select (c i) (x i) (y i) := rfl
theorem cmpi_at {s : Shape} (p : CmpIPredicate) (x y : IVec s 32) (i : s.Idx) : cmpi p x y i = IntOp.cmpi p (x i) (y i) := rfl
theorem cmpf_at {s : Shape} (p : CmpFPredicate) (x y : FVec Ideal s .f32) (i : s.Idx) : cmpf p x y i = Ideal.cmp p (x i) (y i) := rfl
theorem bc_at {s : Shape} {α : Type} (a : α) (i : s.Idx) : broadcast s a i = a := rfl
theorem addi_at {s : Shape} (x y : IVec s 32) (i : s.Idx) : addi x y i = x i + y i := rfl

/-! ## The first greatest value -/

/-- `p` is the first place at which `f` is greatest. -/
def IsFirst {n : ℕ} (f : Fin n → EReal) (p : Fin n) : Prop := (∀ q, f q ≤ f p) ∧ ∀ q, f q = f p → p ≤ q

theorem IsFirst.unique {n : ℕ} {f : Fin n → EReal} {p q : Fin n} (hp : IsFirst f p) (hq : IsFirst f q) : p = q := by
  have e : f p = f q := le_antisymm (hq.1 p) (hp.1 q)
  exact le_antisymm (hp.2 q e.symm) (hq.2 p e)

theorem exists_first {n : ℕ} (hn : 0 < n) (f : Fin n → EReal) : ∃ p, IsFirst f p := by
  haveI : Nonempty (Fin n) := ⟨⟨0, hn⟩⟩
  obtain ⟨m, hm⟩ := Finite.exists_max f
  have hne : (Finset.univ.filter fun q => f q = f m).Nonempty := ⟨m, by simp⟩
  refine ⟨(Finset.univ.filter fun q => f q = f m).min' hne, ?_, ?_⟩
  · have h := Finset.min'_mem _ hne
    rw [Finset.mem_filter] at h
    intro q; rw [h.2]; exact hm q
  · have h := Finset.min'_mem _ hne
    rw [Finset.mem_filter] at h
    intro q hq
    exact Finset.min'_le _ _ (by rw [Finset.mem_filter]; exact ⟨Finset.mem_univ _, hq.trans h.2⟩)

/-- Further places at which the value is zero do not move the first greatest value, where none is negative. -/
theorem IsFirst.pad {n m : ℕ} (h : n ≤ m) {f : Fin m → EReal} {p : Fin n} (h0 : ∀ q, 0 ≤ f q)
    (hz : ∀ q : Fin m, n ≤ q.val → f q = 0) (hp : IsFirst (fun q => f (Fin.castLE h q)) p) : IsFirst f (Fin.castLE h p) := by
  constructor
  · intro q
    by_cases hq : q.val < n
    · exact hp.1 ⟨q.val, hq⟩
    · rw [hz q (Nat.le_of_not_lt hq)]; exact h0 _
  · intro q hq
    by_cases hqn : q.val < n
    · exact hp.2 ⟨q.val, hqn⟩ hq
    · exact Fin.le_def.2 (by have := p.isLt; simp only [Fin.val_castLE]; omega)

/-! ## Which truth a prior takes -/

/-- The prior that each truth claims. -/
def cp (o : Fin 20 → Fin 24576 → EReal) (t : Fin 20) : Fin 24576 := Classical.choose (exists_first (by decide) (o t))
theorem cp_first (o : Fin 20 → Fin 24576 → EReal) (t : Fin 20) : IsFirst (o t) (cp o t) :=
  Classical.choose_spec (exists_first (by decide) (o t))

/-- Prior `q` takes truth `t`: the last one that claims it, and where none does the first of greatest overlap. -/
def IsTruth (o : Fin 20 → Fin 24576 → EReal) (q : Fin 24576) (t : Fin 20) : Prop :=
  (cp o t = q ∧ ∀ s, cp o s = q → s ≤ t) ∨ ((∀ s, cp o s ≠ q) ∧ IsFirst (fun t => o t q) t)

theorem IsTruth.unique {o : Fin 20 → Fin 24576 → EReal} {q : Fin 24576} {t s : Fin 20} (ht : IsTruth o q t) (hs : IsTruth o q s) : t = s := by
  rcases ht with ⟨h1, h2⟩ | ⟨h1, h2⟩ <;> rcases hs with ⟨k1, k2⟩ | ⟨k1, k2⟩
  · exact le_antisymm (k2 _ h1) (h2 _ k1)
  · exact absurd h1 (k1 _)
  · exact absurd k1 (h1 _)
  · exact h2.unique k2

/-- A prior's overlap after the claims: two where it is claimed. -/
def best (o : Fin 20 → Fin 24576 → EReal) (q : Fin 24576) (t : Fin 20) : EReal :=
  open Classical in if ∃ s, cp o s = q then Ideal.ofBits .f32 0x40000000#32 else o t q

/-! ## The constants -/

theorem half_eq : Ideal.ofBits .f32 0x3F000000#32 = (((1 : ℝ) / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem neg_one_eq : Ideal.ofBits .f32 0xBF800000#32 = ((-(1 : ℝ) : ℝ) : EReal) := by
  simp [Ideal.ofBits, Ideal.ieee, -EReal.coe_mul, -EReal.coe_neg]; norm_num
theorem neg_fifty_eq : Ideal.ofBits .f32 0xC2480000#32 = ((-(50 : ℝ) : ℝ) : EReal) := by
  simp [Ideal.ofBits, Ideal.ieee, -EReal.coe_mul, -EReal.coe_neg]; norm_num
theorem low_eq : Ideal.ofBits .f32 0xC2460000#32 = ((-((99 : ℝ) / 2) : ℝ) : EReal) := by
  simp [Ideal.ofBits, Ideal.ieee, -EReal.coe_mul, -EReal.coe_neg]; norm_num
theorem bot_eq : Ideal.ofBits .f32 0xFF800000#32 = (⊥ : EReal) := by
  simp [Ideal.ofBits, Ideal.ieee]

/-- Half of a value, by a division and by a product. -/
theorem div_two (x : EReal) : Ideal.div x (Ideal.ofBits .f32 0x40000000#32) = x * Ideal.ofBits .f32 0x3F000000#32 := by
  rw [two_eq, half_eq, Ideal.div, if_neg (by norm_num), ← EReal.coe_inv]; norm_num

/-! ## The overlap -/

/-- How far an interval and a prior's interval (centre and half width) reach into each other, not below zero. -/
def sideS (l h c w : EReal) : EReal :=
  max (min (c + w * Ideal.ofBits .f32 0x3F000000#32) h - max (c - w * Ideal.ofBits .f32 0x3F000000#32) l) 0
def areaS (cx cy w h : EReal) : EReal :=
  ((cx + w * Ideal.ofBits .f32 0x3F000000#32) - (cx - w * Ideal.ofBits .f32 0x3F000000#32))
    * ((cy + h * Ideal.ofBits .f32 0x3F000000#32) - (cy - h * Ideal.ofBits .f32 0x3F000000#32))
def interS (x0 y0 x1 y1 cx cy w h : EReal) : EReal := sideS x0 x1 cx w * sideS y0 y1 cy h
/-- The overlap of a truth's box and a prior. -/
def ovS (x0 y0 x1 y1 cx cy w h : EReal) : EReal :=
  Ideal.div (interS x0 y0 x1 y1 cx cy w h) ((x1 - x0) * (y1 - y0) + areaS cx cy w h - interS x0 y0 x1 y1 cx cy w h)

theorem sideS_nonneg (l h c w : EReal) : 0 ≤ sideS l h c w := le_max_right _ _

theorem sideS_le_truth {l h c w : EReal} (hs : 0 < sideS l h c w) : sideS l h c w ≤ h - l := by
  have e : sideS l h c w = min (c + w * Ideal.ofBits .f32 0x3F000000#32) h - max (c - w * Ideal.ofBits .f32 0x3F000000#32) l := by
    rcases le_or_gt (min (c + w * Ideal.ofBits .f32 0x3F000000#32) h - max (c - w * Ideal.ofBits .f32 0x3F000000#32) l) 0 with h' | h'
    · rw [sideS, max_eq_right h'] at hs; exact absurd hs (lt_irrefl _)
    · exact max_eq_left h'.le
  rw [e]; exact EReal.sub_le_sub (min_le_right _ _) (le_max_right _ _)

theorem sideS_le_prior {l h c w : EReal} (hs : 0 < sideS l h c w) :
    sideS l h c w ≤ (c + w * Ideal.ofBits .f32 0x3F000000#32) - (c - w * Ideal.ofBits .f32 0x3F000000#32) := by
  have e : sideS l h c w = min (c + w * Ideal.ofBits .f32 0x3F000000#32) h - max (c - w * Ideal.ofBits .f32 0x3F000000#32) l := by
    rcases le_or_gt (min (c + w * Ideal.ofBits .f32 0x3F000000#32) h - max (c - w * Ideal.ofBits .f32 0x3F000000#32) l) 0 with h' | h'
    · rw [sideS, max_eq_right h'] at hs; exact absurd hs (lt_irrefl _)
    · exact max_eq_left h'.le
  rw [e]; exact EReal.sub_le_sub (min_le_left _ _) (le_max_left _ _)

/-- Greater or equal to zero, or the least value. -/
def NB (x : EReal) : Prop := 0 ≤ x ∨ x = ⊥
/-- Greater than zero, or the least value. -/
def PB (x : EReal) : Prop := 0 < x ∨ x = ⊥

theorem NB.mul {x y : EReal} (hx : NB x) (hy : NB y) : NB (x * y) := by
  rcases hx with hx | rfl <;> rcases hy with hy | rfl
  · exact .inl (mul_nonneg hx hy)
  · rcases hx.eq_or_lt with rfl | hx
    · left; simp
    · right; exact EReal.mul_bot_of_pos hx
  · rcases hy.eq_or_lt with rfl | hy
    · left; simp
    · right; exact EReal.bot_mul_of_pos hy
  · left; simp

theorem PB.mul {x y : EReal} (hx : PB x) (hy : PB y) : PB (x * y) := by
  rcases hx with hx | rfl <;> rcases hy with hy | rfl
  · exact .inl (EReal.mul_pos hx hy)
  · right; exact EReal.mul_bot_of_pos hx
  · right; exact EReal.bot_mul_of_pos hy
  · left; simp

theorem NB.add {x y : EReal} (hx : NB x) (hy : PB y) : PB (x + y) := by
  rcases hx with hx | rfl <;> rcases hy with hy | rfl
  · exact .inl (lt_of_lt_of_le hy (le_add_of_nonneg_left hx))
  · right; simp
  · right; simp
  · right; simp

theorem nb_sub {x y : EReal} (h : x ≤ y) : NB (y - x) := by
  induction x <;> induction y <;> simp_all [NB, EReal.sub_nonneg, ← EReal.coe_sub]

theorem pb_width {c w : EReal} (hw : 0 < w) : PB ((c + w) - (c - w)) := by
  induction c <;> induction w
  case coe.coe => left; norm_cast at hw ⊢; linarith
  all_goals simp_all [PB]

/-- The denominator of an overlap is never zero, where the truth's corners are in order and the prior has a width and a height. -/
theorem ovS_nonneg {x0 y0 x1 y1 cx cy w h : EReal} (hx : x0 ≤ x1) (hy : y0 ≤ y1) (hw : 0 < w) (hh : 0 < h) :
    0 ≤ ovS x0 y0 x1 y1 cx cy w h := by
  have hpos : ∀ {z : EReal}, 0 < z → 0 < z * Ideal.ofBits .f32 0x3F000000#32 := fun hz =>
    EReal.mul_pos hz (by rw [half_eq]; norm_num)
  have hA : NB ((x1 - x0) * (y1 - y0)) := (nb_sub hx).mul (nb_sub hy)
  have hB : PB (areaS cx cy w h) := (pb_width (hpos hw)).mul (pb_width (hpos hh))
  have hAB := hA.add hB
  have hI : 0 ≤ interS x0 y0 x1 y1 cx cy w h := mul_nonneg (sideS_nonneg _ _ _ _) (sideS_nonneg _ _ _ _)
  rw [ovS]
  rcases hI.eq_or_lt with h0 | hI'
  · rw [← h0, sub_zero, Ideal.div, if_neg]
    · simp
    · rcases hAB with h' | h'
      · exact h'.ne'
      · rw [h']; simp
  · have hsx : 0 < sideS x0 x1 cx w := by
      rcases (sideS_nonneg x0 x1 cx w).eq_or_lt with h' | h'
      · rw [interS, ← h', zero_mul] at hI'; exact absurd hI' (lt_irrefl _)
      · exact h'
    have hsy : 0 < sideS y0 y1 cy h := by
      rcases (sideS_nonneg y0 y1 cy h).eq_or_lt with h' | h'
      · rw [interS, ← h', mul_zero] at hI'; exact absurd hI' (lt_irrefl _)
      · exact h'
    have h1 : interS x0 y0 x1 y1 cx cy w h ≤ (x1 - x0) * (y1 - y0) :=
      mul_le_mul (sideS_le_truth hsx) (sideS_le_truth hsy) hsy.le (hsx.le.trans (sideS_le_truth hsx))
    have h2 : interS x0 y0 x1 y1 cx cy w h ≤ areaS cx cy w h :=
      mul_le_mul (sideS_le_prior hsx) (sideS_le_prior hsy) hsy.le (hsx.le.trans (sideS_le_prior hsx))
    have hD : 0 < (x1 - x0) * (y1 - y0) + areaS cx cy w h - interS x0 y0 x1 y1 cx cy w h ∨
        (x1 - x0) * (y1 - y0) + areaS cx cy w h - interS x0 y0 x1 y1 cx cy w h = ⊥ := by
      generalize interS x0 y0 x1 y1 cx cy w h = I at *
      generalize (x1 - x0) * (y1 - y0) = A at *
      generalize areaS cx cy w h = B at *
      induction I
      · exact absurd hI' (by simp)
      · rename_i r
        left
        have h3 : ((r : EReal) + r) - r ≤ A + B - r := EReal.sub_le_sub (add_le_add h1 h2) le_rfl
        refine lt_of_lt_of_le ?_ h3
        norm_cast at hI' ⊢; linarith
      · right; simp
    rw [Ideal.div, if_neg (by rcases hD with h' | h'; exacts [h'.ne', by rw [h']; simp])]
    rcases hD with h' | h'
    · exact mul_nonneg hI (EReal.inv_nonneg_of_nonneg h'.le)
    · rw [h']; simp

/-- A padded prior's interval does not reach into one that begins at its end or after it. -/
theorem sideS_pad {l h : EReal} (hl : Ideal.ofBits .f32 0xC2460000#32 ≤ l) :
    sideS l h (Ideal.ofBits .f32 0xC2480000#32) (Ideal.ofBits .f32 0x3F800000#32) = 0 := by
  rw [sideS]
  apply max_eq_right
  have h1 : min (Ideal.ofBits .f32 0xC2480000#32 + Ideal.ofBits .f32 0x3F800000#32 * Ideal.ofBits .f32 0x3F000000#32) h
      ≤ ((-((99 : ℝ) / 2) : ℝ) : EReal) := by
    refine (min_le_left _ _).trans ?_
    rw [neg_fifty_eq, Ideal.ofBits_one_f32, half_eq, one_mul]; norm_cast; norm_num
  have h2 : ((-((99 : ℝ) / 2) : ℝ) : EReal)
      ≤ max (Ideal.ofBits .f32 0xC2480000#32 - Ideal.ofBits .f32 0x3F800000#32 * Ideal.ofBits .f32 0x3F000000#32) l :=
    (low_eq.ge.trans hl).trans (le_max_right _ _)
  refine (EReal.sub_le_sub h1 h2).trans ?_
  norm_cast; norm_num

/-- A padded prior overlaps no truth that begins at its end or after it on one of the axes. -/
theorem ovS_pad {x0 y0 x1 y1 : EReal} (h0 : Ideal.ofBits .f32 0xC2460000#32 ≤ x0 ∨ Ideal.ofBits .f32 0xC2460000#32 ≤ y0)
    (hx : x0 ≤ x1) (hy : y0 ≤ y1) :
    ovS x0 y0 x1 y1 (Ideal.ofBits .f32 0xC2480000#32) (Ideal.ofBits .f32 0xC2480000#32) (Ideal.ofBits .f32 0x3F800000#32)
      (Ideal.ofBits .f32 0x3F800000#32) = 0 := by
  have hs : interS x0 y0 x1 y1 (Ideal.ofBits .f32 0xC2480000#32) (Ideal.ofBits .f32 0xC2480000#32) (Ideal.ofBits .f32 0x3F800000#32)
      (Ideal.ofBits .f32 0x3F800000#32) = 0 := by
    rcases h0 with h0 | h0
    · rw [interS, sideS_pad h0, zero_mul]
    · rw [interS, sideS_pad h0, mul_zero]
  have hA : NB ((x1 - x0) * (y1 - y0)) := (nb_sub hx).mul (nb_sub hy)
  have hp : (0 : EReal) < Ideal.ofBits .f32 0x3F800000#32 * Ideal.ofBits .f32 0x3F000000#32 := by
    rw [Ideal.ofBits_one_f32, half_eq, one_mul]; norm_num
  have hAB := hA.add ((pb_width (c := Ideal.ofBits .f32 0xC2480000#32) hp).mul (pb_width (c := Ideal.ofBits .f32 0xC2480000#32) hp))
  rw [ovS, hs, sub_zero, Ideal.div, if_neg, zero_mul]
  rcases hAB with h' | h'
  · exact h'.ne'
  · rw [areaS, h']; simp

/-! ## One image -/

/-- What an image's classes and loss are made of: its truths' five numbers, the priors, its predictions, the variances. -/
structure Img where
  T : Fin 20 → Fin 5 → EReal
  p : Fin 24564 → Fin 4 → EReal
  l : Fin 24564 → Fin 4 → EReal
  w0 : EReal
  w1 : EReal

/-- The pad prior: a unit square about (-50, -50). -/
def padv (k : Fin 4) : EReal := if k.val < 2 then Ideal.ofBits .f32 0xC2480000#32 else Ideal.ofBits .f32 0x3F800000#32

namespace Img
variable (D : Img)

/-- The priors and the predictions with the pads after them. -/
def pp (q : Fin 24576) (k : Fin 4) : EReal := if h : q.val < 24564 then D.p ⟨q.val, h⟩ k else padv k
def ll (q : Fin 24576) (k : Fin 4) : EReal := if h : q.val < 24564 then D.l ⟨q.val, h⟩ k else 0

/-- The overlap of truth `t` with prior `q`. -/
def o (t : Fin 20) (q : Fin 24576) : EReal :=
  ovS (D.T t 0) (D.T t 1) (D.T t 2) (D.T t 3) (D.pp q 0) (D.pp q 1) (D.pp q 2) (D.pp q 3)

/-- The boxes are as the precondition has them. -/
structure Good : Prop where
  x0 : ∀ t, Ideal.ofBits .f32 0xC2460000#32 ≤ D.T t 0 ∨ Ideal.ofBits .f32 0xC2460000#32 ≤ D.T t 1
  x1 : ∀ t, D.T t 0 ≤ D.T t 2
  y1 : ∀ t, D.T t 1 ≤ D.T t 3
  w : ∀ q, 0 < D.p q 2
  h : ∀ q, 0 < D.p q 3

variable {D} in
theorem Good.nonneg (g : D.Good) (t : Fin 20) (q : Fin 24576) : 0 ≤ D.o t q := by
  unfold o pp
  split
  · exact ovS_nonneg (g.x1 t) (g.y1 t) (g.w _) (g.h _)
  · exact (ovS_pad (g.x0 t) (g.x1 t) (g.y1 t)).ge
variable {D} in
theorem Good.pad (g : D.Good) (t : Fin 20) (q : Fin 24576) (h : 24564 ≤ q.val) : D.o t q = 0 := by
  unfold o pp
  rw [dif_neg (not_lt.2 h), dif_neg (not_lt.2 h), dif_neg (not_lt.2 h), dif_neg (not_lt.2 h)]
  exact ovS_pad (g.x0 t) (g.x1 t) (g.y1 t)

theorem exists_truth (q : Fin 24576) : ∃ t, IsTruth D.o q t := by
  by_cases h : ∃ s, cp D.o s = q
  · have hne : (Finset.univ.filter fun s => cp D.o s = q).Nonempty := by
      obtain ⟨s, hs⟩ := h; exact ⟨s, by simp [hs]⟩
    refine ⟨(Finset.univ.filter fun s => cp D.o s = q).max' hne, .inl ⟨?_, ?_⟩⟩
    · have h := Finset.max'_mem _ hne
      rw [Finset.mem_filter] at h; exact h.2
    · intro s hs; exact Finset.le_max' _ _ (by simp [hs])
  · push Not at h
    obtain ⟨t, ht⟩ := exists_first (n := 20) (by decide) (fun t => D.o t q)
    exact ⟨t, .inr ⟨h, ht⟩⟩
/-- The truth that prior `q` takes. -/
def tr (q : Fin 24576) : Fin 20 := Classical.choose (D.exists_truth q)
theorem tr_spec (q : Fin 24576) : IsTruth D.o q (D.tr q) := Classical.choose_spec (D.exists_truth q)

/-- The class of a prior. -/
def conf (q : Fin 24576) : BitVec 32 :=
  if best D.o q (D.tr q) < Ideal.ofBits .f32 0x3F000000#32 then 0#32 else Ideal.fptosi 32 (D.T (D.tr q) 4) + 1#32
/-- Whether a prior has a class, as a number. -/
def pos (q : Fin 24576) : EReal := if 0 < (D.conf q).toInt then 1 else 0

/-- What the predictions of a prior should be. -/
def gC (q : Fin 24576) (k k' : Fin 4) (a b : Fin 5) : EReal :=
  Ideal.div ((D.T (D.tr q) a + D.T (D.tr q) b) * Ideal.ofBits .f32 0x3F000000#32 - D.pp q k) (D.w0 * D.pp q k')
def gS (q : Fin 24576) (k' : Fin 4) (a b : Fin 5) : EReal :=
  Ideal.div (Ideal.log (Ideal.div (D.T (D.tr q) b - D.T (D.tr q) a) (D.pp q k'))) D.w1
def g (q : Fin 24576) (k : Fin 4) : EReal := ![D.gC q 0 2 0 2, D.gC q 1 3 1 3, D.gS q 2 0 2, D.gS q 3 1 3] k

/-- The smooth absolute value of a difference. -/
def sm (d : EReal) : EReal :=
  if max d (-d) < 1 then Ideal.ofBits .f32 0x3F000000#32 * d * d else max d (-d) - Ideal.ofBits .f32 0x3F000000#32

/-- The localisation loss of an image and the number of its positives. -/
def loss : EReal := ∑ q : Fin 24564, ∑ k : Fin 4, sm (D.l q k - D.g (Fin.castLE (by decide) q) k) * D.pos (Fin.castLE (by decide) q)
def npos : EReal := ∑ q : Fin 24564, D.pos (Fin.castLE (by decide) q)

variable {D} in
/-- A pad prior has no class. -/
theorem Good.conf_pad (g : D.Good) (q : Fin 24576) (h : 24564 ≤ q.val) : D.conf q = 0#32 := by
  unfold conf
  have hb : best D.o q (D.tr q) = 0 := by
    unfold best
    rw [if_neg, g.pad _ q h]
    rintro ⟨s, hs⟩
    obtain ⟨p', hp'⟩ := exists_first (n := 24564) (by decide) (fun q => D.o s (Fin.castLE (by decide) q))
    have := (cp_first D.o s).unique (IsFirst.pad (by decide) (g.nonneg s) (g.pad s) hp')
    have h2 := congrArg Fin.val (hs.symm.trans this)
    have := p'.isLt
    simp only [Fin.val_castLE] at h2
    omega
  rw [hb, if_pos]
  rw [half_eq]; norm_num

variable {D} in
theorem Good.pos_pad (g : D.Good) (q : Fin 24576) (h : 24564 ≤ q.val) : D.pos q = 0 := by
  unfold pos; rw [g.conf_pad q h]; simp

theorem pos_cases (q : Fin 24576) : D.pos q = 0 ∨ D.pos q = 1 := by
  unfold pos; split <;> simp

/-- A sum over the padded priors whose terms are zero at the pads is the sum over the priors. -/
theorem sum_pad (f : Fin 24576 → EReal) (h : ∀ q : Fin 24576, 24564 ≤ q.val → f q = 0) :
    ∑ q, f q = ∑ q : Fin 24564, f (Fin.castLE (by decide) q) := by
  rw [← Fin.sum_congr' f (show 24564 + 12 = 24576 from rfl), Fin.sum_univ_add]
  rw [Finset.sum_eq_zero (s := Finset.univ) (f := fun i : Fin 12 => f (Fin.cast _ (Fin.natAdd 24564 i))), add_zero]
  · rfl
  · intro i _; exact h _ (by simp)

end Img

/-! ## Folds that pick -/

/-- What a fold gives whose operation picks one of its two arguments, upwards in an order. -/
theorem fold_pick {α β : Type} (op : α → α → α) [Std.Commutative op] [Std.Associative op] (le : α → α → Prop)
    (hrefl : ∀ a, le a a) (htrans : ∀ {a b c}, le a b → le b c → le a c) (hsel : ∀ a b, op a b = a ∨ op a b = b)
    (hl : ∀ a b, le a (op a b)) (hr : ∀ a b, le b (op a b)) (b : α) (f : β → α) (s : Finset β) :
    (s.fold op b f = b ∨ ∃ i ∈ s, s.fold op b f = f i) ∧ le b (s.fold op b f) ∧ ∀ i ∈ s, le (f i) (s.fold op b f) := by
  classical
  induction s using Finset.induction_on with
  | empty => exact ⟨.inl rfl, hrefl _, fun i hi => absurd hi (Finset.notMem_empty _)⟩
  | insert a s ha ih =>
    rw [Finset.fold_insert ha]
    obtain ⟨h1, h2, h3⟩ := ih
    refine ⟨?_, htrans h2 (hr _ _), ?_⟩
    · rcases hsel (f a) (s.fold op b f) with h | h <;> rw [h]
      · exact .inr ⟨a, Finset.mem_insert_self _ _, rfl⟩
      · rcases h1 with h1 | ⟨i, hi, h1⟩
        · exact .inl h1
        · exact .inr ⟨i, Finset.mem_insert_of_mem hi, h1⟩
    · intro i hi
      rcases Finset.mem_insert.1 hi with rfl | hi
      · exact hl _ _
      · exact htrans (h3 i hi) (hr _ _)

/-- A pair of a value and a word is before another: a greater value, or the same value and a word that is not greater. -/
def Bef (a b : EReal × BitVec 32) : Prop := b.1 < a.1 ∨ (b.1 = a.1 ∧ a.2.toInt ≤ b.2.toInt)

theorem Bef.trans {a b c : EReal × BitVec 32} (h1 : Bef a b) (h2 : Bef b c) : Bef a c := by
  unfold Bef at *
  rcases h1 with h1 | ⟨h1, h1'⟩ <;> rcases h2 with h2 | ⟨h2, h2'⟩
  · exact .inl (h2.trans h1)
  · exact .inl (h2 ▸ h1)
  · exact .inl (h1 ▸ h2)
  · exact .inr ⟨h2.trans h1, h1'.trans h2'⟩

/-- The arg-max step keeps the pair that is before. -/
theorem step_pick (a b : EReal × BitVec 32) :
    (Cert.ReferenceIdeal.reducer_argmax_f32_i32 (F := Ideal) a b = a ∧ Bef a b) ∨
    (Cert.ReferenceIdeal.reducer_argmax_f32_i32 (F := Ideal) a b = b ∧ Bef b a) := by
  obtain ⟨a1, a2⟩ := a
  obtain ⟨b1, b2⟩ := b
  simp only [Cert.ReferenceIdeal.reducer_argmax_f32_i32, Ideal.cmpf_def, Ideal.cmp, Bef, IntOp.cmpi, BitVec.slt]
  rcases lt_trichotomy a1 b1 with h | rfl | h
  · right; simp [h, h.not_gt, h.ne, Scalar.select, IntOp.ori, IntOp.andi]
  · by_cases h' : a2.toInt < b2.toInt
    · left; simp [h', h'.le, Scalar.select, IntOp.ori, IntOp.andi]
    · right; simp [h', not_lt.1 h', Scalar.select, IntOp.ori, IntOp.andi]
  · left; simp [h, h.not_gt, h.ne', Scalar.select, IntOp.ori, IntOp.andi]

theorem foldl_pick (L : List (EReal × BitVec 32)) (a : EReal × BitVec 32) :
    L.foldl (Cert.ReferenceIdeal.reducer_argmax_f32_i32 (F := Ideal)) a ∈ a :: L ∧
    ∀ e ∈ a :: L, Bef (L.foldl (Cert.ReferenceIdeal.reducer_argmax_f32_i32 (F := Ideal)) a) e := by
  induction L generalizing a with
  | nil => exact ⟨by simp, fun e he => by simp at he; subst he; exact .inr ⟨rfl, le_rfl⟩⟩
  | cons b L ih =>
    rw [List.foldl_cons]
    obtain ⟨h1, h2⟩ := ih (Cert.ReferenceIdeal.reducer_argmax_f32_i32 (F := Ideal) a b)
    have hs := h2 _ List.mem_cons_self
    rcases step_pick a b with ⟨e, hb⟩ | ⟨e, hb⟩ <;> rw [e] at h1 h2 hs ⊢
    · refine ⟨?_, ?_⟩
      · rcases List.mem_cons.1 h1 with h1 | h1
        · rw [h1]; exact List.mem_cons_self
        · exact List.mem_cons_of_mem _ (List.mem_cons_of_mem _ h1)
      · intro x hx
        rcases List.mem_cons.1 hx with rfl | hx
        · exact hs
        · rcases List.mem_cons.1 hx with rfl | hx
          · exact hs.trans hb
          · exact h2 _ (List.mem_cons_of_mem _ hx)
    · refine ⟨List.mem_cons_of_mem _ h1, ?_⟩
      intro x hx
      rcases List.mem_cons.1 hx with rfl | hx
      · exact hs.trans hb
      · exact h2 _ hx

/-- The arg-max fold over pairs of a value that is not negative and its place, in any order, gives the first greatest place. -/
theorem foldl_first {n : ℕ} (hn : 0 < n) (hn' : n < 2 ^ 31) (f : Fin n → EReal) (hf : ∀ q, 0 ≤ f q) (L : List (EReal × BitVec 32))
    (h1 : ∀ e ∈ L, ∃ q : Fin n, e = (f q, BitVec.ofNat 32 q.val)) (h2 : ∀ q : Fin n, (f q, BitVec.ofNat 32 q.val) ∈ L) (i : BitVec 32) :
    ∃ p : Fin n, (L.foldl (Cert.ReferenceIdeal.reducer_argmax_f32_i32 (F := Ideal)) (⊥, i)).2 = BitVec.ofNat 32 p.val ∧ IsFirst f p := by
  obtain ⟨k1, k2⟩ := foldl_pick L (⊥, i)
  generalize L.foldl (Cert.ReferenceIdeal.reducer_argmax_f32_i32 (F := Ideal)) (⊥, i) = r at *
  have k3 : ∀ q : Fin n, Bef r (f q, BitVec.ofNat 32 q.val) := fun q => k2 _ (List.mem_cons_of_mem _ (h2 q))
  have hr : 0 ≤ r.1 := by
    rcases k3 ⟨0, hn⟩ with h | ⟨h, -⟩
    · exact (hf _).trans h.le
    · exact (hf _).trans h.le
  rcases List.mem_cons.1 k1 with rfl | hm
  · exact absurd hr (by simp)
  · obtain ⟨p, rfl⟩ := h1 r hm
    refine ⟨p, rfl, fun q => ?_, fun q hq => ?_⟩
    · rcases k3 q with h | ⟨h, -⟩
      · exact h.le
      · exact h.le
    · rcases k3 q with h | ⟨-, h⟩
      · exact absurd hq h.ne
      · have := p.isLt; have := q.isLt
        simp only [toInt_ofNat (show p.val < 2 ^ 31 by omega), toInt_ofNat (show q.val < 2 ^ 31 by omega)] at h
        exact Fin.le_def.2 (by omega)

theorem maxsi_choice (a b : BitVec 32) : IntOp.maxsi a b = a ∨ IntOp.maxsi a b = b := by
  unfold IntOp.maxsi; split <;> simp
theorem maxsi_left (a b : BitVec 32) : a.toInt ≤ (IntOp.maxsi a b).toInt := by
  unfold IntOp.maxsi; simp only [BitVec.slt]; split <;> simp_all <;> omega
theorem maxsi_right (a b : BitVec 32) : b.toInt ≤ (IntOp.maxsi a b).toInt := by
  unfold IntOp.maxsi; simp only [BitVec.slt]; split <;> simp_all <;> omega

end Cert.Proof.Spec
-- ==== Proof.HostIn.lean ====
/- What the kernel is handed: the priors and the predictions put plane by plane, with the pads after them. -/
module

public import proofs.«01_k».proof.Proof.Gen.KernelIdeal.Value
public import proofs.«01_k».proof.Proof.Spec
public import Idealize.ShloMosaic.Lib.Pointwise
public import Idealize.ShloMosaic.Lib.ValueIdx

@[expose] public section

noncomputable section

namespace Cert.Proof.HostIn

open Cert.KernelIdeal Cert.KernelIdeal.Gen Idealize.ShloMosaic Idealize.ShloMosaic.TcCoe Idealize.ShloMosaic.StableHlo Cert.Proof.Spec

variable {F : FTy → Type} [FloatOps F]

/-- The priors' planes. -/
def planes (a2 : FVec F S24564x4 .f32) : FVec F S4x192x128 .f32 :=
  shapeCast S4x192x128 (concatenate S4x24576 1 [⟨S4x24564, transpose S4x24564 [1, 0] a2 transposes_S24564x4_S4x24564_1_0⟩,
    ⟨S4x12, broadcastInDim S4x12 ![0, 1] bcast_S4x1_S4x12_0_1 (fun i => FloatOps.ofBits .f32 (lit0 (S4x1.rowMajor i)))⟩] concatenates_S4x24564_S4x12_S4x24576_d1)
    shapeCasts_S4x24576_S4x192x128

/-- The predictions' planes. -/
def preds (a0 : FVec F S16x24564x4 .f32) : FVec F S16x4x192x128 .f32 :=
  shapeCast S16x4x192x128 (pad S16x4x24576 ![0, 0, 0] ![0, 0, 12] ![0, 0, 0] (transpose S16x4x24564 [0, 2, 1] a0 transposes_S16x24564x4_S16x4x24564_0_2_1)
    (sitofp .f32 (constantI S_ 32 0#32)) pads_S16x4x24564_S16x4x24576_000_000_0120 h_S_) shapeCasts_S16x4x24576_S16x4x192x128

variable (m : (ℓ : Loc nD τ sig) → Buf (Elt F) ℓ)

set_option maxRecDepth 8192 in
theorem V_main_v3 (c : Dev nD) : V m c main_v3 = planes (m ((c : Thread nD τ).loc main_arg2)) := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results_simp
  rfl

set_option maxRecDepth 8192 in
theorem V_main_v6 (c : Dev nD) : V m c main_v6 = preds (m ((c : Thread nD τ).loc main_arg0)) := by
  show StableHlo.after (List.flatten [hostOps0, hostOps0_1, hostOps0_2]) _ (Proc.devRef .tc main_v6) = _
  simp only [hostOps0, hostOps0_1, hostOps0_2, List.flatten_cons, List.flatten_nil, List.append_nil, List.cons_append, List.nil_append]
  after_results_simp
  rfl

theorem planes_at (a2 : FVec Ideal S24564x4 .f32) (k : Fin 4) (i : Fin 192) (j : Fin 128) : planes a2 (ix3 k i j)
    = if h : i.val * 128 + j.val < 24564 then a2 (ix2 ⟨i.val * 128 + j.val, h⟩ k) else padv k := by
  unfold planes
  generalize hl : (fun i : S4x1.Idx => (FloatOps.ofBits .f32 (lit0 (S4x1.rowMajor i)) : Ideal .f32)) = u
  have hu : ∀ k : Fin 4, u (ix2 k 0) = padv k := by
    intro k
    rw [← hl]
    fin_cases k <;> rfl
  rw [← hu]
  clear hl hu
  pointwise

theorem preds_at (a0 : FVec Ideal S16x24564x4 .f32) (b : Fin 16) (k : Fin 4) (i : Fin 192) (j : Fin 128) : preds a0 (ix4 b k i j)
    = if h : i.val * 128 + j.val < 24564 then a0 (ix3 b ⟨i.val * 128 + j.val, h⟩ k) else 0 := by
  unfold preds
  pointwise
  rw [show (FloatOps.sitofp FTy.f32 0#32 : Ideal .f32) = (0 : EReal) by simp [FloatOps.sitofp]]

end Cert.Proof.HostIn
-- ==== Proof.Block.lean ====
/- What one grid point computes, written once over the truth's number instead of twenty times over: the overlap of every
   prior with a truth, the running best truth of every prior, the prior each truth claims, the matched box and class, the
   localisation loss and the number of positives. The printed body is this, by definition. -/
module

public import proofs.«01_k».proof.Proof.Gen.KernelIdeal.Value

@[expose] public section

noncomputable section

namespace Cert.Proof.Block

open Cert.KernelIdeal Cert.KernelIdeal.Gen Idealize.ShloMosaic Idealize.ShloMosaic.TcCoe Idealize.ShloMosaic.Tactic

/-- A float for every prior, laid out as 192 rows of 128. -/
abbrev VF (F : FTy → Type) := FVec F S192x128 .f32
/-- A word for every prior. -/
abbrev VI := IVec S192x128 32

/-- What a grid point reads: the truths' five numbers, the priors' four planes, the predictions' four planes, the variances. -/
structure Ins (F : FTy → Type) where
  T : Fin 20 → Fin 5 → F .f32
  P : Fin 4 → FVec F S1x192x128 .f32
  L : Fin 4 → FVec F S1x1x192x128 .f32
  w0 : F .f32
  w1 : F .f32

variable {F : FTy → Type} [FloatOps F] (B : Ins F)

/-- A float constant at every prior. -/
def lit (b : BitVec 32) : VF F := broadcast S192x128 (Scalar.ofBits .f32 b)

/-- The priors' plane `k`: centre x, centre y, width, height. -/
def pl (k : Fin 4) : VF F := shapeCast S192x128 (B.P k) shapeCasts_S1x192x128_S192x128
/-- The priors' low and high corners on an axis, and their areas. -/
def lo (k k' : Fin 4) : VF F := subf (pl B k) (mulf (pl B k') (lit 0x3F000000#32))
def hi (k k' : Fin 4) : VF F := addf (pl B k) (mulf (pl B k') (lit 0x3F000000#32))
def areaP : VF F := mulf (subf (hi B 0 2) (lo B 0 2)) (subf (hi B 1 3) (lo B 1 3))

/-- How far truth `t` and each prior reach into each other on an axis, not below zero. -/
def side (t : Fin 20) (k k' : Fin 4) (a b : Fin 5) : VF F :=
  maximumf (subf (minimumf (hi B k k') (broadcast S192x128 (B.T t b))) (maximumf (lo B k k') (broadcast S192x128 (B.T t a))))
    (lit 0x00000000#32)
def inter (t : Fin 20) : VF F := mulf (side B t 0 2 0 2) (side B t 1 3 1 3)
/-- The overlap of truth `t` with each prior. -/
def ovl (t : Fin 20) : VF F :=
  divf (inter B t) (subf (addf (broadcast S192x128 (Scalar.mulf (Scalar.subf (B.T t 2) (B.T t 0)) (Scalar.subf (B.T t 3) (B.T t 1))))
    (areaP B)) (inter B t))

/-- Each prior's number. -/
def flat : VI :=
  addi (muli (iota .tc S192x128 32 [0] iota_S192x128_d0_w32) (broadcast S192x128 128#32)) (iota .tc S192x128 32 [1] iota_S192x128_d1_w32)

/-- The greatest of a float over the priors; the least of a word over them; the sum of a float. -/
def maxF (x : VF F) : F .f32 :=
  extractAt ![0, 0, 0] (shapeCast S1x1x1 (multiReduction .maximumf [1, 2] S1 (shapeCast S1x192x128 x shapeCasts_S192x128_S1x192x128)
    0xFF800000#32 reduces_S1x192x128_S1 (.inl rfl) rfl) shapeCasts_S1_S1x1x1) inpos_S1x1x1_p0_0_0
def minI (x : VI) : BitVec 32 :=
  extractAt ![0, 0, 0] (shapeCast S1x1x1 (multiReductionI .minsi [1, 2] S1 (shapeCast S1x192x128 x shapeCasts_S192x128_S1x192x128)
    2147483647#32 reduces_S1x192x128_S1 rfl) shapeCasts_S1_S1x1x1) inpos_S1x1x1_p0_0_0
def sumF (x : VF F) : F .f32 :=
  extractAt ![0, 0, 0] (shapeCast S1x1x1 (multiReduction .add [1, 2] S1 (shapeCast S1x192x128 x shapeCasts_S192x128_S1x192x128)
    0x00000000#32 reduces_S1x192x128_S1 (.inl rfl) rfl) shapeCasts_S1_S1x1x1) inpos_S1x1x1_p0_0_0

/-- The prior that truth `t` claims: the first at which its overlap is greatest. -/
def claim (t : Fin 20) : BitVec 32 :=
  minI (select (cmpf .oeq (ovl B t) (broadcast S192x128 (maxF (ovl B t)))) flat (broadcast S192x128 24576#32))

/-- The best overlap of each prior with the first `n` truths, from -1 on. -/
def bestF : (n : ℕ) → n ≤ 20 → VF F
  | 0, _ => lit 0xBF800000#32
  | n + 1, h => select (cmpf .ogt (ovl B ⟨n, h⟩) (bestF n (Nat.le_of_succ_le h))) (ovl B ⟨n, h⟩) (bestF n (Nat.le_of_succ_le h))
/-- … and the first truth that has it. -/
def bestI : (n : ℕ) → n ≤ 20 → VI
  | 0, _ => broadcast S192x128 0#32
  | n + 1, h => select (cmpf .ogt (ovl B ⟨n, h⟩) (bestF B n (Nat.le_of_succ_le h))) (broadcast S192x128 (BitVec.ofNat 32 n))
      (bestI n (Nat.le_of_succ_le h))

/-- The priors that truth `t` claims. -/
def hit (t : Fin 20) : IVec S192x128 1 := cmpi .eq flat (broadcast S192x128 (claim B t))
/-- The overlap and the truth after the first `n` truths have put their claims. -/
def putF : (n : ℕ) → n ≤ 20 → VF F
  | 0, _ => bestF B 20 (le_refl _)
  | n + 1, h => select (hit B ⟨n, h⟩) (lit 0x40000000#32) (putF n (Nat.le_of_succ_le h))
def putI : (n : ℕ) → n ≤ 20 → VI
  | 0, _ => bestI B 20 (le_refl _)
  | n + 1, h => select (hit B ⟨n, h⟩) (broadcast S192x128 (BitVec.ofNat 32 n)) (putI n (Nat.le_of_succ_le h))

/-- Each prior's overlap and truth. -/
def bto : VF F := putF B 20 (le_refl _)
def bti : VI := putI B 20 (le_refl _)

/-- Number `k` of each prior's truth, looked for among the first `n` truths. -/
def pick (k : Fin 5) : (n : ℕ) → n ≤ 20 → VF F
  | 0, _ => lit 0x00000000#32
  | n + 1, h => select (cmpi .eq (bti B) (broadcast S192x128 (BitVec.ofNat 32 n))) (broadcast S192x128 (B.T ⟨n, h⟩ k))
      (pick k n (Nat.le_of_succ_le h))
def got (k : Fin 5) : VF F := pick B k 20 (le_refl _)

/-- Each prior's class. -/
def conf : VI :=
  select (cmpf .olt (bto B) (lit 0x3F000000#32)) (broadcast S192x128 0#32)
    (addi (fptosi 32 (got B 4)) (broadcast S192x128 1#32))
/-- One at the positives, zero elsewhere. -/
def posF : VF F := sitofp .f32 (extui 32 (cmpi .sgt (conf B) (broadcast S192x128 0#32)) natLt_1_32)

/-- The encoded centre and the encoded size on an axis. -/
def gC (k k' : Fin 4) (a b : Fin 5) : VF F :=
  divf (subf (mulf (addf (got B a) (got B b)) (lit 0x3F000000#32)) (pl B k)) (mulf (broadcast S192x128 B.w0) (pl B k'))
def gS (k' : Fin 4) (a b : Fin 5) : VF F :=
  divf (log (divf (subf (got B b) (got B a)) (pl B k'))) (broadcast S192x128 B.w1)

/-- The smooth absolute value of a prediction's distance from what it should be. -/
def smooth (l g : VF F) : VF F :=
  select (cmpf .olt (absf (subf l g)) (lit 0x3F800000#32)) (mulf (mulf (lit 0x3F000000#32) (subf l g)) (subf l g))
    (subf (absf (subf l g)) (lit 0x3F000000#32))
def lp (k : Fin 4) : VF F := shapeCast S192x128 (B.L k) shapeCasts_S1x1x192x128_S192x128
/-- The four distances together. -/
def acc : VF F :=
  addf (addf (addf (addf (lit 0x00000000#32) (smooth (lp B 0) (gC B 0 2 0 2))) (smooth (lp B 1) (gC B 1 3 1 3)))
    (smooth (lp B 2) (gS B 2 0 2))) (smooth (lp B 3) (gS B 3 1 3))

/-- The localisation loss and the number of positives, in lanes 0 and 1. -/
def vec : FVec F S1x128 .f32 :=
  select (cmpi .eq (iota .tc S1x128 32 [1] iota_S1x128_d1_w32) (broadcast S1x128 0#32)) (broadcast S1x128 (sumF (mulf (acc B) (posF B))))
    (select (cmpi .eq (iota .tc S1x128 32 [1] iota_S1x128_d1_w32) (broadcast S1x128 1#32)) (broadcast S1x128 (sumF (posF B)))
      (broadcast S1x128 (Scalar.ofBits .f32 0x00000000#32)))

/-! ## The printed body -/

theorem inb_t (t : Fin 20) (k : Fin 5) : ∀ a : Fin 3, (![0, t.val, k.val] : Fin 3 → ℕ) a + S1x1x1.size a ≤ S1x20x5.size a := by
  have ht := t.isLt; have hk := k.isLt
  intro a; fin_cases a <;> simp [Shape.size] <;> omega
theorem inb_p (k : Fin 4) : ∀ a : Fin 3, (![k.val, 0, 0] : Fin 3 → ℕ) a + S1x192x128.size a ≤ S4x192x128.size a := by
  have hk := k.isLt
  intro a; fin_cases a <;> simp [Shape.size] <;> omega
theorem inb_l (k : Fin 4) : ∀ a : Fin 4, (![0, k.val, 0, 0] : Fin 4 → ℕ) a + S1x1x192x128.size a ≤ S1x4x192x128.size a := by
  have hk := k.isLt
  intro a; fin_cases a <;> simp [Shape.size] <;> omega

section Body
variable (c : Dev nD) (i : grid0.Coords) (arg1 : Memref sig .tc .smem S1x20x5 .f32) (harg1 : arg1.IsWhole) (arg2 : Memref sig .tc .smem S2 .f32) (harg2 : arg2.IsWhole) (arg3 : Memref sig .tc .vmem S4x192x128 .f32) (harg3 : arg3.IsWhole) (arg4 : Memref sig .tc .vmem S1x4x192x128 .f32) (harg4 : arg4.IsWhole) (arg5 : Memref sig .tc .vmem S1x192x128 .i32) (harg5 : arg5.IsWhole) (arg6 : Memref sig .tc .vmem S1x1x128 .f32) (harg6 : arg6.IsWhole)
    (x0 : Vec F S1x20x5 .f32) (x1 : Vec F S2 .f32) (x2 : Vec F S4x192x128 .f32) (x3 : Vec F S1x4x192x128 .f32)

/-- What the body loads. -/
def loads : Ins F where
  T t k := View.readAt (Elt F) arg1.view (Rect.unit (s := S1x20x5) ![0, t.val, k.val] S1x1x1.size (inb_t t k)).toLoadRect (harg1.unread x0)
    (Shape.Idx.first (numel1_S1x1x1.symm ▸ Nat.one_pos))
  P k := View.readAt (Elt F) arg3.view (Rect.unit (s := S4x192x128) ![k.val, 0, 0] S1x192x128.size (inb_p k)).toLoadRect (harg3.unread x2)
  L k := View.readAt (Elt F) arg4.view (Rect.unit (s := S1x4x192x128) ![0, k.val, 0, 0] S1x1x192x128.size (inb_l k)).toLoadRect (harg4.unread x3)
  w0 := View.readAt (Elt F) arg2.view (Rect.unit (s := S2) ![0] S1.size inb_S2_S1_0).toLoadRect (harg2.unread x1) (Shape.Idx.first (numel1_S1.symm ▸ Nat.one_pos))
  w1 := View.readAt (Elt F) arg2.view (Rect.unit (s := S2) ![1] S1.size inb_S2_S1_1).toLoadRect (harg2.unread x1) (Shape.Idx.first (numel1_S1.symm ▸ Nat.one_pos))

theorem hz3 : (![0, 0, 0] : Fin 3 → ℕ) = fun _ => 0 := funext fun a => by fin_cases a <;> rfl

/-- What the body stores as the classes. -/
theorem conf_eq :
    k0_pay226 (kernelRun0_A.sl.r_136 c arg1 harg1 arg3 harg3 x0 x2) (kernelRun0_A.sl.r_137 c arg1 harg1 arg3 harg3 x0 x2)
      (kernelRun0_A.sl.v1300 c arg1 harg1 arg3 harg3 x0 x2) (kernelRun0_A.sl.v1302 c arg1 harg1 arg3 harg3 x0 x2)
      (kernelRun0_A.sl.r_233 c arg1 harg1 x0) (kernelRun0_A.sl.r_234 c arg1 harg1 x0)
    = shapeCast S1x192x128 (conf (loads arg1 harg1 arg2 harg2 arg3 harg3 arg4 harg4 x0 x1 x2 x3)) shapeCasts_S192x128_S1x192x128 := by
  sl_kernel_rfl

/-- What the body stores as the loss and the count. -/
theorem vec_eq :
    k0_pay1 (kernelRun0_A.sl.r_249 c arg1 harg1 arg2 harg2 arg3 harg3 arg4 harg4 x0 x1 x2 x3)
    = shapeCast S1x1x128 (vec (loads arg1 harg1 arg2 harg2 arg3 harg3 arg4 harg4 x0 x1 x2 x3)) shapeCasts_S1x128_S1x1x128 := by
  sl_kernel_rfl

theorem out4_eq :
    out0_A_4 c i arg1 harg1 arg2 harg2 arg3 harg3 arg4 harg4 arg5 harg5 arg6 harg6 x0 x1 x2 x3
    = shapeCast S1x192x128 (conf (loads arg1 harg1 arg2 harg2 arg3 harg3 arg4 harg4 x0 x1 x2 x3)) shapeCasts_S192x128_S1x192x128 := by
  unfold out0_A_4 kernelRun0_A
  dsimp only
  rw [View.read_writes_junk_eq_canon, conf_eq c arg1 harg1 arg2 harg2 arg3 harg3 arg4 harg4 x0 x1 x2 x3]
  exact View.canon_unit_zero hz3 _ _

theorem out5_eq :
    out0_A_5 c i arg1 harg1 arg2 harg2 arg3 harg3 arg4 harg4 arg5 harg5 arg6 harg6 x0 x1 x2 x3
    = shapeCast S1x1x128 (vec (loads arg1 harg1 arg2 harg2 arg3 harg3 arg4 harg4 x0 x1 x2 x3)) shapeCasts_S1x128_S1x1x128 := by
  unfold out0_A_5 kernelRun0_A
  dsimp only
  rw [View.read_writes_junk_eq_canon, vec_eq c arg1 harg1 arg2 harg2 arg3 harg3 arg4 harg4 x0 x1 x2 x3]
  exact View.canon_unit_zero hz3 _ _

end Body
end Cert.Proof.Block
-- ==== Proof.KerVal.lean ====
/- What one grid point computes, read at each prior on extended reals: the overlaps are the specified ones, the prior that a
   truth claims is its first greatest overlap, each prior takes the truth specified, and the two sums are sums over priors. -/
module

public import proofs.«01_k».proof.Proof.Block
public import proofs.«01_k».proof.Proof.Spec
public import Idealize.ShloMosaic.Lib.Pointwise
public import Idealize.ShloMosaic.Lib.ValueIdx

@[expose] public section

noncomputable section

namespace Cert.Proof.KerVal

open Cert.KernelIdeal Cert.KernelIdeal.Gen Idealize.ShloMosaic Idealize.ShloMosaic.TcCoe Cert.Proof.Block Cert.Proof.Spec

/-- A prior's place in the plane of 192 rows of 128, and back. -/
def at_ (q : Fin 24576) : S192x128.Idx := ix2 ⟨q.val / 128, by have := q.isLt; omega⟩ ⟨q.val % 128, by omega⟩
def num (y : S192x128.Idx) : Fin 24576 := ⟨(y 0).val * 128 + (y 1).val, by
  have h0 : (y 0).val < 192 := (y 0).isLt
  have h1 : (y 1).val < 128 := (y 1).isLt
  omega⟩
theorem at_num (y : S192x128.Idx) : at_ (num y) = y := by
  have h0 : (y 0).val < 192 := (y 0).isLt
  have h1 : (y 1).val < 128 := (y 1).isLt
  funext a; fin_cases a
  · apply Fin.ext; show ((y 0).val * 128 + (y 1).val) / 128 = (y 0).val; omega
  · apply Fin.ext; show ((y 0).val * 128 + (y 1).val) % 128 = (y 1).val; omega
theorem num_at (q : Fin 24576) : num (at_ q) = q := by
  apply Fin.ext; show q.val / 128 * 128 + q.val % 128 = q.val; omega

/-! ## The reductions -/

theorem lit_at (b : BitVec 32) (i : S192x128.Idx) : lit (F := Ideal) b i = Ideal.ofBits .f32 b := rfl

theorem flat_at (q : Fin 24576) : flat (at_ q) = BitVec.ofNat 32 q.val := by
  unfold flat at_
  pointwise
  show BitVec.ofNat 32 (q.val / 128) * 128#32 + BitVec.ofNat 32 (q.val % 128) = _
  have hq := q.isLt
  apply BitVec.eq_of_toNat_eq
  simp only [BitVec.toNat_add, BitVec.toNat_mul, BitVec.toNat_ofNat]
  omega

theorem maxF_spec (x : VF Ideal) : (∀ q, x (at_ q) ≤ maxF x) ∧ ∃ q, x (at_ q) = maxF x := by
  have e : maxF x = Finset.fold max (Ideal.ofBits .f32 0xFF800000#32) (fun i : Fin 192 × Fin 128 => x (ix2 i.1 i.2)) Finset.univ := by
    unfold maxF
    pointwise
  have h := fold_pick (max : EReal → EReal → EReal) (· ≤ ·) le_refl (fun h h' => le_trans h h') max_choice le_max_left le_max_right
    (Ideal.ofBits .f32 0xFF800000#32) (fun i : Fin 192 × Fin 128 => x (ix2 i.1 i.2)) Finset.univ
  have e' := e.symm
  obtain ⟨h1, -, h3⟩ := h
  have hle : ∀ q, x (at_ q) ≤ maxF x := fun q => by rw [e]; exact h3 (_, _) (Finset.mem_univ _)
  refine ⟨hle, ?_⟩
  rcases h1 with h1 | ⟨i, -, h1⟩
  · refine ⟨⟨0, by decide⟩, le_antisymm (hle _) ?_⟩
    rw [e, h1, bot_eq]; exact bot_le
  · refine ⟨num (ix2 i.1 i.2), ?_⟩
    rw [at_num, e]; exact h1.symm

theorem minsi_choice (a b : BitVec 32) : IntOp.minsi a b = a ∨ IntOp.minsi a b = b := by
  unfold IntOp.minsi; split <;> simp
theorem minsi_left (a b : BitVec 32) : (IntOp.minsi a b).toInt ≤ a.toInt := by
  unfold IntOp.minsi; simp only [BitVec.slt]; split <;> simp_all; try omega
theorem minsi_right (a b : BitVec 32) : (IntOp.minsi a b).toInt ≤ b.toInt := by
  unfold IntOp.minsi; simp only [BitVec.slt]; split <;> simp_all; try omega

theorem minI_spec (x : VI) : (∀ q, (minI x).toInt ≤ (x (at_ q)).toInt) ∧ (minI x = 2147483647#32 ∨ ∃ q, minI x = x (at_ q)) := by
  have e : minI x = Finset.fold IntOp.minsi (2147483647#32) (fun i : Fin 192 × Fin 128 => x (ix2 i.1 i.2)) Finset.univ := by
    unfold minI
    pointwise
  have h := fold_pick (IntOp.minsi (w := 32)) (fun a b => b.toInt ≤ a.toInt) (fun _ => le_refl _) (fun h h' => le_trans h' h) minsi_choice
    minsi_left minsi_right (2147483647#32) (fun i : Fin 192 × Fin 128 => x (ix2 i.1 i.2)) Finset.univ
  rw [← e] at h
  obtain ⟨h1, -, h3⟩ := h
  refine ⟨fun q => h3 (_, _) (Finset.mem_univ _), ?_⟩
  rcases h1 with h1 | ⟨i, -, h1⟩
  · exact .inl h1
  · exact .inr ⟨num (ix2 i.1 i.2), by rw [at_num]; exact h1⟩

/-- The priors' numbers as pairs of a row and a lane. -/
def pairs : Fin 192 × Fin 128 ≃ Fin 24576 where
  toFun i := num (ix2 i.1 i.2)
  invFun q := (⟨q.val / 128, by have := q.isLt; omega⟩, ⟨q.val % 128, by omega⟩)
  left_inv i := by
    have h := at_num (ix2 i.1 i.2)
    exact Prod.ext (congrFun h 0) (congrFun h 1)
  right_inv q := num_at q

theorem sumF_eq (x : VF Ideal) : sumF x = ∑ q : Fin 24576, x (at_ q) := by
  have e : sumF x = ∑ i : Fin 192, ∑ j : Fin 128, x (ix2 i j) := by
    unfold sumF
    pointwise
  rw [e, ← Fintype.sum_prod_type' (fun i j => x (ix2 i j)), ← Equiv.sum_comp pairs]
  exact Finset.sum_congr rfl fun i _ => by
    show _ = x (at_ (num (ix2 i.1 i.2)))
    rw [at_num]

/-! ## A grid point -/

/-- What a grid point reads is image `D`. -/
structure Is (B : Ins Ideal) (D : Img) : Prop where
  T : ∀ t k, B.T t k = D.T t k
  p : ∀ q k, pl B k (at_ q) = D.pp q k
  l : ∀ q k, lp B k (at_ q) = D.ll q k
  w0 : B.w0 = D.w0
  w1 : B.w1 = D.w1

variable {B : Ins Ideal} {D : Img}

theorem ovl_at (h : Is B D) (t : Fin 20) (q : Fin 24576) : ovl B t (at_ q) = D.o t q := by
  unfold Img.o ovS interS sideS areaS
  rw [← h.T, ← h.T, ← h.T, ← h.T, ← h.p, ← h.p, ← h.p, ← h.p, ← Ideal.ofBits_zero_f32]
  rfl

theorem claim_at (h : Is B D) (t : Fin 20) : claim B t = BitVec.ofNat 32 (cp D.o t).val := by
  have hm := maxF_spec (ovl B t)
  have hc := minI_spec (select (cmpf .oeq (ovl B t) (broadcast S192x128 (maxF (ovl B t)))) flat (broadcast S192x128 24576#32))
  have hp := cp_first D.o t
  have hpl := (cp D.o t).isLt
  have emax : maxF (ovl B t) = D.o t (cp D.o t) := by
    obtain ⟨h1, q, h2⟩ := hm
    apply le_antisymm
    · rw [← h2, ovl_at h]; exact hp.1 q
    · rw [← ovl_at h]; exact h1 _
  have key : ∀ q, select (cmpf .oeq (ovl B t) (broadcast S192x128 (maxF (ovl B t)))) flat (broadcast S192x128 24576#32) (at_ q)
      = if D.o t q = D.o t (cp D.o t) then BitVec.ofNat 32 q.val else 24576#32 := by
    intro q
    rw [sel_at, cmpf_at, bc_at, bc_at, emax, ovl_at h, flat_at, Ideal.cmp, select_ofBool]
  rw [← claim] at hc
  obtain ⟨h1, h2⟩ := hc
  have hle := h1 (cp D.o t)
  rw [key, if_pos rfl, toInt_ofNat (by omega)] at hle
  rcases h2 with h2 | ⟨q, h2⟩
  · rw [h2] at hle; have : (2147483647#32).toInt = 2147483647 := by decide
    omega
  · rw [key] at h2
    split at h2
    · next hq =>
      rw [h2, toInt_ofNat (by have := q.isLt; omega)] at hle
      have := Fin.le_def.1 (hp.2 q hq)
      rw [h2]; exact congrArg (BitVec.ofNat 32) (by omega)
    · rw [h2] at hle; have : (24576#32).toInt = 24576 := by decide
      omega

/-- The running best after `n + 1` truths: the first of greatest overlap among them. -/
theorem best_at (h : Is B D) (g : D.Good) (q : Fin 24576) (n : ℕ) (hn : n + 1 ≤ 20) :
    ∃ p : Fin 20, p.val ≤ n ∧ bestF B (n + 1) hn (at_ q) = D.o p q ∧ bestI B (n + 1) hn (at_ q) = BitVec.ofNat 32 p.val
      ∧ (∀ s : Fin 20, s.val ≤ n → D.o s q ≤ D.o p q) ∧ ∀ s : Fin 20, s.val ≤ n → D.o s q = D.o p q → p ≤ s := by
  have stepF : ∀ (n : ℕ) (hn : n + 1 ≤ 20), bestF B (n + 1) hn (at_ q)
      = if bestF B n (Nat.le_of_succ_le hn) (at_ q) < D.o ⟨n, hn⟩ q then D.o ⟨n, hn⟩ q else bestF B n (Nat.le_of_succ_le hn) (at_ q) := by
    intro n hn
    show Scalar.select (Ideal.cmp .ogt (ovl B ⟨n, hn⟩ (at_ q)) (bestF B n _ (at_ q))) (ovl B ⟨n, hn⟩ (at_ q)) (bestF B n _ (at_ q)) = _
    rw [ovl_at h]; exact select_ofBool _ _ _
  have stepI : ∀ (n : ℕ) (hn : n + 1 ≤ 20), bestI B (n + 1) hn (at_ q)
      = if bestF B n (Nat.le_of_succ_le hn) (at_ q) < D.o ⟨n, hn⟩ q then BitVec.ofNat 32 n else bestI B n (Nat.le_of_succ_le hn) (at_ q) := by
    intro n hn
    show Scalar.select (Ideal.cmp .ogt (ovl B ⟨n, hn⟩ (at_ q)) (bestF B n _ (at_ q))) (BitVec.ofNat 32 n) (bestI B n _ (at_ q)) = _
    rw [ovl_at h]; exact select_ofBool _ _ _
  induction n with
  | zero =>
    have h0 : bestF B 0 (Nat.le_of_succ_le hn) (at_ q) < D.o ⟨0, hn⟩ q := by
      show Ideal.ofBits .f32 0xBF800000#32 < _
      refine lt_of_lt_of_le ?_ (g.nonneg _ q)
      rw [neg_one_eq]; norm_num
    refine ⟨⟨0, hn⟩, le_refl _, ?_, ?_, ?_, ?_⟩
    · rw [stepF, if_pos h0]
    · rw [stepI, if_pos h0]
    · intro s hs; rw [show s = ⟨0, hn⟩ from Fin.ext (by show s.val = 0; omega)]
    · intro s _ _; exact Fin.le_def.2 (Nat.zero_le _)
  | succ n ih =>
    obtain ⟨p, hp, e1, e2, h1, h2⟩ := ih (Nat.le_of_succ_le hn)
    by_cases hlt : D.o p q < D.o ⟨n + 1, hn⟩ q
    · refine ⟨⟨n + 1, hn⟩, le_refl _, ?_, ?_, ?_, ?_⟩
      · rw [stepF, e1, if_pos hlt]
      · rw [stepI, e1, if_pos hlt]
      · intro s hs
        rcases Nat.lt_or_ge n s.val with h' | h'
        · rw [show s = ⟨n + 1, hn⟩ from Fin.ext (by show s.val = n + 1; omega)]
        · exact (h1 s h').trans hlt.le
      · intro s hs he
        rcases Nat.lt_or_ge n s.val with h' | h'
        · exact Fin.le_def.2 h'
        · exact absurd (he ▸ h1 s h') (not_le.2 hlt)
    · refine ⟨p, by omega, ?_, ?_, ?_, ?_⟩
      · rw [stepF, e1, if_neg hlt]
      · rw [stepI, e1, if_neg hlt, e2]
      · intro s hs
        rcases Nat.lt_or_ge n s.val with h' | h'
        · rw [show s = ⟨n + 1, hn⟩ from Fin.ext (by show s.val = n + 1; omega)]; exact not_lt.1 hlt
        · exact h1 s h'
      · intro s hs he
        rcases Nat.lt_or_ge n s.val with h' | h'
        · exact Fin.le_def.2 (by omega)
        · exact h2 s h' he

theorem hit_at (h : Is B D) (t : Fin 20) (q : Fin 24576) : hit B t (at_ q) = BitVec.ofBool (decide (cp D.o t = q)) := by
  rw [hit, cmpi_at, bc_at, flat_at, claim_at h, cmpi_eq]
  have := q.isLt; have := (cp D.o t).isLt
  congr 1
  rw [decide_eq_decide, ofNat_inj (by omega) (by omega), eq_comm, Fin.ext_iff]

/-- After the first `n` claims: the last of them that is on the prior, or nothing changed. -/
theorem put_at (h : Is B D) (q : Fin 24576) (n : ℕ) (hn : n ≤ 20) :
    (∃ s : Fin 20, s.val < n ∧ cp D.o s = q ∧ (∀ r : Fin 20, r.val < n → cp D.o r = q → r ≤ s)
      ∧ putI B n hn (at_ q) = BitVec.ofNat 32 s.val ∧ putF B n hn (at_ q) = Ideal.ofBits .f32 0x40000000#32)
    ∨ ((∀ s : Fin 20, s.val < n → cp D.o s ≠ q) ∧ putI B n hn (at_ q) = bestI B 20 (le_refl _) (at_ q)
      ∧ putF B n hn (at_ q) = bestF B 20 (le_refl _) (at_ q)) := by
  induction n with
  | zero => exact .inr ⟨fun s hs => absurd hs (Nat.not_lt_zero _), rfl, rfl⟩
  | succ n ih =>
    have eF : putF B (n + 1) hn (at_ q) = if cp D.o ⟨n, hn⟩ = q then Ideal.ofBits .f32 0x40000000#32 else putF B n (Nat.le_of_succ_le hn) (at_ q) := by
      rw [putF, sel_at, hit_at h, select_ofBool, lit_at]
    have eI : putI B (n + 1) hn (at_ q) = if cp D.o ⟨n, hn⟩ = q then BitVec.ofNat 32 n else putI B n (Nat.le_of_succ_le hn) (at_ q) := by
      rw [putI, sel_at, hit_at h, select_ofBool, bc_at]
    by_cases hc : cp D.o ⟨n, hn⟩ = q
    · rw [if_pos hc] at eF eI
      exact .inl ⟨⟨n, hn⟩, Nat.lt_succ_self n, hc, fun r hr _ => Fin.le_def.2 (Nat.le_of_lt_succ hr), eI, eF⟩
    · rw [if_neg hc] at eF eI
      rw [eF, eI]
      rcases ih (Nat.le_of_succ_le hn) with ⟨s, h1, h2, h3, h4, h5⟩ | ⟨h1, h2⟩
      · refine .inl ⟨s, by omega, h2, fun r hr hr' => ?_, h4, h5⟩
        rcases Nat.lt_or_ge r.val n with h' | h'
        · exact h3 r h' hr'
        · exact absurd ((show r = ⟨n, hn⟩ from Fin.ext (by show r.val = n; omega)) ▸ hr') hc
      · refine .inr ⟨fun s hs hs' => ?_, h2⟩
        rcases Nat.lt_or_ge s.val n with h' | h'
        · exact h1 s h' hs'
        · exact absurd ((show s = ⟨n, hn⟩ from Fin.ext (by show s.val = n; omega)) ▸ hs') hc

theorem bt_at (h : Is B D) (g : D.Good) (q : Fin 24576) :
    bti B (at_ q) = BitVec.ofNat 32 (D.tr q).val ∧ bto B (at_ q) = best D.o q (D.tr q) := by
  rcases put_at h q 20 (le_refl _) with ⟨s, h1, h2, h3, h4, h5⟩ | ⟨h1, h2, h3⟩
  · have e : D.tr q = s := (D.tr_spec q).unique (.inl ⟨h2, fun r hr => h3 r r.isLt hr⟩)
    exact ⟨by rw [e]; exact h4, by rw [best, if_pos ⟨s, h2⟩]; exact h5⟩
  · obtain ⟨p, -, e1, e2, h4, h5⟩ := best_at h g q 19 (le_refl _)
    have hn : ∀ s, cp D.o s ≠ q := fun s => h1 s s.isLt
    have e : D.tr q = p := (D.tr_spec q).unique (.inr ⟨hn, fun s => h4 s (by have := s.isLt; omega), fun s hs => h5 s (by have := s.isLt; omega) hs⟩)
    refine ⟨by rw [e]; exact h2.trans e2, ?_⟩
    rw [best, if_neg (fun ⟨s, hs⟩ => hn s hs), e]; exact h3.trans e1

theorem pick_at (h : Is B D) (g : D.Good) (k : Fin 5) (q : Fin 24576) (n : ℕ) (hn : n ≤ 20) :
    pick B k n hn (at_ q) = if (D.tr q).val < n then D.T (D.tr q) k else Ideal.ofBits .f32 0x00000000#32 := by
  induction n with
  | zero => rw [if_neg (Nat.not_lt_zero _)]; rfl
  | succ n ih =>
    have e : pick B k (n + 1) hn (at_ q) = if (D.tr q).val = n then D.T ⟨n, hn⟩ k else pick B k n (Nat.le_of_succ_le hn) (at_ q) := by
      rw [pick, sel_at, cmpi_at, bc_at, bc_at, (bt_at h g q).1, cmpi_eq, select_ofBool, h.T]
      have := (D.tr q).isLt
      simp only [ofNat_inj (show (D.tr q).val < 2 ^ 31 by omega) (show n < 2 ^ 31 by omega)]
    rw [e, ih]
    by_cases hc : (D.tr q).val = n
    · rw [if_pos hc, if_pos (by omega)]
      exact congrArg (fun t => D.T t k) (Fin.ext hc.symm)
    · rw [if_neg hc]
      by_cases hl : (D.tr q).val < n
      · rw [if_pos hl, if_pos (by omega)]
      · rw [if_neg hl, if_neg (by omega)]

theorem got_at (h : Is B D) (g : D.Good) (k : Fin 5) (q : Fin 24576) : got B k (at_ q) = D.T (D.tr q) k := by
  rw [got, pick_at h g, if_pos (D.tr q).isLt]

/-- The classes. -/
theorem conf_at (h : Is B D) (g : D.Good) (q : Fin 24576) : conf B (at_ q) = D.conf q := by
  have e : fptosi 32 (got B 4) (at_ q) = Ideal.fptosi 32 (got B 4 (at_ q)) := rfl
  rw [conf, sel_at, cmpf_at, addi_at, bc_at, bc_at, lit_at, e, (bt_at h g q).2, got_at h g, Ideal.cmp, select_ofBool, Img.conf]

theorem posF_at (h : Is B D) (g : D.Good) (q : Fin 24576) : posF B (at_ q) = D.pos q := by
  have e : ∀ c : IVec S192x128 1, sitofp (F := Ideal) .f32 (extui 32 c natLt_1_32) (at_ q) = ((((c (at_ q)).setWidth 32).toInt : ℝ) : EReal) := fun _ => rfl
  rw [posF, e, cmpi_at, bc_at, conf_at h g, Img.pos]
  by_cases hc : 0 < (D.conf q).toInt
  · rw [if_pos hc]; simp [IntOp.cmpi, BitVec.slt, hc]
  · rw [if_neg hc]; simp [IntOp.cmpi, BitVec.slt, hc]

theorem gC_at (h : Is B D) (g : D.Good) (k k' : Fin 4) (a b : Fin 5) (q : Fin 24576) : gC B k k' a b (at_ q) = D.gC q k k' a b := by
  show Ideal.div ((got B a (at_ q) + got B b (at_ q)) * Ideal.ofBits .f32 0x3F000000#32 - pl B k (at_ q)) (B.w0 * pl B k' (at_ q)) = _
  rw [got_at h g, got_at h g, h.p, h.p, h.w0]; rfl
theorem gS_at (h : Is B D) (g : D.Good) (k' : Fin 4) (a b : Fin 5) (q : Fin 24576) : gS B k' a b (at_ q) = D.gS q k' a b := by
  show Ideal.div (Ideal.log (Ideal.div (got B b (at_ q) - got B a (at_ q)) (pl B k' (at_ q)))) B.w1 = _
  rw [got_at h g, got_at h g, h.p, h.w1]; rfl

theorem smooth_at (l g : VF Ideal) (y : S192x128.Idx) : smooth l g y = Img.sm (l y - g y) := by
  show Scalar.select (Ideal.cmp .olt (max (l y - g y) (-(l y - g y))) (Ideal.ofBits .f32 0x3F800000#32)) _ _ = _
  rw [Ideal.ofBits_one_f32]
  exact select_ofBool _ _ _

theorem acc_at (h : Is B D) (g : D.Good) (q : Fin 24576) : acc B (at_ q) = ∑ k : Fin 4, Img.sm (D.ll q k - D.g q k) := by
  show Ideal.ofBits .f32 0x00000000#32 + smooth (lp B 0) (gC B 0 2 0 2) (at_ q) + smooth (lp B 1) (gC B 1 3 1 3) (at_ q)
    + smooth (lp B 2) (gS B 2 0 2) (at_ q) + smooth (lp B 3) (gS B 3 1 3) (at_ q) = _
  rw [smooth_at, smooth_at, smooth_at, smooth_at, h.l, h.l, h.l, h.l, gC_at h g, gC_at h g, gS_at h g, gS_at h g, Ideal.ofBits_zero_f32, zero_add,
    Fin.sum_univ_four]
  rfl

theorem mul_pos_sum (f : Fin 4 → EReal) (q : Fin 24576) : (∑ k, f k) * D.pos q = ∑ k, f k * D.pos q := by
  rcases D.pos_cases q with h | h <;> simp [h]

/-- The loss. -/
theorem loss_eq (h : Is B D) (g : D.Good) : sumF (mulf (acc B) (posF B)) = D.loss := by
  rw [sumF_eq, Img.sum_pad]
  · refine Finset.sum_congr rfl fun q _ => ?_
    show acc B (at_ _) * posF B (at_ _) = _
    rw [acc_at h g, posF_at h g, mul_pos_sum]
    refine Finset.sum_congr rfl fun k _ => ?_
    have e : D.ll (Fin.castLE (by decide) q) k = D.l q k := dif_pos q.isLt
    rw [e]
  · intro q hq
    show acc B (at_ q) * posF B (at_ q) = 0
    rw [posF_at h g, g.pos_pad q hq, mul_zero]

/-- The number of positives. -/
theorem npos_eq (h : Is B D) (g : D.Good) : sumF (posF B) = D.npos := by
  rw [sumF_eq, Img.sum_pad]
  · exact Finset.sum_congr rfl fun q _ => posF_at h g _
  · intro q hq; rw [posF_at h g, g.pos_pad q hq]

theorem vec_at (h : Is B D) (g : D.Good) (j : Fin 128) :
    vec B (ix2 0 j) = if j.val = 0 then D.loss else if j.val = 1 then D.npos else 0 := by
  have e : iota .tc S1x128 32 [1] iota_S1x128_d1_w32 (ix2 0 j) = BitVec.ofNat 32 j.val := by pointwise
  have e0 : Scalar.ofBits (F := Ideal) .f32 0x00000000#32 = Ideal.ofBits .f32 0x00000000#32 := rfl
  have := j.isLt
  rw [vec, sel_at, sel_at, cmpi_at, cmpi_at, bc_at, bc_at, bc_at, bc_at, bc_at, e, e0, loss_eq h g, npos_eq h g, cmpi_eq, cmpi_eq, select_ofBool, select_ofBool, Ideal.ofBits_zero_f32]
  simp only [show (0#32) = BitVec.ofNat 32 0 from rfl, show (1#32) = BitVec.ofNat 32 1 from rfl,
    ofNat_inj (show j.val < 2 ^ 31 by omega) (show 0 < 2 ^ 31 by omega), ofNat_inj (show j.val < 2 ^ 31 by omega) (show 1 < 2 ^ 31 by omega)]

end Cert.Proof.KerVal
-- ==== Proof.Run.lean ====
/- The kernel's two result arrays as functions of the arguments: grid point `t` computes image `t`. -/
module

public import proofs.«01_k».proof.Proof.HostIn
public import proofs.«01_k».proof.Proof.KerVal

@[expose] public section

noncomputable section

namespace Cert.Proof.Run

open Cert.KernelIdeal Cert.KernelIdeal.Gen Cert.KernelIdeal.Value Idealize.ShloMosaic Idealize.ShloMosaic.TcCoe Idealize.SL.Sem
open Cert.Proof.Spec Cert.Proof.HostIn Cert.Proof.KerVal

/-! ## The windows -/

theorem N_eq : cfg0.N = 16 := by decide +kernel

/-- The image of a grid point. -/
def im (t : Fin cfg0.N) : Fin 16 := ⟨t.val, by have h := t.isLt; have e := N_eq; omega⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 1) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb0 (t : Fin cfg0.N) (j : S1x20x5.Idx) : ((cfg0.win 0).blk t).view.emb j = ix3 (im t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 20 + 1 * (j 1).val = (j 1).val; omega
  | ⟨2, _⟩ => show win0_0.index t (2 : Fin 3) * 5 + 1 * (j 2).val = (j 2).val; omega
theorem emb1 (t : Fin cfg0.N) (j : S2.Idx) : ((cfg0.win 1).blk t).view.emb j = j := by
  have e0 := idx1 t
  funext a; apply Fin.ext
  match a with
  | ⟨0, _⟩ => show win0_1.index t (0 : Fin 1) * 2 + 1 * (j 0).val = (j 0).val; omega
theorem emb2 (t : Fin cfg0.N) (j : S4x192x128.Idx) : ((cfg0.win 2).blk t).view.emb j = j := by
  obtain ⟨e0, e1, e2⟩ := idx2 t
  funext a; apply Fin.ext
  match a with
  | ⟨0, _⟩ => show win0_2.index t (0 : Fin 3) * 4 + 1 * (j 0).val = (j 0).val; omega
  | ⟨1, _⟩ => show win0_2.index t (1 : Fin 3) * 192 + 1 * (j 1).val = (j 1).val; omega
  | ⟨2, _⟩ => show win0_2.index t (2 : Fin 3) * 128 + 1 * (j 2).val = (j 2).val; omega
theorem emb3 (t : Fin cfg0.N) (j : S1x4x192x128.Idx) : ((cfg0.win 3).blk t).view.emb j = ix4 (im t) (j 1) (j 2) (j 3) := by
  obtain ⟨e0, e1, e2, e3⟩ := idx3 t
  have h0 : (j 0).val < 1 := (j 0).isLt
  funext a; apply Fin.ext
  match a with
  | ⟨0, _⟩ => show win0_3.index t (0 : Fin 4) * 1 + 1 * (j 0).val = t.val; omega
  | ⟨1, _⟩ => show win0_3.index t (1 : Fin 4) * 4 + 1 * (j 1).val = (j 1).val; omega
  | ⟨2, _⟩ => show win0_3.index t (2 : Fin 4) * 192 + 1 * (j 2).val = (j 2).val; omega
  | ⟨3, _⟩ => show win0_3.index t (3 : Fin 4) * 128 + 1 * (j 3).val = (j 3).val; omega
theorem emb4 (t : Fin cfg0.N) (j : S1x192x128.Idx) : ((cfg0.win 4).blk t).view.emb j = ix3 (im t) (j 1) (j 2) := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 192 + 1 * (j 1).val = (j 1).val; omega
  | ⟨2, _⟩ => show win0_4.index t (2 : Fin 3) * 128 + 1 * (j 2).val = (j 2).val; omega
theorem emb5 (t : Fin cfg0.N) (j : S1x1x128.Idx) : ((cfg0.win 5).blk t).view.emb j = ix3 (im t) 0 (j 2) := by
  obtain ⟨e0, e1, e2⟩ := idx5 t
  have h0 : (j 0).val < 1 := (j 0).isLt
  have h1 : (j 1).val < 1 := (j 1).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = 0; omega
  | ⟨2, _⟩ => show win0_5.index t (2 : Fin 3) * 128 + 1 * (j 2).val = (j 2).val; omega

/-! ## What a grid point reads -/

/-- Image `b` of the arguments. -/
def img (a0 : FVec Ideal S16x24564x4 .f32) (a1 : FVec Ideal S16x20x5 .f32) (a2 : FVec Ideal S24564x4 .f32) (a3 : FVec Ideal S2 .f32) (b : Fin 16) : Img where
  T t k := a1 (ix3 b t k)
  p q k := a2 (ix2 q k)
  l q k := a0 (ix3 b q k)
  w0 := a3 (ix1 0)
  w1 := a3 (ix1 1)

section Loads
variable (arg1 : Memref sig .tc .smem S1x20x5 .f32) (harg1 : arg1.IsWhole) (arg2 : Memref sig .tc .smem S2 .f32) (harg2 : arg2.IsWhole)
  (arg3 : Memref sig .tc .vmem S4x192x128 .f32) (harg3 : arg3.IsWhole) (arg4 : Memref sig .tc .vmem S1x4x192x128 .f32) (harg4 : arg4.IsWhole)
  (x0 : Vec Ideal S1x20x5 .f32) (x1 : Vec Ideal S2 .f32) (x2 : Vec Ideal S4x192x128 .f32) (x3 : Vec Ideal S1x4x192x128 .f32)

theorem T_at (t : Fin 20) (k : Fin 5) : (Block.loads arg1 harg1 arg2 harg2 arg3 harg3 arg4 harg4 x0 x1 x2 x3).T t k = x0 (ix3 0 t k) := by
  unfold Block.loads
  dsimp only
  rw [View.readAt_apply, harg1.read_unread]
  exact congrArg x0 (funext fun a => by match a with | ⟨0, _⟩ => rfl | ⟨1, _⟩ => exact Fin.ext rfl | ⟨2, _⟩ => exact Fin.ext rfl)
theorem w0_at : (Block.loads arg1 harg1 arg2 harg2 arg3 harg3 arg4 harg4 x0 x1 x2 x3).w0 = x1 (ix1 0) := by
  unfold Block.loads
  dsimp only
  rw [View.readAt_apply, harg2.read_unread]
  exact congrArg x1 (funext fun a => by match a with | ⟨0, _⟩ => rfl)
theorem w1_at : (Block.loads arg1 harg1 arg2 harg2 arg3 harg3 arg4 harg4 x0 x1 x2 x3).w1 = x1 (ix1 1) := by
  unfold Block.loads
  dsimp only
  rw [View.readAt_apply, harg2.read_unread]
  exact congrArg x1 (funext fun a => by match a with | ⟨0, _⟩ => rfl)
theorem P_at (k : Fin 4) (i : Fin 192) (j : Fin 128) : (Block.loads arg1 harg1 arg2 harg2 arg3 harg3 arg4 harg4 x0 x1 x2 x3).P k (ix3 0 i j) = x2 (ix3 k i j) := by
  unfold Block.loads
  dsimp only
  rw [View.readAt_apply, harg3.read_unread]
  refine congrArg x2 (funext fun a => Fin.ext ?_)
  match a with
  | ⟨0, _⟩ => show k.val + 1 * 0 = k.val; omega
  | ⟨1, _⟩ => show 0 + 1 * i.val = i.val; omega
  | ⟨2, _⟩ => show 0 + 1 * j.val = j.val; omega
theorem L_at (k : Fin 4) (i : Fin 192) (j : Fin 128) : (Block.loads arg1 harg1 arg2 harg2 arg3 harg3 arg4 harg4 x0 x1 x2 x3).L k (ix4 0 0 i j) = x3 (ix4 0 k i j) := by
  unfold Block.loads
  dsimp only
  rw [View.readAt_apply, harg4.read_unread]
  refine congrArg x3 (funext fun a => Fin.ext ?_)
  match a with
  | ⟨0, _⟩ => rfl
  | ⟨1, _⟩ => show k.val + 1 * 0 = k.val; omega
  | ⟨2, _⟩ => show 0 + 1 * i.val = i.val; omega
  | ⟨3, _⟩ => show 0 + 1 * j.val = j.val; omega
end Loads

theorem pl_at (B : Block.Ins Ideal) (k : Fin 4) (i : Fin 192) (j : Fin 128) : Block.pl B k (ix2 i j) = B.P k (ix3 0 i j) := by
  unfold Block.pl
  generalize B.P k = x
  pointwise
theorem lp_at (B : Block.Ins Ideal) (k : Fin 4) (i : Fin 192) (j : Fin 128) : Block.lp B k (ix2 i j) = B.L k (ix4 0 0 i j) := by
  unfold Block.lp
  generalize B.L k = x
  pointwise

variable (m : (ℓ : Loc nD τ sig) → Buf (Elt Ideal) ℓ) (ρ : Dev nD → PrngReg)

/-- Image `b` of what device `c` is launched with. -/
def imgm (c : Dev nD) (b : Fin 16) : Img :=
  img (m ((c : Thread nD τ).loc main_arg0)) (m ((c : Thread nD τ).loc main_arg1)) (m ((c : Thread nD τ).loc main_arg2)) (m ((c : Thread nD τ).loc main_arg3)) b

/-- What grid point `t` reads. -/
def ins (c : Dev nD) (t : Fin cfg0.N) : Block.Ins Ideal :=
  Block.loads (ms0_0 t) (hs0_0 t) (ms0_1 t) (hs0_1 t) (ms0_2 t) (hs0_2 t) (ms0_3 t) (hs0_3 t) (iblk m c 0 t) (iblk m c 1 t) (iblk m c 2 t) (iblk m c 3 t)

theorem iblk0_at (c : Dev nD) (t : Fin cfg0.N) (s : Fin 20) (k : Fin 5) :
    iblk m c 0 t (ix3 0 s k) = m ((c : Thread nD τ).loc main_arg1) (ix3 (im t) s k) := by
  show V m c main_arg1 (((cfg0.win 0).blk t).view.emb (ix3 0 s k)) = _
  rw [V_main_arg1, emb0]
  rfl
theorem iblk1_at (c : Dev nD) (t : Fin cfg0.N) (j : S2.Idx) : iblk m c 1 t j = m ((c : Thread nD τ).loc main_arg3) j := by
  show V m c main_arg3 (((cfg0.win 1).blk t).view.emb j) = _
  rw [V_main_arg3, emb1]
theorem iblk2_at (c : Dev nD) (t : Fin cfg0.N) (j : S4x192x128.Idx) : iblk m c 2 t j = planes (F := Ideal) (m ((c : Thread nD τ).loc main_arg2)) j := by
  show V m c main_v3 (((cfg0.win 2).blk t).view.emb j) = _
  rw [V_main_v3, emb2]
theorem iblk3_at (c : Dev nD) (t : Fin cfg0.N) (k : Fin 4) (i : Fin 192) (j : Fin 128) :
    iblk m c 3 t (ix4 0 k i j) = preds (F := Ideal) (m ((c : Thread nD τ).loc main_arg0)) (ix4 (im t) k i j) := by
  show V m c main_v6 (((cfg0.win 3).blk t).view.emb (ix4 0 k i j)) = _
  rw [V_main_v6, emb3]
  rfl

theorem place (q : Fin 24576) : q.val / 128 * 128 + q.val % 128 = q.val := by omega

/-- Grid point `t` reads image `t`. -/
theorem ins_is (c : Dev nD) (t : Fin cfg0.N) : Is (ins m c t) (imgm m c (im t)) where
  T s k := (T_at ..).trans (iblk0_at m c t s k)
  p q k := by
    rw [at_, pl_at, ins, P_at, iblk2_at, planes_at, Img.pp]
    simp only [place]
    rfl
  l q k := by
    rw [at_, lp_at, ins, L_at, iblk3_at, preds_at, Img.ll]
    simp only [place]
    rfl
  w0 := (w0_at ..).trans (iblk1_at m c t _)
  w1 := (w1_at ..).trans (iblk1_at m c t _)

/-! ## The result arrays -/

/-- The classes and the sums, image by image. -/
def G4 (D : Fin 16 → Img) : IVec S16x192x128 32 := fun y => (D (y 0)).conf (num (ix2 (y 1) (y 2)))
def G5 (D : Fin 16 → Img) : FVec Ideal S16x1x128 .f32 := fun y => if (y 2).val = 0 then (D (y 0)).loss else if (y 2).val = 1 then (D (y 0)).npos else 0

theorem sc4 (x : IVec S192x128 32) (j : S1x192x128.Idx) : shapeCast S1x192x128 x shapeCasts_S192x128_S1x192x128 j = x (ix2 (j 1) (j 2)) := by
  obtain ⟨a, b, c, rfl⟩ : ∃ a b c, j = ix3 a b c := ⟨_, _, _, eq_ix3 j⟩
  have ha : a = 0 := Subsingleton.elim _ _
  subst ha
  show _ = x (ix2 b c)
  pointwise
theorem sc5 (x : FVec Ideal S1x128 .f32) (j : S1x1x128.Idx) : shapeCast S1x1x128 x shapeCasts_S1x128_S1x1x128 j = x (ix2 0 (j 2)) := by
  obtain ⟨a, b, c, rfl⟩ : ∃ a b c, j = ix3 a b c := ⟨_, _, _, eq_ix3 j⟩
  have ha : a = 0 := Subsingleton.elim _ _
  have hb : b = 0 := Subsingleton.elim _ _
  subst ha hb
  show _ = x (ix2 0 c)
  pointwise

section
variable {m} {c : Dev nD} (g : ∀ b, (imgm m c b).Good)
include g

theorem flushed4_eq (t : Fin cfg0.N) : (dats m 0 c).flushed 4 t = ((cfg0.win 4).blk t).view.read (Elt Ideal) (G4 (imgm m c)) := by
  rw [flushed4_A, Block.out4_eq]
  funext j
  show shapeCast S1x192x128 (Block.conf (ins m c t)) shapeCasts_S192x128_S1x192x128 j = G4 (imgm m c) (((cfg0.win 4).blk t).view.emb j)
  rw [emb4, sc4, ← at_num (ix2 (j 1) (j 2)), conf_at (ins_is m c t) (g _)]
  rfl

theorem flushed5_eq (t : Fin cfg0.N) : (dats m 0 c).flushed 5 t = ((cfg0.win 5).blk t).view.read (Elt Ideal) (G5 (imgm m c)) := by
  rw [flushed5_A, Block.out5_eq]
  funext j
  show shapeCast S1x1x128 (Block.vec (ins m c t)) shapeCasts_S1x128_S1x1x128 j = G5 (imgm m c) (((cfg0.win 5).blk t).view.emb j)
  rw [emb5, sc5]
  exact vec_at (ins_is m c t) (g _) (j 2)
end

/-- The grid point of an image. -/
def pt (b : Fin 16) : Fin cfg0.N := ⟨b.val, lt_of_lt_of_eq b.isLt N_eq.symm⟩

theorem covered4 (i : S16x192x128.Idx) : ∃ t : Fin cfg0.N, (cfg0.win 4).flush t = true ∧ i ∈ ((cfg0.win 4).blk t).view.set := by
  obtain ⟨b, p, q, rfl⟩ : ∃ b p q, i = ix3 b p q := ⟨_, _, _, eq_ix3 i⟩
  have h := ((cfg0.win 4).blk (pt b)).view.emb_mem_set (ix3 0 p q)
  rw [emb4] at h
  exact ⟨pt b, flush0_4 _, h⟩
theorem covered5 (i : S16x1x128.Idx) : ∃ t : Fin cfg0.N, (cfg0.win 5).flush t = true ∧ i ∈ ((cfg0.win 5).blk t).view.set := by
  obtain ⟨b, p, q, rfl⟩ : ∃ b p q, i = ix3 b p q := ⟨_, _, _, eq_ix3 i⟩
  have hp : p = 0 := Subsingleton.elim (α := Fin 1) _ _
  subst hp
  have h := ((cfg0.win 5).blk (pt b)).view.emb_mem_set (ix3 0 0 q)
  rw [emb5] at h
  exact ⟨pt b, flush0_5 _, h⟩

theorem final4 {c : Dev nD} (g : ∀ b, (imgm m c b).Good) : (dats m 0 c).arrAt 4 cfg0.N = G4 (imgm m c) :=
  (dats m 0 c).arrAt_eq_of_cover 4 (G4 (imgm m c)) (fun t _ => flushed4_eq g t) covered4
theorem final5 {c : Dev nD} (g : ∀ b, (imgm m c b).Good) : (dats m 0 c).arrAt 5 cfg0.N = G5 (imgm m c) :=
  (dats m 0 c).arrAt_eq_of_cover 5 (G5 (imgm m c)) (fun t _ => flushed5_eq g t) covered5

/-- The kernel's run, its results in the specified terms. -/
theorem run (g : ∀ (c : Dev nD) b, (imgm m c b).Good) : θ_run defs (onTc (τ := τ) (main (F := Ideal))) ⟨m, fun _ => 0, ρ⟩ fun r => ∀ c : Dev nD,
      r.2.mem ((c : Thread nD τ).loc main_v7_0) = G4 (imgm m c)
      ∧ r.2.mem ((c : Thread nD τ).loc main_v7_1) = G5 (imgm m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m (g c)), (h c).2.1.trans (final5 m (g c)), (h c).2.2⟩) (run_blocks m ρ)

end Cert.Proof.Run
-- ==== Proof.RefOps.lean ====
/- The reference's @main as a list of its host operations: every operation in order, the buffers it names and that
   none of them draws from the generator. -/
module

public import proofs.«01_k».proof.Proof.Gen.ReferenceIdeal
public import Idealize.ShloMosaic.Lib.StableHlo.Run
public import Idealize.ShloMosaic.Lib.StableHlo.RunHlo
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v13`, named. It packs its operands into a list of dependent pairs
    whose shapes a later argument's type mentions, so `simp` cannot rewrite an operand where it stands; applied by
    name, the operands are plain arguments, which the window lemmas below rewrite before the name unfolds. -/
def fn_main_v13 : (⟨S24564x2, .f32⟩ : BufTy).Contents (Elt F) → (⟨S24564x2, .f32⟩ : BufTy).Contents (Elt F) → (⟨S24564x4, .f32⟩ : BufTy).Contents (Elt F) :=
  (fun a b => concatenate S24564x4 1 [⟨S24564x2, a⟩, ⟨S24564x2, b⟩] concatenates_S24564x2_S24564x2_S24564x4_d1)

/-- The function of the operation that writes `main_v136`, named. It packs its operands into a list of dependent pairs
    whose shapes a later argument's type mentions, so `simp` cannot rewrite an operand where it stands; applied by
    name, the operands are plain arguments, which the window lemmas below rewrite before the name unfolds. -/
def fn_main_v136 : (⟨S16x24564x2, .f32⟩ : BufTy).Contents (Elt F) → (⟨S16x24564x2, .f32⟩ : BufTy).Contents (Elt F) → (⟨S16x24564x4, .f32⟩ : BufTy).Contents (Elt F) :=
  (fun a b => concatenate S16x24564x4 2 [⟨S16x24564x2, a⟩, ⟨S16x24564x2, b⟩] concatenates_S16x24564x2_S16x24564x2_S16x24564x4_d2)

/-- The function of the operation that writes `main_v161`, named. It packs its operands into a list of dependent pairs
    whose shapes a later argument's type mentions, so `simp` cannot rewrite an operand where it stands; applied by
    name, the operands are plain arguments, which the window lemmas below rewrite before the name unfolds. -/
def fn_main_v161 : (⟨S16x1, .f32⟩ : BufTy).Contents (Elt F) → (⟨S16x1, .f32⟩ : BufTy).Contents (Elt F) → (⟨S16x2, .f32⟩ : BufTy).Contents (Elt F) :=
  (fun a b => concatenate S16x2 1 [⟨S16x1, a⟩, ⟨S16x1, b⟩] concatenates_S16x1_S16x1_S16x2_d1)

/-- @main's operations 1 … 30 of 212 (window `main_part0`). -/
abbrev ops_part0_0 : List (HloOp τ sig (Elt F)) :=
  [ unary main_arg1 main_v0 ((extractStridedSlice S16x20x4 ![0, 0, 0] · slices_S16x20x5_S16x20x4_0_0_0) : (⟨S16x20x5, .f32⟩ : BufTy).Contents (Elt F) → (⟨S16x20x4, .f32⟩ : BufTy).Contents (Elt F)),
    unary main_arg1 main_v1 ((extractStridedSlice S16x20x1 ![0, 0, 4] · slices_S16x20x5_S16x20x1_0_0_4) : (⟨S16x20x5, .f32⟩ : BufTy).Contents (Elt F) → (⟨S16x20x1, .f32⟩ : BufTy).Contents (Elt F)),
    reshape main_v1 main_v2 (rfl : (.f32 : EltTy) = .f32) shapeCasts_S16x20x1_S16x20,
    unary main_arg2 main_v3 ((extractStridedSlice S24564x2 ![0, 0] · slices_S24564x4_S24564x2_0_0) : (⟨S24564x4, .f32⟩ : BufTy).Contents (Elt F) → (⟨S24564x2, .f32⟩ : BufTy).Contents (Elt F)),
    unary main_arg2 main_v4 ((extractStridedSlice S24564x2 ![0, 2] · slices_S24564x4_S24564x2_0_2) : (⟨S24564x4, .f32⟩ : BufTy).Contents (Elt F) → (⟨S24564x2, .f32⟩ : BufTy).Contents (Elt F)),
    nullary main_cst (constant S_ .f32 0x40000000#32),
    unary main_cst main_v5 (broadcastInDim S24564x2 ![] bcast_S_S24564x2 : (⟨S_, .f32⟩ : BufTy).Contents (Elt F) → (⟨S24564x2, .f32⟩ : BufTy).Contents (Elt F)),
    binary main_v4 main_v5 main_v6 (Host.divf : (⟨S24564x2, .f32⟩ : BufTy).Contents (Elt F) → (⟨S24564x2, .f32⟩ : BufTy).Contents (Elt F) → (⟨S24564x2, .f32⟩ : BufTy).Contents (Elt F)),
    binary main_v3 main_v6 main_v7 (subf : (⟨S24564x2, .f32⟩ : BufTy).Contents (Elt F) → (⟨S24564x2, .f32⟩ : BufTy).Contents (Elt F) → (⟨S24564x2, .f32⟩ : BufTy).Contents (Elt F)),
    unary main_arg2 main_v8 ((extractStridedSlice S24564x2 ![0, 0] · slices_S24564x4_S24564x2_0_0) : (⟨S24564x4, .f32⟩ : BufTy).Contents (Elt F) → (⟨S24564x2, .f32⟩ : BufTy).Contents (Elt F)),
    unary main_arg2 main_v9 ((extractStridedSlice S24564x2 ![0, 2] · slices_S24564x4_S24564x2_0_2) : (⟨S24564x4, .f32⟩ : BufTy).Contents (Elt F) → (⟨S24564x2, .f32⟩ : BufTy).Contents (Elt F)),
    nullary main_cst_0 (constant S_ .f32 0x40000000#32),
    unary main_cst_0 main_v10 (broadcastInDim S24564x2 ![] bcast_S_S24564x2 : (⟨S_, .f32⟩ : BufTy).Contents (Elt F) → (⟨S24564x2, .f32⟩ : BufTy).Contents (Elt F)),
    binary main_v9 main_v10 main_v11 (Host.divf : (⟨S24564x2, .f32⟩ : BufTy).Contents (Elt F) → (⟨S24564x2, .f32⟩ : BufTy).Contents (Elt F) → (⟨S24564x2, .f32⟩ : BufTy).Contents (Elt F)),
    binary main_v8 main_v11 main_v12 (addf : (⟨S24564x2, .f32⟩ : BufTy).Contents (Elt F) → (⟨S24564x2, .f32⟩ : BufTy).Contents (Elt F) → (⟨S24564x2, .f32⟩ : BufTy).Contents (Elt F)),
    binary main_v7 main_v12 main_v13 (fn_main_v13 (F := F)),
    unary main_v0 main_v14 ((extractStridedSlice S16x20x2 ![0, 0, 2] · slices_S16x20x4_S16x20x2_0_0_2) : (⟨S16x20x4, .f32⟩ : BufTy).Contents (Elt F) → (⟨S16x20x2, .f32⟩ : BufTy).Contents (Elt F)),
    unary main_v14 main_v15 (broadcastInDim S16x20x1x2 ![0, 1, 3] bcast_S16x20x2_S16x20x1x2_0_1_3 : (⟨S16x20x2, .f32⟩ : BufTy).Contents (Elt F) → (⟨S16x20x1x2, .f32⟩ : BufTy).Contents (Elt F)),
    unary main_v13 main_v16 ((extractStridedSlice S24564x2 ![0, 2] · slices_S24564x4_S24564x2_0_2) : (⟨S24564x4, .f32⟩ : BufTy).Contents (Elt F) → (⟨S24564x2, .f32⟩ : BufTy).Contents (Elt F)),
    unary main_v16 main_v17 (broadcastInDim S1x24564x2 ![1, 2] bcast_S24564x2_S1x24564x2_1_2 : (⟨S24564x2, .f32⟩ : BufTy).Contents (Elt F) → (⟨S1x24564x2, .f32⟩ : BufTy).Contents (Elt F)),
    unary main_v17 main_v18 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
    unary main_v15 main_v19 (broadcastInDim S16x20x24564x2 ![0, 1, 2, 3] bcast_S16x20x1x2_S16x20x24564x2_0_1_2_3 : (⟨S16x20x1x2, .f32⟩ : BufTy).Contents (Elt F) → (⟨S16x20x24564x2, .f32⟩ : BufTy).Contents (Elt F)),
    unary main_v18 main_v20 (broadcastInDim S16x20x24564x2 ![0, 1, 2, 3] bcast_S1x1x24564x2_S16x20x24564x2_0_1_2_3 : (⟨S1x1x24564x2, .f32⟩ : BufTy).Contents (Elt F) → (⟨S16x20x24564x2, .f32⟩ : BufTy).Contents (Elt F)),
    binary main_v19 main_v20 main_v21 (minimumf : (⟨S16x20x24564x2, .f32⟩ : BufTy).Contents (Elt F) → (⟨S16x20x24564x2, .f32⟩ : BufTy).Contents (Elt F) → (⟨S16x20x24564x2, .f32⟩ : BufTy).Contents (Elt F)),
    unary main_v0 main_v22 ((extractStridedSlice S16x20x2 ![0, 0, 0] · slices_S16x20x4_S16x20x2_0_0_0) : (⟨S16x20x4, .f32⟩ : BufTy).Contents (Elt F) → (⟨S16x20x2, .f32⟩ : BufTy).Contents (Elt F)),
    unary main_v22 main_v23 (broadcastInDim S16x20x1x2 ![0, 1, 3] bcast_S16x20x2_S16x20x1x2_0_1_3 : (⟨S16x20x2, .f32⟩ : BufTy).Contents (Elt F) → (⟨S16x20x1x2, .f32⟩ : BufTy).Contents (Elt F)),
    unary main_v13 main_v24 ((extractStridedSlice S24564x2 ![0, 0] · slices_S24564x4_S24564x2_0_0) : (⟨S24564x4, .f32⟩ : BufTy).Contents (Elt F) → (⟨S24564x2, .f32⟩ : BufTy).Contents (Elt F)),
    unary main_v24 main_v25 (broadcastInDim S1x24564x2 ![1, 2] bcast_S24564x2_S1x24564x2_1_2 : (⟨S24564x2, .f32⟩ : BufTy).Contents (Elt F) → (⟨S1x24564x2, .f32⟩ : BufTy).Contents (Elt F)),
    unary main_v25 main_v26 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
    unary main_v23 main_v27 (broadcastInDim S16x20x24564x2 ![0, 1, 2, 3] bcast_S16x20x1x2_S16x20x24564x2_0_1_2_3 : (⟨S16x20x1x2, .f32⟩ : BufTy).Contents (Elt F) → (⟨S16x20x24564x2, .f32⟩ : BufTy).Contents (Elt F)) ]

/-- @main's operations 31 … 60 of 212 (window `main_part0`). -/
abbrev ops_part0_1 : List (HloOp τ sig (Elt F)) :=
  [ unary main_v26 main_v28 (broadcastInDim S16x20x24564x2 ![0, 1, 2, 3] bcast_S1x1x24564x2_S16x20x24564x2_0_1_2_3 : (⟨S1x1x24564x2, .f32⟩ : BufTy).Contents (Elt F) → (⟨S16x20x24564x2, .f32⟩ : BufTy).Contents (Elt F)),
    binary main_v27 main_v28 main_v29 (maximumf : (⟨S16x20x24564x2, .f32⟩ : BufTy).Contents (Elt F) → (⟨S16x20x24564x2, .f32⟩ : BufTy).Contents (Elt F) → (⟨S16x20x24564x2, .f32⟩ : BufTy).Contents (Elt F)),
    binary main_v21 main_v29 main_v30 (subf : (⟨S16x20x24564x2, .f32⟩ : BufTy).Contents (Elt F) → (⟨S16x20x24564x2, .f32⟩ : BufTy).Contents (Elt F) → (⟨S16x20x24564x2, .f32⟩ : BufTy).Contents (Elt F)),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S16x20x24564x2, .f32⟩) main_call0_v1) (broadcastInDim S16x20x24564x2 ![] bcast_S_S16x20x24564x2),
    TRef.binary (TRef.of (T := ⟨S16x20x24564x2, .f32⟩) main_call0_v1) (TRef.of (T := ⟨S16x20x24564x2, .f32⟩) main_v30) (TRef.of (T := ⟨S16x20x24564x2, .f32⟩) main_v31) maximumf,
    unary main_v31 main_v32 ((extractStridedSlice S16x20x24564x1 ![0, 0, 0, 0] · slices_S16x20x24564x2_S16x20x24564x1_0_0_0_0) : (⟨S16x20x24564x2, .f32⟩ : BufTy).Contents (Elt F) → (⟨S16x20x24564x1, .f32⟩ : BufTy).Contents (Elt F)),
    reshape main_v32 main_v33 (rfl : (.f32 : EltTy) = .f32) shapeCasts_S16x20x24564x1_S16x20x24564,
    unary main_v31 main_v34 ((extractStridedSlice S16x20x24564x1 ![0, 0, 0, 1] · slices_S16x20x24564x2_S16x20x24564x1_0_0_0_1) : (⟨S16x20x24564x2, .f32⟩ : BufTy).Contents (Elt F) → (⟨S16x20x24564x1, .f32⟩ : BufTy).Contents (Elt F)),
    reshape main_v34 main_v35 (rfl : (.f32 : EltTy) = .f32) shapeCasts_S16x20x24564x1_S16x20x24564,
    binary main_v33 main_v35 main_v36 (mulf : (⟨S16x20x24564, .f32⟩ : BufTy).Contents (Elt F) → (⟨S16x20x24564, .f32⟩ : BufTy).Contents (Elt F) → (⟨S16x20x24564, .f32⟩ : BufTy).Contents (Elt F)),
    unary main_v0 main_v37 ((extractStridedSlice S16x20x1 ![0, 0, 2] · slices_S16x20x4_S16x20x1_0_0_2) : (⟨S16x20x4, .f32⟩ : BufTy).Contents (Elt F) → (⟨S16x20x1, .f32⟩ : BufTy).Contents (Elt F)),
    reshape main_v37 main_v38 (rfl : (.f32 : EltTy) = .f32) shapeCasts_S16x20x1_S16x20,
    unary main_v0 main_v39 ((extractStridedSlice S16x20x1 ![0, 0, 0] · slices_S16x20x4_S16x20x1_0_0_0) : (⟨S16x20x4, .f32⟩ : BufTy).Contents (Elt F) → (⟨S16x20x1, .f32⟩ : BufTy).Contents (Elt F)),
    reshape main_v39 main_v40 (rfl : (.f32 : EltTy) = .f32) shapeCasts_S16x20x1_S16x20,
    binary main_v38 main_v40 main_v41 (subf : (⟨S16x20, .f32⟩ : BufTy).Contents (Elt F) → (⟨S16x20, .f32⟩ : BufTy).Contents (Elt F) → (⟨S16x20, .f32⟩ : BufTy).Contents (Elt F)),
    unary main_v0 main_v42 ((extractStridedSlice S16x20x1 ![0, 0, 3] · slices_S16x20x4_S16x20x1_0_0_3) : (⟨S16x20x4, .f32⟩ : BufTy).Contents (Elt F) → (⟨S16x20x1, .f32⟩ : BufTy).Contents (Elt F)),
    reshape main_v42 main_v43 (rfl : (.f32 : EltTy) = .f32) shapeCasts_S16x20x1_S16x20,
    unary main_v0 main_v44 ((extractStridedSlice S16x20x1 ![0, 0, 1] · slices_S16x20x4_S16x20x1_0_0_1) : (⟨S16x20x4, .f32⟩ : BufTy).Contents (Elt F) → (⟨S16x20x1, .f32⟩ : BufTy).Contents (Elt F)),
    reshape main_v44 main_v45 (rfl : (.f32 : EltTy) = .f32) shapeCasts_S16x20x1_S16x20,
    binary main_v43 main_v45 main_v46 (subf : (⟨S16x20, .f32⟩ : BufTy).Contents (Elt F) → (⟨S16x20, .f32⟩ : BufTy).Contents (Elt F) → (⟨S16x20, .f32⟩ : BufTy).Contents (Elt F)),
    binary main_v41 main_v46 main_v47 (mulf : (⟨S16x20, .f32⟩ : BufTy).Contents (Elt F) → (⟨S16x20, .f32⟩ : BufTy).Contents (Elt F) → (⟨S16x20, .f32⟩ : BufTy).Contents (Elt F)),
    unary main_v47 main_v48 (broadcastInDim S16x20x1 ![0, 1] bcast_S16x20_S16x20x1_0_1 : (⟨S16x20, .f32⟩ : BufTy).Contents (Elt F) → (⟨S16x20x1, .f32⟩ : BufTy).Contents (Elt F)),
    unary main_v13 main_v49 ((extractStridedSlice S24564x1 ![0, 2] · slices_S24564x4_S24564x1_0_2) : (⟨S24564x4, .f32⟩ : BufTy).Contents (Elt F) → (⟨S24564x1, .f32⟩ : BufTy).Contents (Elt F)),
    reshape main_v49 main_v50 (rfl : (.f32 : EltTy) = .f32) shapeCasts_S24564x1_S24564,
    unary main_v13 main_v51 ((extractStridedSlice S24564x1 ![0, 0] · slices_S24564x4_S24564x1_0_0) : (⟨S24564x4, .f32⟩ : BufTy).Contents (Elt F) → (⟨S24564x1, .f32⟩ : BufTy).Contents (Elt F)),
    reshape main_v51 main_v52 (rfl : (.f32 : EltTy) = .f32) shapeCasts_S24564x1_S24564,
    binary main_v50 main_v52 main_v53 (subf : (⟨S24564, .f32⟩ : BufTy).Contents (Elt F) → (⟨S24564, .f32⟩ : BufTy).Contents (Elt F) → (⟨S24564, .f32⟩ : BufTy).Contents (Elt F)),
    unary main_v13 main_v54 ((extractStridedSlice S24564x1 ![0, 3] · slices_S24564x4_S24564x1_0_3) : (⟨S24564x4, .f32⟩ : BufTy).Contents (Elt F) → (⟨S24564x1, .f32⟩ : BufTy).Contents (Elt F)) ]

/-- @main's operations 61 … 62 of 212 (window `main_part0`). -/
abbrev ops_part0_2 : List (HloOp τ sig (Elt F)) :=
  [ reshape main_v54 main_v55 (rfl : (.f32 : EltTy) = .f32) shapeCasts_S24564x1_S24564,
    unary main_v13 main_v56 ((extractStridedSlice S24564x1 ![0, 1] · slices_S24564x4_S24564x1_0_1) : (⟨S24564x4, .f32⟩ : BufTy).Contents (Elt F) → (⟨S24564x1, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 212 (window `main_part1`). -/
abbrev ops_part1_0 : List (HloOp τ sig (Elt F)) :=
  [ reshape main_v56 main_v57 (rfl : (.f32 : EltTy) = .f32) shapeCasts_S24564x1_S24564,
    binary main_v55 main_v57 main_v58 (subf : (⟨S24564, .f32⟩ : BufTy).Contents (Elt F) → (⟨S24564, .f32⟩ : BufTy).Contents (Elt F) → (⟨S24564, .f32⟩ : BufTy).Contents (Elt F)),
    binary main_v53 main_v58 main_v59 (mulf : (⟨S24564, .f32⟩ : BufTy).Contents (Elt F) → (⟨S24564, .f32⟩ : BufTy).Contents (Elt F) → (⟨S24564, .f32⟩ : BufTy).Contents (Elt F)),
    unary main_v59 main_v60 (broadcastInDim S1x24564 ![1] bcast_S24564_S1x24564_1 : (⟨S24564, .f32⟩ : BufTy).Contents (Elt F) → (⟨S1x24564, .f32⟩ : BufTy).Contents (Elt F)),
    unary main_v60 main_v61 (broadcastInDim S1x1x24564 ![1, 2] bcast_S1x24564_S1x1x24564_1_2 : (⟨S1x24564, .f32⟩ : BufTy).Contents (Elt F) → (⟨S1x1x24564, .f32⟩ : BufTy).Contents (Elt F)),
    unary main_v48 main_v62 (broadcastInDim S16x20x24564 ![0, 1, 2] bcast_S16x20x1_S16x20x24564_0_1_2 : (⟨S16x20x1, .f32⟩ : BufTy).Contents (Elt F) → (⟨S16x20x24564, .f32⟩ : BufTy).Contents (Elt F)),
    unary main_v61 main_v63 (broadcastInDim S16x20x24564 ![0, 1, 2] bcast_S1x1x24564_S16x20x24564_0_1_2 : (⟨S1x1x24564, .f32⟩ : BufTy).Contents (Elt F) → (⟨S16x20x24564, .f32⟩ : BufTy).Contents (Elt F)),
    binary main_v62 main_v63 main_v64 (addf : (⟨S16x20x24564, .f32⟩ : BufTy).Contents (Elt F) → (⟨S16x20x24564, .f32⟩ : BufTy).Contents (Elt F) → (⟨S16x20x24564, .f32⟩ : BufTy).Contents (Elt F)),
    binary main_v64 main_v36 main_v65 (subf : (⟨S16x20x24564, .f32⟩ : BufTy).Contents (Elt F) → (⟨S16x20x24564, .f32⟩ : BufTy).Contents (Elt F) → (⟨S16x20x24564, .f32⟩ : BufTy).Contents (Elt F)),
    binary main_v36 main_v65 main_v66 (Host.divf : (⟨S16x20x24564, .f32⟩ : BufTy).Contents (Elt F) → (⟨S16x20x24564, .f32⟩ : BufTy).Contents (Elt F) → (⟨S16x20x24564, .f32⟩ : BufTy).Contents (Elt F)),
    TRef.nullary (TRef.of (T := ⟨S16x20x24564, .i32⟩) main_call1_v0) (iotaInDim S16x20x24564 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x20x24564, .f32⟩) main_v66) (TRef.of (T := ⟨S16x20x24564, .i32⟩) main_call1_v0) (TRef.of (T := ⟨S_, .f32⟩) main_call1_cst) (TRef.of (T := ⟨S_, .i32⟩) main_call1_c) (TRef.of (T := ⟨S16x20, .f32⟩) main_call1_v1_0) (fun x y u v j => (Host.argReduce reducer_argmax_f32_i32 x y u v reducesTo_S16x20x24564_S16x20_d2 h_S_ j).1),
    TRef.quaternary (TRef.of (T := ⟨S16x20x24564, .f32⟩) main_v66) (TRef.of (T := ⟨S16x20x24564, .i32⟩) main_call1_v0) (TRef.of (T := ⟨S_, .f32⟩) main_call1_cst) (TRef.of (T := ⟨S_, .i32⟩) main_call1_c) (TRef.of (T := ⟨S16x20, .i32⟩) main_v67) (fun x y u v j => (Host.argReduce reducer_argmax_f32_i32 x y u v reducesTo_S16x20x24564_S16x20_d2 h_S_ j).2),
    nullary main_cst_2 (constant S_ .f32 0xFF800000#32),
    binary main_v66 main_cst_2 main_v68 ((fun x v => Host.reduce FloatOps.maximumf x v reducesTo_S16x20x24564_S16x24564_d1 h_S_) : (⟨S16x20x24564, .f32⟩ : BufTy).Contents (Elt F) → (⟨S_, .f32⟩ : BufTy).Contents (Elt F) → (⟨S16x24564, .f32⟩ : BufTy).Contents (Elt F)),
    TRef.nullary (TRef.of (T := ⟨S16x20x24564, .i32⟩) main_call2_v0) (iotaInDim S16x20x24564 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x20x24564, .f32⟩) main_v66) (TRef.of (T := ⟨S16x20x24564, .i32⟩) main_call2_v0) (TRef.of (T := ⟨S_, .f32⟩) main_call2_cst) (TRef.of (T := ⟨S_, .i32⟩) main_call2_c) (TRef.of (T := ⟨S16x24564, .f32⟩) main_call2_v1_0) (fun x y u v j => (Host.argReduce reducer_argmax_f32_i32 x y u v reducesTo_S16x20x24564_S16x24564_d1 h_S_ j).1),
    TRef.quaternary (TRef.of (T := ⟨S16x20x24564, .f32⟩) main_v66) (TRef.of (T := ⟨S16x20x24564, .i32⟩) main_call2_v0) (TRef.of (T := ⟨S_, .f32⟩) main_call2_cst) (TRef.of (T := ⟨S_, .i32⟩) main_call2_c) (TRef.of (T := ⟨S16x24564, .i32⟩) main_v69) (fun x y u v j => (Host.argReduce reducer_argmax_f32_i32 x y u v reducesTo_S16x20x24564_S16x24564_d1 h_S_ j).2),
    unary main_v67 main_v70 (broadcastInDim S16x20x1 ![0, 1] bcast_S16x20_S16x20x1_0_1 : (⟨S16x20, .i32⟩ : BufTy).Contents (Elt F) → (⟨S16x20x1, .i32⟩ : BufTy).Contents (Elt F)),
    nullary main_v71 (iotaInDim S24564 32 0),
    unary main_v71 main_v72 (broadcastInDim S1x24564 ![1] bcast_S24564_S1x24564_1 : (⟨S24564, .i32⟩ : BufTy).Contents (Elt F) → (⟨S1x24564, .i32⟩ : BufTy).Contents (Elt F)),
    unary main_v72 main_v73 (broadcastInDim S1x1x24564 ![1, 2] bcast_S1x24564_S1x1x24564_1_2 : (⟨S1x24564, .i32⟩ : BufTy).Contents (Elt F) → (⟨S1x1x24564, .i32⟩ : BufTy).Contents (Elt F)),
    unary main_v70 main_v74 (broadcastInDim S16x20x24564 ![0, 1, 2] bcast_S16x20x1_S16x20x24564_0_1_2 : (⟨S16x20x1, .i32⟩ : BufTy).Contents (Elt F) → (⟨S16x20x24564, .i32⟩ : BufTy).Contents (Elt F)),
    unary main_v73 main_v75 (broadcastInDim S16x20x24564 ![0, 1, 2] bcast_S1x1x24564_S16x20x24564_0_1_2 : (⟨S1x1x24564, .i32⟩ : BufTy).Contents (Elt F) → (⟨S16x20x24564, .i32⟩ : BufTy).Contents (Elt F)),
    binary main_v74 main_v75 main_v76 (cmpi .eq : (⟨S16x20x24564, .i32⟩ : BufTy).Contents (Elt F) → (⟨S16x20x24564, .i32⟩ : BufTy).Contents (Elt F) → (⟨S16x20x24564, .i1⟩ : BufTy).Contents (Elt F)),
    nullary main_v77 (iotaInDim S20 32 0) ]

/-- @main's operations 93 … 122 of 212 (window `main_part1`). -/
abbrev ops_part1_1 : List (HloOp τ sig (Elt F)) :=
  [ unary main_v77 main_v78 (broadcastInDim S20x1 ![0] bcast_S20_S20x1_0 : (⟨S20, .i32⟩ : BufTy).Contents (Elt F) → (⟨S20x1, .i32⟩ : BufTy).Contents (Elt F)),
    nullary main_c (constantI S_ 32 4294967295#32),
    TRef.unary (TRef.of (T := ⟨S_, .i32⟩) main_c) (TRef.of (T := ⟨S_, .i32⟩) main_call3_v0) id,
    TRef.unary (TRef.of (T := ⟨S20x1, .i32⟩) main_v78) (TRef.of (T := ⟨S20x24564, .i32⟩) main_call3_v1) (broadcastInDim S20x24564 ![0, 1] bcast_S20x1_S20x24564_0_1),
    TRef.unary (TRef.of (T := ⟨S_, .i32⟩) main_call3_v0) (TRef.of (T := ⟨S20x24564, .i32⟩) main_call3_v2) (broadcastInDim S20x24564 ![] bcast_S_S20x24564),
    TRef.unary (TRef.of (T := ⟨S20x24564, .i32⟩) main_call3_v2) (TRef.of (T := ⟨S16x20x24564, .i32⟩) main_call3_v3) (broadcastInDim S16x20x24564 ![1, 2] bcast_S20x24564_S16x20x24564_1_2),
    TRef.unary (TRef.of (T := ⟨S20x24564, .i32⟩) main_call3_v1) (TRef.of (T := ⟨S16x20x24564, .i32⟩) main_call3_v4) (broadcastInDim S16x20x24564 ![1, 2] bcast_S20x24564_S16x20x24564_1_2),
    TRef.ternary (TRef.of (T := ⟨S16x20x24564, .i1⟩) main_v76) (TRef.of (T := ⟨S16x20x24564, .i32⟩) main_call3_v4) (TRef.of (T := ⟨S16x20x24564, .i32⟩) main_call3_v3) (TRef.of (T := ⟨S16x20x24564, .i32⟩) main_v79) select,
    nullary main_c_3 (constantI S_ 32 2147483648#32),
    binary main_v79 main_c_3 main_v80 ((fun x v => Host.reduce IntOp.maxsi x v reducesTo_S16x20x24564_S16x24564_d1 h_S_) : (⟨S16x20x24564, .i32⟩ : BufTy).Contents (Elt F) → (⟨S_, .i32⟩ : BufTy).Contents (Elt F) → (⟨S16x24564, .i32⟩ : BufTy).Contents (Elt F)),
    nullary main_c_4 (constantI S_ 32 0#32),
    unary main_c_4 main_v81 (broadcastInDim S16x24564 ![] bcast_S_S16x24564 : (⟨S_, .i32⟩ : BufTy).Contents (Elt F) → (⟨S16x24564, .i32⟩ : BufTy).Contents (Elt F)),
    binary main_v80 main_v81 main_v82 (cmpi .sge : (⟨S16x24564, .i32⟩ : BufTy).Contents (Elt F) → (⟨S16x24564, .i32⟩ : BufTy).Contents (Elt F) → (⟨S16x24564, .i1⟩ : BufTy).Contents (Elt F)),
    nullary main_cst_5 (constant S_ .f32 0x40000000#32),
    TRef.unary (TRef.of (T := ⟨S_, .f32⟩) main_cst_5) (TRef.of (T := ⟨S_, .f32⟩) main_call4_v0) id,
    TRef.unary (TRef.of (T := ⟨S_, .f32⟩) main_call4_v0) (TRef.of (T := ⟨S24564, .f32⟩) main_call4_v1) (broadcastInDim S24564 ![] bcast_S_S24564),
    TRef.unary (TRef.of (T := ⟨S24564, .f32⟩) main_call4_v1) (TRef.of (T := ⟨S16x24564, .f32⟩) main_call4_v2) (broadcastInDim S16x24564 ![1] bcast_S24564_S16x24564_1),
    TRef.ternary (TRef.of (T := ⟨S16x24564, .i1⟩) main_v82) (TRef.of (T := ⟨S16x24564, .f32⟩) main_call4_v2) (TRef.of (T := ⟨S16x24564, .f32⟩) main_v68) (TRef.of (T := ⟨S16x24564, .f32⟩) main_v83) select,
    nullary main_c_6 (constantI S_ 32 0#32),
    unary main_c_6 main_v84 (broadcastInDim S16x24564 ![] bcast_S_S16x24564 : (⟨S_, .i32⟩ : BufTy).Contents (Elt F) → (⟨S16x24564, .i32⟩ : BufTy).Contents (Elt F)),
    binary main_v80 main_v84 main_v85 (cmpi .sge : (⟨S16x24564, .i32⟩ : BufTy).Contents (Elt F) → (⟨S16x24564, .i32⟩ : BufTy).Contents (Elt F) → (⟨S16x24564, .i1⟩ : BufTy).Contents (Elt F)),
    TRef.ternary (TRef.of (T := ⟨S16x24564, .i1⟩) main_v85) (TRef.of (T := ⟨S16x24564, .i32⟩) main_v80) (TRef.of (T := ⟨S16x24564, .i32⟩) main_v69) (TRef.of (T := ⟨S16x24564, .i32⟩) main_v86) select,
    nullary main_c_7 (constantI S_ 32 0#32),
    unary main_c_7 main_v87 (broadcastInDim S16x24564 ![] bcast_S_S16x24564 : (⟨S_, .i32⟩ : BufTy).Contents (Elt F) → (⟨S16x24564, .i32⟩ : BufTy).Contents (Elt F)),
    binary main_v86 main_v87 main_v88 (cmpi .slt : (⟨S16x24564, .i32⟩ : BufTy).Contents (Elt F) → (⟨S16x24564, .i32⟩ : BufTy).Contents (Elt F) → (⟨S16x24564, .i1⟩ : BufTy).Contents (Elt F)),
    nullary main_c_8 (constantI S_ 32 20#32),
    unary main_c_8 main_v89 (broadcastInDim S16x24564 ![] bcast_S_S16x24564 : (⟨S_, .i32⟩ : BufTy).Contents (Elt F) → (⟨S16x24564, .i32⟩ : BufTy).Contents (Elt F)),
    binary main_v86 main_v89 main_v90 (addi : (⟨S16x24564, .i32⟩ : BufTy).Contents (Elt F) → (⟨S16x24564, .i32⟩ : BufTy).Contents (Elt F) → (⟨S16x24564, .i32⟩ : BufTy).Contents (Elt F)),
    ternary main_v88 main_v90 main_v86 main_v91 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
    unary main_v91 main_v92 (broadcastInDim S16x24564x1 ![0, 1] bcast_S16x24564_S16x24564x1_0_1 : (⟨S16x24564, .i32⟩ : BufTy).Contents (Elt F) → (⟨S16x24564x1, .i32⟩ : BufTy).Contents (Elt F)) ]

/-- @main's operations 123 … 138 of 212 (window `main_part1`). -/
abbrev ops_part1_2 : List (HloOp τ sig (Elt F)) :=
  [ binary main_v0 main_v92 main_v93 ((fun x i => Host.gather gather_S16x20x4_S16x24564x1_S16x24564x4_2_1_0_0_1_2_114 x i) : (⟨S16x20x4, .f32⟩ : BufTy).Contents (Elt F) → (⟨S16x24564x1, .i32⟩ : BufTy).Contents (Elt F) → (⟨S16x24564x4, .f32⟩ : BufTy).Contents (Elt F)),
    nullary main_c_9 (constantI S_ 32 0#32),
    unary main_c_9 main_v94 (broadcastInDim S16x24564 ![] bcast_S_S16x24564 : (⟨S_, .i32⟩ : BufTy).Contents (Elt F) → (⟨S16x24564, .i32⟩ : BufTy).Contents (Elt F)),
    binary main_v86 main_v94 main_v95 (cmpi .slt : (⟨S16x24564, .i32⟩ : BufTy).Contents (Elt F) → (⟨S16x24564, .i32⟩ : BufTy).Contents (Elt F) → (⟨S16x24564, .i1⟩ : BufTy).Contents (Elt F)),
    nullary main_c_10 (constantI S_ 32 20#32),
    unary main_c_10 main_v96 (broadcastInDim S16x24564 ![] bcast_S_S16x24564 : (⟨S_, .i32⟩ : BufTy).Contents (Elt F) → (⟨S16x24564, .i32⟩ : BufTy).Contents (Elt F)),
    binary main_v86 main_v96 main_v97 (addi : (⟨S16x24564, .i32⟩ : BufTy).Contents (Elt F) → (⟨S16x24564, .i32⟩ : BufTy).Contents (Elt F) → (⟨S16x24564, .i32⟩ : BufTy).Contents (Elt F)),
    ternary main_v95 main_v97 main_v86 main_v98 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
    unary main_v98 main_v99 (broadcastInDim S16x24564x1 ![0, 1] bcast_S16x24564_S16x24564x1_0_1 : (⟨S16x24564, .i32⟩ : BufTy).Contents (Elt F) → (⟨S16x24564x1, .i32⟩ : BufTy).Contents (Elt F)),
    binary main_v2 main_v99 main_v100 ((fun x i => Host.gather gather_S16x20_S16x24564x1_S16x24564_n_1_0_0_1_2_11 x i) : (⟨S16x20, .f32⟩ : BufTy).Contents (Elt F) → (⟨S16x24564x1, .i32⟩ : BufTy).Contents (Elt F) → (⟨S16x24564, .f32⟩ : BufTy).Contents (Elt F)),
    unary main_v100 main_v101 (fptosi 32 : (⟨S16x24564, .f32⟩ : BufTy).Contents (Elt F) → (⟨S16x24564, .i32⟩ : BufTy).Contents (Elt F)),
    nullary main_c_11 (constantI S_ 32 1#32),
    unary main_c_11 main_v102 (broadcastInDim S16x24564 ![] bcast_S_S16x24564 : (⟨S_, .i32⟩ : BufTy).Contents (Elt F) → (⟨S16x24564, .i32⟩ : BufTy).Contents (Elt F)),
    binary main_v101 main_v102 main_v103 (addi : (⟨S16x24564, .i32⟩ : BufTy).Contents (Elt F) → (⟨S16x24564, .i32⟩ : BufTy).Contents (Elt F) → (⟨S16x24564, .i32⟩ : BufTy).Contents (Elt F)),
    nullary main_cst_12 (constant S_ .f32 0x3F000000#32),
    unary main_cst_12 main_v104 (broadcastInDim S16x24564 ![] bcast_S_S16x24564 : (⟨S_, .f32⟩ : BufTy).Contents (Elt F) → (⟨S16x24564, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 139 … 168 of 212 (window `main_part2`). -/
abbrev ops_part2_0 : List (HloOp τ sig (Elt F)) :=
  [ binary main_v83 main_v104 main_v105 (cmpf .olt : (⟨S16x24564, .f32⟩ : BufTy).Contents (Elt F) → (⟨S16x24564, .f32⟩ : BufTy).Contents (Elt F) → (⟨S16x24564, .i1⟩ : BufTy).Contents (Elt F)),
    nullary main_c_13 (constantI S_ 32 0#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S24564, .i32⟩) main_call6_v1) (broadcastInDim S24564 ![] bcast_S_S24564),
    TRef.unary (TRef.of (T := ⟨S24564, .i32⟩) main_call6_v1) (TRef.of (T := ⟨S16x24564, .i32⟩) main_call6_v2) (broadcastInDim S16x24564 ![1] bcast_S24564_S16x24564_1),
    TRef.ternary (TRef.of (T := ⟨S16x24564, .i1⟩) main_v105) (TRef.of (T := ⟨S16x24564, .i32⟩) main_call6_v2) (TRef.of (T := ⟨S16x24564, .i32⟩) main_v103) (TRef.of (T := ⟨S16x24564, .i32⟩) main_v106) select,
    unary main_v93 main_v107 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
    unary main_v93 main_v108 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
    binary main_v107 main_v108 main_v109 (addf : (⟨S16x24564x2, .f32⟩ : BufTy).Contents (Elt F) → (⟨S16x24564x2, .f32⟩ : BufTy).Contents (Elt F) → (⟨S16x24564x2, .f32⟩ : BufTy).Contents (Elt F)),
    nullary main_cst_14 (constant S_ .f32 0x40000000#32),
    unary main_cst_14 main_v110 (broadcastInDim S16x24564x2 ![] bcast_S_S16x24564x2 : (⟨S_, .f32⟩ : BufTy).Contents (Elt F) → (⟨S16x24564x2, .f32⟩ : BufTy).Contents (Elt F)),
    binary main_v109 main_v110 main_v111 (Host.divf : (⟨S16x24564x2, .f32⟩ : BufTy).Contents (Elt F) → (⟨S16x24564x2, .f32⟩ : BufTy).Contents (Elt F) → (⟨S16x24564x2, .f32⟩ : BufTy).Contents (Elt F)),
    unary main_arg2 main_v112 ((extractStridedSlice S24564x2 ![0, 0] · slices_S24564x4_S24564x2_0_0) : (⟨S24564x4, .f32⟩ : BufTy).Contents (Elt F) → (⟨S24564x2, .f32⟩ : BufTy).Contents (Elt F)),
    unary main_v112 main_v113 (broadcastInDim S1x24564x2 ![1, 2] bcast_S24564x2_S1x24564x2_1_2 : (⟨S24564x2, .f32⟩ : BufTy).Contents (Elt F) → (⟨S1x24564x2, .f32⟩ : BufTy).Contents (Elt F)),
    unary main_v113 main_v114 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
    binary main_v111 main_v114 main_v115 (subf : (⟨S16x24564x2, .f32⟩ : BufTy).Contents (Elt F) → (⟨S16x24564x2, .f32⟩ : BufTy).Contents (Elt F) → (⟨S16x24564x2, .f32⟩ : BufTy).Contents (Elt F)),
    unary main_arg3 main_v116 ((extractStridedSlice S1 ![0] · slices_S2_S1_0) : (⟨S2, .f32⟩ : BufTy).Contents (Elt F) → (⟨S1, .f32⟩ : BufTy).Contents (Elt F)),
    reshape main_v116 main_v117 (rfl : (.f32 : EltTy) = .f32) shapeCasts_S1_S_,
    unary main_arg2 main_v118 ((extractStridedSlice S24564x2 ![0, 2] · slices_S24564x4_S24564x2_0_2) : (⟨S24564x4, .f32⟩ : BufTy).Contents (Elt F) → (⟨S24564x2, .f32⟩ : BufTy).Contents (Elt F)),
    unary main_v117 main_v119 (broadcastInDim S24564x2 ![] bcast_S_S24564x2 : (⟨S_, .f32⟩ : BufTy).Contents (Elt F) → (⟨S24564x2, .f32⟩ : BufTy).Contents (Elt F)),
    binary main_v119 main_v118 main_v120 (mulf : (⟨S24564x2, .f32⟩ : BufTy).Contents (Elt F) → (⟨S24564x2, .f32⟩ : BufTy).Contents (Elt F) → (⟨S24564x2, .f32⟩ : BufTy).Contents (Elt F)),
    unary main_v120 main_v121 (broadcastInDim S1x24564x2 ![1, 2] bcast_S24564x2_S1x24564x2_1_2 : (⟨S24564x2, .f32⟩ : BufTy).Contents (Elt F) → (⟨S1x24564x2, .f32⟩ : BufTy).Contents (Elt F)),
    unary main_v121 main_v122 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
    binary main_v115 main_v122 main_v123 (Host.divf : (⟨S16x24564x2, .f32⟩ : BufTy).Contents (Elt F) → (⟨S16x24564x2, .f32⟩ : BufTy).Contents (Elt F) → (⟨S16x24564x2, .f32⟩ : BufTy).Contents (Elt F)),
    unary main_v93 main_v124 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
    unary main_v93 main_v125 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
    binary main_v124 main_v125 main_v126 (subf : (⟨S16x24564x2, .f32⟩ : BufTy).Contents (Elt F) → (⟨S16x24564x2, .f32⟩ : BufTy).Contents (Elt F) → (⟨S16x24564x2, .f32⟩ : BufTy).Contents (Elt F)),
    unary main_arg2 main_v127 ((extractStridedSlice S24564x2 ![0, 2] · slices_S24564x4_S24564x2_0_2) : (⟨S24564x4, .f32⟩ : BufTy).Contents (Elt F) → (⟨S24564x2, .f32⟩ : BufTy).Contents (Elt F)),
    unary main_v127 main_v128 (broadcastInDim S1x24564x2 ![1, 2] bcast_S24564x2_S1x24564x2_1_2 : (⟨S24564x2, .f32⟩ : BufTy).Contents (Elt F) → (⟨S1x24564x2, .f32⟩ : BufTy).Contents (Elt F)),
    unary main_v128 main_v129 (broadcastInDim S16x24564x2 ![0, 1, 2] bcast_S1x24564x2_S16x24564x2_0_1_2 : (⟨S1x24564x2, .f32⟩ : BufTy).Contents (Elt F) → (⟨S16x24564x2, .f32⟩ : BufTy).Contents (Elt F)) ]

/-- @main's operations 169 … 198 of 212 (window `main_part2`). -/
abbrev ops_part2_1 : List (HloOp τ sig (Elt F)) :=
  [ binary main_v126 main_v129 main_v130 (Host.divf : (⟨S16x24564x2, .f32⟩ : BufTy).Contents (Elt F) → (⟨S16x24564x2, .f32⟩ : BufTy).Contents (Elt F) → (⟨S16x24564x2, .f32⟩ : BufTy).Contents (Elt F)),
    unary main_v130 main_v131 (Host.log : (⟨S16x24564x2, .f32⟩ : BufTy).Contents (Elt F) → (⟨S16x24564x2, .f32⟩ : BufTy).Contents (Elt F)),
    unary main_arg3 main_v132 ((extractStridedSlice S1 ![1] · slices_S2_S1_1) : (⟨S2, .f32⟩ : BufTy).Contents (Elt F) → (⟨S1, .f32⟩ : BufTy).Contents (Elt F)),
    reshape main_v132 main_v133 (rfl : (.f32 : EltTy) = .f32) shapeCasts_S1_S_,
    unary main_v133 main_v134 (broadcastInDim S16x24564x2 ![] bcast_S_S16x24564x2 : (⟨S_, .f32⟩ : BufTy).Contents (Elt F) → (⟨S16x24564x2, .f32⟩ : BufTy).Contents (Elt F)),
    binary main_v131 main_v134 main_v135 (Host.divf : (⟨S16x24564x2, .f32⟩ : BufTy).Contents (Elt F) → (⟨S16x24564x2, .f32⟩ : BufTy).Contents (Elt F) → (⟨S16x24564x2, .f32⟩ : BufTy).Contents (Elt F)),
    binary main_v123 main_v135 main_v136 (fn_main_v136 (F := F)),
    nullary main_c_15 (constantI S_ 32 0#32),
    unary main_c_15 main_v137 (broadcastInDim S16x24564 ![] bcast_S_S16x24564 : (⟨S_, .i32⟩ : BufTy).Contents (Elt F) → (⟨S16x24564, .i32⟩ : BufTy).Contents (Elt F)),
    binary main_v106 main_v137 main_v138 (cmpi .sgt : (⟨S16x24564, .i32⟩ : BufTy).Contents (Elt F) → (⟨S16x24564, .i32⟩ : BufTy).Contents (Elt F) → (⟨S16x24564, .i1⟩ : BufTy).Contents (Elt F)),
    binary main_arg0 main_v136 main_v139 (subf : (⟨S16x24564x4, .f32⟩ : BufTy).Contents (Elt F) → (⟨S16x24564x4, .f32⟩ : BufTy).Contents (Elt F) → (⟨S16x24564x4, .f32⟩ : BufTy).Contents (Elt F)),
    unary main_v139 main_v140 (Host.absf : (⟨S16x24564x4, .f32⟩ : BufTy).Contents (Elt F) → (⟨S16x24564x4, .f32⟩ : BufTy).Contents (Elt F)),
    nullary main_cst_16 (constant S_ .f32 0x3F800000#32),
    unary main_cst_16 main_v141 (broadcastInDim S16x24564x4 ![] bcast_S_S16x24564x4 : (⟨S_, .f32⟩ : BufTy).Contents (Elt F) → (⟨S16x24564x4, .f32⟩ : BufTy).Contents (Elt F)),
    binary main_v140 main_v141 main_v142 (cmpf .olt : (⟨S16x24564x4, .f32⟩ : BufTy).Contents (Elt F) → (⟨S16x24564x4, .f32⟩ : BufTy).Contents (Elt F) → (⟨S16x24564x4, .i1⟩ : BufTy).Contents (Elt F)),
    nullary main_cst_17 (constant S_ .f32 0x3F000000#32),
    unary main_cst_17 main_v143 (broadcastInDim S16x24564x4 ![] bcast_S_S16x24564x4 : (⟨S_, .f32⟩ : BufTy).Contents (Elt F) → (⟨S16x24564x4, .f32⟩ : BufTy).Contents (Elt F)),
    binary main_v143 main_v139 main_v144 (mulf : (⟨S16x24564x4, .f32⟩ : BufTy).Contents (Elt F) → (⟨S16x24564x4, .f32⟩ : BufTy).Contents (Elt F) → (⟨S16x24564x4, .f32⟩ : BufTy).Contents (Elt F)),
    binary main_v144 main_v139 main_v145 (mulf : (⟨S16x24564x4, .f32⟩ : BufTy).Contents (Elt F) → (⟨S16x24564x4, .f32⟩ : BufTy).Contents (Elt F) → (⟨S16x24564x4, .f32⟩ : BufTy).Contents (Elt F)),
    nullary main_cst_18 (constant S_ .f32 0x3F000000#32),
    unary main_cst_18 main_v146 (broadcastInDim S16x24564x4 ![] bcast_S_S16x24564x4 : (⟨S_, .f32⟩ : BufTy).Contents (Elt F) → (⟨S16x24564x4, .f32⟩ : BufTy).Contents (Elt F)),
    binary main_v140 main_v146 main_v147 (subf : (⟨S16x24564x4, .f32⟩ : BufTy).Contents (Elt F) → (⟨S16x24564x4, .f32⟩ : BufTy).Contents (Elt F) → (⟨S16x24564x4, .f32⟩ : BufTy).Contents (Elt F)),
    TRef.ternary (TRef.of (T := ⟨S16x24564x4, .i1⟩) main_v142) (TRef.of (T := ⟨S16x24564x4, .f32⟩) main_v145) (TRef.of (T := ⟨S16x24564x4, .f32⟩) main_v147) (TRef.of (T := ⟨S16x24564x4, .f32⟩) main_v148) select,
    unary main_v138 main_v149 (broadcastInDim S16x24564x1 ![0, 1] bcast_S16x24564_S16x24564x1_0_1 : (⟨S16x24564, .i1⟩ : BufTy).Contents (Elt F) → (⟨S16x24564x1, .i1⟩ : BufTy).Contents (Elt F)),
    unary main_v149 main_v150 (uitofp .f32 : (⟨S16x24564x1, .i1⟩ : BufTy).Contents (Elt F) → (⟨S16x24564x1, .f32⟩ : BufTy).Contents (Elt F)),
    unary main_v150 main_v151 (broadcastInDim S16x24564x4 ![0, 1, 2] bcast_S16x24564x1_S16x24564x4_0_1_2 : (⟨S16x24564x1, .f32⟩ : BufTy).Contents (Elt F) → (⟨S16x24564x4, .f32⟩ : BufTy).Contents (Elt F)),
    binary main_v148 main_v151 main_v152 (mulf : (⟨S16x24564x4, .f32⟩ : BufTy).Contents (Elt F) → (⟨S16x24564x4, .f32⟩ : BufTy).Contents (Elt F) → (⟨S16x24564x4, .f32⟩ : BufTy).Contents (Elt F)),
    nullary main_cst_19 (constant S_ .f32 0x00000000#32),
    binary main_v152 main_cst_19 main_v153 ((fun x v => Host.reduceAdd x v reducesTo_S16x24564x4_S16_d1_2 h_S_) : (⟨S16x24564x4, .f32⟩ : BufTy).Contents (Elt F) → (⟨S_, .f32⟩ : BufTy).Contents (Elt F) → (⟨S16, .f32⟩ : BufTy).Contents (Elt F)),
    unary main_v138 main_v154 ((extui 32 · natLt_1_32) : (⟨S16x24564, .i1⟩ : BufTy).Contents (Elt F) → (⟨S16x24564, .i32⟩ : BufTy).Contents (Elt F)) ]

/-- @main's operations 199 … 201 of 212 (window `main_part2`). -/
abbrev ops_part2_2 : List (HloOp τ sig (Elt F)) :=
  [ nullary main_c_20 (constantI S_ 32 0#32),
    binary main_v154 main_c_20 main_v155 ((fun x v => Host.reduce IntOp.addi x v reducesTo_S16x24564_S16_d1 h_S_) : (⟨S16x24564, .i32⟩ : BufTy).Contents (Elt F) → (⟨S_, .i32⟩ : BufTy).Contents (Elt F) → (⟨S16, .i32⟩ : BufTy).Contents (Elt F)),
    nullary main_c_21 (constantI S_ 32 0#32) ]

/-- Window `main_part2`'s operations. Not an abbreviation: `main_eq` below splits `ops` into the windows and no further. -/
def ops_part2 : List (HloOp τ sig (Elt F)) :=
  ops_part2_0 ++ (ops_part2_1 ++ (ops_part2_2))

/-- @main's operations 202 … 212 of 212 (window `main_part3`). -/
abbrev ops_part3 : List (HloOp τ sig (Elt F)) :=
  [ TRef.unary (TRef.of (T := ⟨S_, .i32⟩) main_c_21) (TRef.of (T := ⟨S_, .i32⟩) main_call8_v0) id,
    TRef.binary (TRef.of (T := ⟨S16x24564, .i32⟩) main_v106) (TRef.of (T := ⟨S_, .i32⟩) main_call8_v0) (TRef.of (T := ⟨S16x24576, .i32⟩) main_v156) (fun x v => pad S16x24576 ![0, 0] ![0, 12] ![0, 0] x v pads_S16x24564_S16x24576_000_0120 h_S_),
    reshape main_v156 main_v157 (rfl : (.i32 : EltTy) = .i32) shapeCasts_S16x24576_S16x192x128,
    unary main_v155 main_v158 (sitofp .f32 : (⟨S16, .i32⟩ : BufTy).Contents (Elt F) → (⟨S16, .f32⟩ : BufTy).Contents (Elt F)),
    unary main_v153 main_v159 (broadcastInDim S16x1 ![0] bcast_S16_S16x1_0 : (⟨S16, .f32⟩ : BufTy).Contents (Elt F) → (⟨S16x1, .f32⟩ : BufTy).Contents (Elt F)),
    unary main_v158 main_v160 (broadcastInDim S16x1 ![0] bcast_S16_S16x1_0 : (⟨S16, .f32⟩ : BufTy).Contents (Elt F) → (⟨S16x1, .f32⟩ : BufTy).Contents (Elt F)),
    binary main_v159 main_v160 main_v161 (fn_main_v161 (F := F)),
    nullary main_c_22 (constantI S_ 32 0#32),
    TRef.unary (TRef.of (T := ⟨S_, .i32⟩) main_c_22) (TRef.of (T := ⟨S_, .f32⟩) main_call9_v0) (sitofp .f32),
    TRef.binary (TRef.of (T := ⟨S16x2, .f32⟩) main_v161) (TRef.of (T := ⟨S_, .f32⟩) main_call9_v0) (TRef.of (T := ⟨S16x128, .f32⟩) main_v162) (fun x v => pad S16x128 ![0, 0] ![0, 126] ![0, 0] x v pads_S16x2_S16x128_000_01260 h_S_),
    reshape main_v162 main_v163 (rfl : (.f32 : EltTy) = .f32) shapeCasts_S16x128_S16x1x128 ]

/-- @main's 212 operations, in order (a called function's operations stand in its call's place, spelt `TRef.…`). -/
abbrev ops : List (HloOp τ sig (Elt F)) :=
  ops_part0 ++ (ops_part1 ++ (ops_part2 ++ (ops_part3)))

set_option maxRecDepth 65536 in
set_option maxHeartbeats 4000000 in
theorem main_part0_eq (c : Dev nD) : main_part0 (F := F) c = seq ops_part0 := rfl
/-- The call for each truth's best prior, as its five operations. -/
theorem argmax_eq : fn_argmax.body (F := F) (.of main_v66) main_call1 = seq [
    TRef.nullary (TRef.of (T := ⟨S16x20x24564, .i32⟩) main_call1_v0) (iotaInDim S16x20x24564 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x20x24564, .f32⟩) main_v66) (TRef.of (T := ⟨S16x20x24564, .i32⟩) main_call1_v0) (TRef.of (T := ⟨S_, .f32⟩) main_call1_cst) (TRef.of (T := ⟨S_, .i32⟩) main_call1_c) (TRef.of (T := ⟨S16x20, .f32⟩) main_call1_v1_0) (fun x y u v j => (Host.argReduce reducer_argmax_f32_i32 x y u v reducesTo_S16x20x24564_S16x20_d2 h_S_ j).1),
    TRef.quaternary (TRef.of (T := ⟨S16x20x24564, .f32⟩) main_v66) (TRef.of (T := ⟨S16x20x24564, .i32⟩) main_call1_v0) (TRef.of (T := ⟨S_, .f32⟩) main_call1_cst) (TRef.of (T := ⟨S_, .i32⟩) main_call1_c) (TRef.of (T := ⟨S16x20, .i32⟩) main_v67) (fun x y u v j => (Host.argReduce reducer_argmax_f32_i32 x y u v reducesTo_S16x20x24564_S16x20_d2 h_S_ j).2)] := rfl

/-- The call for each prior's best truth, as its five operations. -/
theorem argmax_0_eq : fn_argmax_0.body (F := F) (.of main_v66) main_call2 = seq [
    TRef.nullary (TRef.of (T := ⟨S16x20x24564, .i32⟩) main_call2_v0) (iotaInDim S16x20x24564 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16x20x24564, .f32⟩) main_v66) (TRef.of (T := ⟨S16x20x24564, .i32⟩) main_call2_v0) (TRef.of (T := ⟨S_, .f32⟩) main_call2_cst) (TRef.of (T := ⟨S_, .i32⟩) main_call2_c) (TRef.of (T := ⟨S16x24564, .f32⟩) main_call2_v1_0) (fun x y u v j => (Host.argReduce reducer_argmax_f32_i32 x y u v reducesTo_S16x20x24564_S16x24564_d1 h_S_ j).1),
    TRef.quaternary (TRef.of (T := ⟨S16x20x24564, .f32⟩) main_v66) (TRef.of (T := ⟨S16x20x24564, .i32⟩) main_call2_v0) (TRef.of (T := ⟨S_, .f32⟩) main_call2_cst) (TRef.of (T := ⟨S_, .i32⟩) main_call2_c) (TRef.of (T := ⟨S16x24564, .i32⟩) main_v69) (fun x y u v j => (Host.argReduce reducer_argmax_f32_i32 x y u v reducesTo_S16x20x24564_S16x24564_d1 h_S_ j).2)] := rfl

/-- The window with the two `argmax` calls is the list of its operations. -/
theorem main_part1_eq (c : Dev nD) : main_part1 (F := F) c = seq ops_part1 := by
  have h : IsSeq (main_part1 (F := F) c) ops_part1 := by
    unfold main_part1
    rw [argmax_eq, argmax_0_eq]
    unfold fn_where.body fn_where_1.body fn_where_2.body
    unfold ops_part1 ops_part1_0 ops_part1_1 ops_part1_2
    hlo_seq
  exact h
set_option maxRecDepth 65536 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., reshape_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., reshape_bufs_sub .., unary_bufs_sub .., reshape_bufs_sub .., binary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨reshape_bufs_sub .., unary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨reshape_bufs_sub .., binary_bufs_sub .., binary_bufs_sub .., unary_bufs_sub .., unary_bufs_sub .., unary_bufs_sub .., unary_bufs_sub .., binary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., unary_bufs_sub .., unary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨unary_bufs_sub .., nullary_bufs_sub .., unary_bufs_sub .., unary_bufs_sub .., unary_bufs_sub .., unary_bufs_sub .., unary_bufs_sub .., ternary_bufs_sub .., nullary_bufs_sub .., binary_bufs_sub .., nullary_bufs_sub .., unary_bufs_sub .., binary_bufs_sub .., nullary_bufs_sub .., unary_bufs_sub .., unary_bufs_sub .., unary_bufs_sub .., ternary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., nullary_bufs_sub .., unary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨binary_bufs_sub .., unary_bufs_sub .., unary_bufs_sub .., reshape_bufs_sub .., unary_bufs_sub .., binary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub .., binary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., binary_bufs_sub .., nullary_bufs_sub ..⟩
set_option maxRecDepth 8192 in
theorem ops_part2_2_fresh : (ops_part2_2 : List (HloOp τ sig (Elt F))).Forall fun op => op.fresh = ∅ :=
  ⟨rfl, rfl, rfl⟩
set_option maxRecDepth 8192 in
theorem ops_part3_sub : (ops_part3 : List (HloOp τ sig (Elt F))).Forall fun op => op.bufs ⊆ tcRefs τ sig :=
  ⟨unary_bufs_sub .., binary_bufs_sub .., reshape_bufs_sub .., unary_bufs_sub .., unary_bufs_sub .., unary_bufs_sub .., binary_bufs_sub .., nullary_bufs_sub .., unary_bufs_sub .., binary_bufs_sub .., reshape_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Value

end
-- ==== Proof.RefTerms.lean ====
/- What the reference's buffers hold as terms of the arguments: one definition per value that is used more than once. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- For each truth, which prior it overlaps most: the second component of the arg-max reduction along the priors. -/
def bestPrior : (⟨S16x20x24564, .f32⟩ : BufTy).Contents (Elt F) → (⟨S16x20x24564, .i32⟩ : BufTy).Contents (Elt F) → (⟨S_, .f32⟩ : BufTy).Contents (Elt F) → (⟨S_, .i32⟩ : BufTy).Contents (Elt F) → (⟨S16x20, .i32⟩ : BufTy).Contents (Elt F) :=
  (fun x y u v j => (Host.argReduce reducer_argmax_f32_i32 x y u v reducesTo_S16x20x24564_S16x20_d2 h_S_ j).2)

/-- For each prior, which truth overlaps it most: the second component of the arg-max reduction along the truths. -/
def bestTruth : (⟨S16x20x24564, .f32⟩ : BufTy).Contents (Elt F) → (⟨S16x20x24564, .i32⟩ : BufTy).Contents (Elt F) → (⟨S_, .f32⟩ : BufTy).Contents (Elt F) → (⟨S_, .i32⟩ : BufTy).Contents (Elt F) → (⟨S16x24564, .i32⟩ : BufTy).Contents (Elt F) :=
  (fun x y u v j => (Host.argReduce reducer_argmax_f32_i32 x y u v reducesTo_S16x20x24564_S16x24564_d1 h_S_ j).2)

set_option maxRecDepth 8192 in
/-- `main_v0`'s composed term of the arguments (named: it is used 7 times). -/
def res_main_v0 (V0 : Valuation τ sig (Elt F)) : (Proc.devRef .tc main_v0 : DevRef τ sig).ty.Contents (Elt F) :=
  extractStridedSlice S16x20x4 ![0, 0, 0] (V0 (Proc.devRef .tc main_arg1)) slices_S16x20x5_S16x20x4_0_0_0

set_option maxRecDepth 8192 in
/-- `main_v13`'s composed term of the arguments (named: it is used 6 times). -/
def res_main_v13 (V0 : Valuation τ sig (Elt F)) : (Proc.devRef .tc main_v13 : DevRef τ sig).ty.Contents (Elt F) :=
  concatenate S24564x4 1 [⟨S24564x2, (subf (extractStridedSlice S24564x2 ![0, 0] (V0 (Proc.devRef .tc main_arg2)) slices_S24564x4_S24564x2_0_0) (Host.divf (extractStridedSlice S24564x2 ![0, 2] (V0 (Proc.devRef .tc main_arg2)) slices_S24564x4_S24564x2_0_2) (broadcastInDim S24564x2 ![] bcast_S_S24564x2 (constant S_ .f32 0x40000000#32))))⟩, ⟨S24564x2, (addf (extractStridedSlice S24564x2 ![0, 0] (V0 (Proc.devRef .tc main_arg2)) slices_S24564x4_S24564x2_0_0) (Host.divf (extractStridedSlice S24564x2 ![0, 2] (V0 (Proc.devRef .tc main_arg2)) slices_S24564x4_S24564x2_0_2) (broadcastInDim S24564x2 ![] bcast_S_S24564x2 (constant S_ .f32 0x40000000#32))))⟩] concatenates_S24564x2_S24564x2_S24564x4_d1

set_option maxRecDepth 8192 in
/-- `main_v31`'s composed term of the arguments (named: it is used 2 times). -/
def res_main_v31 (V0 : Valuation τ sig (Elt F)) : (Proc.devRef .tc main_v31 : DevRef τ sig).ty.Contents (Elt F) :=
  maximumf (broadcastInDim S16x20x24564x2 ![] bcast_S_S16x20x24564x2 (id (constant S_ .f32 0x00000000#32))) (subf (minimumf (broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 2] (res_main_v0 V0) slices_S16x20x4_S16x20x2_0_0_2))) (broadcastInDim S16x20x24564x2 ![0, 1, 2, 3] bcast_S1x1x24564x2_S16x20x24564x2_0_1_2_3 (broadcastInDim S1x1x24564x2 ![1, 2, 3] bcast_S1x24564x2_S1x1x24564x2_1_2_3 (broadcastInDim S1x24564x2 ![1, 2] bcast_S24564x2_S1x24564x2_1_2 (extractStridedSlice S24564x2 ![0, 2] (res_main_v13 V0) slices_S24564x4_S24564x2_0_2))))) (maximumf (broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 0] (res_main_v0 V0) slices_S16x20x4_S16x20x2_0_0_0))) (broadcastInDim S16x20x24564x2 ![0, 1, 2, 3] bcast_S1x1x24564x2_S16x20x24564x2_0_1_2_3 (broadcastInDim S1x1x24564x2 ![1, 2, 3] bcast_S1x24564x2_S1x1x24564x2_1_2_3 (broadcastInDim S1x24564x2 ![1, 2] bcast_S24564x2_S1x24564x2_1_2 (extractStridedSlice S24564x2 ![0, 0] (res_main_v13 V0) slices_S24564x4_S24564x2_0_0))))))

set_option maxRecDepth 8192 in
/-- `main_v36`'s composed term of the arguments (named: it is used 2 times). -/
def res_main_v36 (V0 : Valuation τ sig (Elt F)) : (Proc.devRef .tc main_v36 : DevRef τ sig).ty.Contents (Elt F) :=
  mulf (shapeCast _ (extractStridedSlice S16x20x24564x1 ![0, 0, 0, 0] (res_main_v31 V0) slices_S16x20x24564x2_S16x20x24564x1_0_0_0_0) shapeCasts_S16x20x24564x1_S16x20x24564) (shapeCast _ (extractStridedSlice S16x20x24564x1 ![0, 0, 0, 1] (res_main_v31 V0) slices_S16x20x24564x2_S16x20x24564x1_0_0_0_1) shapeCasts_S16x20x24564x1_S16x20x24564)

set_option maxRecDepth 8192 in
/-- `main_v66`'s composed term of the arguments (named: it is used 5 times). -/
def res_main_v66 (V0 : Valuation τ sig (Elt F)) : (Proc.devRef .tc main_v66 : DevRef τ sig).ty.Contents (Elt F) :=
  Host.divf (res_main_v36 V0) (subf (addf (broadcastInDim S16x20x24564 ![0, 1, 2] bcast_S16x20x1_S16x20x24564_0_1_2 (broadcastInDim S16x20x1 ![0, 1] bcast_S16x20_S16x20x1_0_1 (mulf (subf (shapeCast _ (extractStridedSlice S16x20x1 ![0, 0, 2] (res_main_v0 V0) slices_S16x20x4_S16x20x1_0_0_2) shapeCasts_S16x20x1_S16x20) (shapeCast _ (extractStridedSlice S16x20x1 ![0, 0, 0] (res_main_v0 V0) slices_S16x20x4_S16x20x1_0_0_0) shapeCasts_S16x20x1_S16x20)) (subf (shapeCast _ (extractStridedSlice S16x20x1 ![0, 0, 3] (res_main_v0 V0) slices_S16x20x4_S16x20x1_0_0_3) shapeCasts_S16x20x1_S16x20) (shapeCast _ (extractStridedSlice S16x20x1 ![0, 0, 1] (res_main_v0 V0) slices_S16x20x4_S16x20x1_0_0_1) shapeCasts_S16x20x1_S16x20))))) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (mulf (subf (shapeCast _ (extractStridedSlice S24564x1 ![0, 2] (res_main_v13 V0) slices_S24564x4_S24564x1_0_2) shapeCasts_S24564x1_S24564) (shapeCast _ (extractStridedSlice S24564x1 ![0, 0] (res_main_v13 V0) slices_S24564x4_S24564x1_0_0) shapeCasts_S24564x1_S24564)) (subf (shapeCast _ (extractStridedSlice S24564x1 ![0, 3] (res_main_v13 V0) slices_S24564x4_S24564x1_0_3) shapeCasts_S24564x1_S24564) (shapeCast _ (extractStridedSlice S24564x1 ![0, 1] (res_main_v13 V0) slices_S24564x4_S24564x1_0_1) shapeCasts_S24564x1_S24564))))))) (res_main_v36 V0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16x20x24564 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S16x20x24564 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v80`'s composed term of the arguments (named: it is used 3 times). -/
def res_main_v80 (V0 : Valuation τ sig (Elt F)) : (Proc.devRef .tc main_v80 : DevRef τ sig).ty.Contents (Elt F) :=
  Host.reduce IntOp.maxsi (select (cmpi .eq (broadcastInDim S16x20x24564 ![0, 1, 2] bcast_S16x20x1_S16x20x24564_0_1_2 (broadcastInDim S16x20x1 ![0, 1] bcast_S16x20_S16x20x1_0_1 ((bestPrior (F := F) (res_main_v66 V0) (res_main_call1_v0 V0) (res_main_call1_cst V0) (res_main_call1_c V0))))) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (iotaInDim S24564 32 0))))) (broadcastInDim S16x20x24564 ![1, 2] bcast_S20x24564_S16x20x24564_1_2 (broadcastInDim S20x24564 ![0, 1] bcast_S20x1_S20x24564_0_1 (broadcastInDim S20x1 ![0] bcast_S20_S20x1_0 (iotaInDim S20 32 0)))) (broadcastInDim S16x20x24564 ![1, 2] bcast_S20x24564_S16x20x24564_1_2 (broadcastInDim S20x24564 ![] bcast_S_S20x24564 (id (constantI S_ 32 4294967295#32))))) (constantI S_ 32 2147483648#32) reducesTo_S16x20x24564_S16x24564_d1 h_S_

set_option maxRecDepth 8192 in
/-- `main_v86`'s composed term of the arguments (named: it is used 6 times). -/
def res_main_v86 (V0 : Valuation τ sig (Elt F)) : (Proc.devRef .tc main_v86 : DevRef τ sig).ty.Contents (Elt F) :=
  select (cmpi .sge (res_main_v80 V0) (broadcastInDim S16x24564 ![] bcast_S_S16x24564 (constantI S_ 32 0#32))) (res_main_v80 V0) ((bestTruth (F := F) (res_main_v66 V0) (res_main_call2_v0 V0) (res_main_call2_cst V0) (res_main_call2_c V0)))

set_option maxRecDepth 8192 in
/-- `main_v93`'s composed term of the arguments (named: it is used 4 times). -/
def res_main_v93 (V0 : Valuation τ sig (Elt F)) : (Proc.devRef .tc main_v93 : DevRef τ sig).ty.Contents (Elt F) :=
  Host.gather gather_S16x20x4_S16x24564x1_S16x24564x4_2_1_0_0_1_2_114 (res_main_v0 V0) (broadcastInDim S16x24564x1 ![0, 1] bcast_S16x24564_S16x24564x1_0_1 (select (cmpi .slt (res_main_v86 V0) (broadcastInDim S16x24564 ![] bcast_S_S16x24564 (constantI S_ 32 0#32))) (addi (res_main_v86 V0) (broadcastInDim S16x24564 ![] bcast_S_S16x24564 (constantI S_ 32 20#32))) (res_main_v86 V0)))

set_option maxRecDepth 8192 in
/-- `main_v106`'s composed term of the arguments (named: it is used 2 times). -/
def res_main_v106 (V0 : Valuation τ sig (Elt F)) : (Proc.devRef .tc main_v106 : DevRef τ sig).ty.Contents (Elt F) :=
  select (cmpf .olt (select (cmpi .sge (res_main_v80 V0) (broadcastInDim S16x24564 ![] bcast_S_S16x24564 (constantI S_ 32 0#32))) (broadcastInDim S16x24564 ![1] bcast_S24564_S16x24564_1 (broadcastInDim S24564 ![] bcast_S_S24564 (id (constant S_ .f32 0x40000000#32)))) (Host.reduce FloatOps.maximumf (res_main_v66 V0) (constant S_ .f32 0xFF800000#32) reducesTo_S16x20x24564_S16x24564_d1 h_S_)) (broadcastInDim S16x24564 ![] bcast_S_S16x24564 (constant S_ .f32 0x3F000000#32))) (broadcastInDim S16x24564 ![1] bcast_S24564_S16x24564_1 (broadcastInDim S24564 ![] bcast_S_S24564 (id (constantI S_ 32 0#32)))) (addi (fptosi 32 (Host.gather gather_S16x20_S16x24564x1_S16x24564_n_1_0_0_1_2_11 (shapeCast _ (extractStridedSlice S16x20x1 ![0, 0, 4] (V0 (Proc.devRef .tc main_arg1)) slices_S16x20x5_S16x20x1_0_0_4) shapeCasts_S16x20x1_S16x20) (broadcastInDim S16x24564x1 ![0, 1] bcast_S16x24564_S16x24564x1_0_1 (select (cmpi .slt (res_main_v86 V0) (broadcastInDim S16x24564 ![] bcast_S_S16x24564 (constantI S_ 32 0#32))) (addi (res_main_v86 V0) (broadcastInDim S16x24564 ![] bcast_S_S16x24564 (constantI S_ 32 20#32))) (res_main_v86 V0))))) (broadcastInDim S16x24564 ![] bcast_S_S16x24564 (constantI S_ 32 1#32)))

set_option maxRecDepth 8192 in
/-- `main_v138`'s composed term of the arguments (named: it is used 2 times). -/
def res_main_v138 (V0 : Valuation τ sig (Elt F)) : (Proc.devRef .tc main_v138 : DevRef τ sig).ty.Contents (Elt F) :=
  cmpi .sgt (res_main_v106 V0) (broadcastInDim S16x24564 ![] bcast_S_S16x24564 (constantI S_ 32 0#32))

set_option maxRecDepth 8192 in
/-- `main_v139`'s composed term of the arguments (named: it is used 3 times). -/
def res_main_v139 (V0 : Valuation τ sig (Elt F)) : (Proc.devRef .tc main_v139 : DevRef τ sig).ty.Contents (Elt F) :=
  subf (V0 (Proc.devRef .tc main_arg0)) (concatenate S16x24564x4 2 [⟨S16x24564x2, (Host.divf (subf (Host.divf (addf (extractStridedSlice S16x24564x2 ![0, 0, 0] (res_main_v93 V0) slices_S16x24564x4_S16x24564x2_0_0_0) (extractStridedSlice S16x24564x2 ![0, 0, 2] (res_main_v93 V0) slices_S16x24564x4_S16x24564x2_0_0_2)) (broadcastInDim S16x24564x2 ![] bcast_S_S16x24564x2 (constant S_ .f32 0x40000000#32))) (broadcastInDim S16x24564x2 ![0, 1, 2] bcast_S1x24564x2_S16x24564x2_0_1_2 (broadcastInDim S1x24564x2 ![1, 2] bcast_S24564x2_S1x24564x2_1_2 (extractStridedSlice S24564x2 ![0, 0] (V0 (Proc.devRef .tc main_arg2)) slices_S24564x4_S24564x2_0_0)))) (broadcastInDim S16x24564x2 ![0, 1, 2] bcast_S1x24564x2_S16x24564x2_0_1_2 (broadcastInDim S1x24564x2 ![1, 2] bcast_S24564x2_S1x24564x2_1_2 (mulf (broadcastInDim S24564x2 ![] bcast_S_S24564x2 (shapeCast _ (extractStridedSlice S1 ![0] (V0 (Proc.devRef .tc main_arg3)) slices_S2_S1_0) shapeCasts_S1_S_)) (extractStridedSlice S24564x2 ![0, 2] (V0 (Proc.devRef .tc main_arg2)) slices_S24564x4_S24564x2_0_2)))))⟩, ⟨S16x24564x2, (Host.divf (Host.log (Host.divf (subf (extractStridedSlice S16x24564x2 ![0, 0, 2] (res_main_v93 V0) slices_S16x24564x4_S16x24564x2_0_0_2) (extractStridedSlice S16x24564x2 ![0, 0, 0] (res_main_v93 V0) slices_S16x24564x4_S16x24564x2_0_0_0)) (broadcastInDim S16x24564x2 ![0, 1, 2] bcast_S1x24564x2_S16x24564x2_0_1_2 (broadcastInDim S1x24564x2 ![1, 2] bcast_S24564x2_S1x24564x2_1_2 (extractStridedSlice S24564x2 ![0, 2] (V0 (Proc.devRef .tc main_arg2)) slices_S24564x4_S24564x2_0_2))))) (broadcastInDim S16x24564x2 ![] bcast_S_S16x24564x2 (shapeCast _ (extractStridedSlice S1 ![1] (V0 (Proc.devRef .tc main_arg3)) slices_S2_S1_1) shapeCasts_S1_S_)))⟩] concatenates_S16x24564x2_S16x24564x2_S16x24564x4_d2)

set_option maxRecDepth 8192 in
/-- `main_v140`'s composed term of the arguments (named: it is used 2 times). -/
def res_main_v140 (V0 : Valuation τ sig (Elt F)) : (Proc.devRef .tc main_v140 : DevRef τ sig).ty.Contents (Elt F) :=
  Host.absf (res_main_v139 V0)

end Cert.ReferenceIdeal.Value

end
-- ==== Proof.RefRun.lean ====
/- The reference's run: every execution ends with each result at its term of the arguments, the arguments unchanged. -/
module

public import proofs.«01_k».proof.Proof.RefTerms

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_cst, main_v5, main_v6, main_v7, main_v8, main_v9, main_cst_0, main_v10, main_v11, main_v12, main_v13, main_v14, main_v15, main_v16, main_v17, main_v18, main_v19, main_v20, main_v21, main_v22, main_v23, main_v24, main_v25, main_v26, main_v27]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0]
  after_results_simp
  simp only [val0_main_arg1] <;> rfl
set_option maxRecDepth 8192 in
set_option maxHeartbeats 2000000 in
theorem val0_1_main_v2 (V0 : Valuation τ sig (Elt F)) : val0_1 V0 (no_index (Proc.devRef .tc main_v2)) = shapeCast _ (extractStridedSlice S16x20x1 ![0, 0, 4] (V0 (Proc.devRef .tc main_arg1)) slices_S16x20x5_S16x20x1_0_0_4) shapeCasts_S16x20x1_S16x20 := by
  unfold val0_1
  simp only [ops_part0_0]
  after_results_simp
  simp only [val0_main_arg1] <;> rfl
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0]
  after_results_simp
  simp only [val0_main_arg2] <;> rfl
set_option maxRecDepth 8192 in
set_option maxHeartbeats 2000000 in
theorem val0_1_main_v21 (V0 : Valuation τ sig (Elt F)) : val0_1 V0 (no_index (Proc.devRef .tc main_v21)) = minimumf (broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 2] (res_main_v0 V0) slices_S16x20x4_S16x20x2_0_0_2))) (broadcastInDim S16x20x24564x2 ![0, 1, 2, 3] bcast_S1x1x24564x2_S16x20x24564x2_0_1_2_3 (broadcastInDim S1x1x24564x2 ![1, 2, 3] bcast_S1x24564x2_S1x1x24564x2_1_2_3 (broadcastInDim S1x24564x2 ![1, 2] bcast_S24564x2_S1x24564x2_1_2 (extractStridedSlice S24564x2 ![0, 2] (res_main_v13 V0) slices_S24564x4_S24564x2_0_2)))) := by
  unfold val0_1
  simp only [ops_part0_0]
  after_results_simp
  simp only [val0_main_arg2, val0_main_arg1] <;> rfl
set_option maxRecDepth 8192 in
set_option maxHeartbeats 2000000 in
theorem val0_1_main_v26 (V0 : Valuation τ sig (Elt F)) : val0_1 V0 (no_index (Proc.devRef .tc main_v26)) = broadcastInDim S1x1x24564x2 ![1, 2, 3] bcast_S1x24564x2_S1x1x24564x2_1_2_3 (broadcastInDim S1x24564x2 ![1, 2] bcast_S24564x2_S1x24564x2_1_2 (extractStridedSlice S24564x2 ![0, 0] (res_main_v13 V0) slices_S24564x4_S24564x2_0_0)) := by
  unfold val0_1
  simp only [ops_part0_0]
  after_results_simp
  simp only [val0_main_arg2] <;> rfl
set_option maxRecDepth 8192 in
set_option maxHeartbeats 2000000 in
theorem val0_1_main_v27 (V0 : Valuation τ sig (Elt F)) : val0_1 V0 (no_index (Proc.devRef .tc main_v27)) = broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 0] (res_main_v0 V0) slices_S16x20x4_S16x20x2_0_0_0)) := by
  unfold val0_1
  simp only [ops_part0_0]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v28, main_v29, main_v30, main_cst_1, main_call0_v0, main_call0_v1, main_v31, main_v32, main_v33, main_v34, main_v35, main_v36, main_v37, main_v38, main_v39, main_v40, main_v41, main_v42, main_v43, main_v44, main_v45, main_v46, main_v47, main_v48, main_v49, main_v50, main_v51, main_v52, main_v53, main_v54]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_v0 (V0 : Valuation τ sig (Elt F)) : val0_2 V0 (no_index (Proc.devRef .tc main_v0)) = res_main_v0 V0 :=
  (val0_2_keep V0 main_v0 (by decide)).trans (val0_1_main_v0 V0)
theorem val0_2_main_v2 (V0 : Valuation τ sig (Elt F)) : val0_2 V0 (no_index (Proc.devRef .tc main_v2)) = shapeCast _ (extractStridedSlice S16x20x1 ![0, 0, 4] (V0 (Proc.devRef .tc main_arg1)) slices_S16x20x5_S16x20x1_0_0_4) shapeCasts_S16x20x1_S16x20 :=
  (val0_2_keep V0 main_v2 (by decide)).trans (val0_1_main_v2 V0)
theorem val0_2_main_v13 (V0 : Valuation τ sig (Elt F)) : val0_2 V0 (no_index (Proc.devRef .tc main_v13)) = res_main_v13 V0 :=
  (val0_2_keep V0 main_v13 (by decide)).trans (val0_1_main_v13 V0)
set_option maxRecDepth 8192 in
set_option maxHeartbeats 2000000 in
theorem val0_2_main_v36 (V0 : Valuation τ sig (Elt F)) : val0_2 V0 (no_index (Proc.devRef .tc main_v36)) = res_main_v36 V0 := by
  unfold val0_2
  simp only [ops_part0_1, TRef.binary, TRef.unary, TRef.toBuf, TRef.ofBuf, cast_eq]
  after_results_simp
  simp only [val0_1_main_v26, val0_1_main_v27, val0_1_main_v21] <;> rfl
set_option maxRecDepth 8192 in
set_option maxHeartbeats 2000000 in
theorem val0_2_main_v48 (V0 : Valuation τ sig (Elt F)) : val0_2 V0 (no_index (Proc.devRef .tc main_v48)) = broadcastInDim S16x20x1 ![0, 1] bcast_S16x20_S16x20x1_0_1 (mulf (subf (shapeCast _ (extractStridedSlice S16x20x1 ![0, 0, 2] (res_main_v0 V0) slices_S16x20x4_S16x20x1_0_0_2) shapeCasts_S16x20x1_S16x20) (shapeCast _ (extractStridedSlice S16x20x1 ![0, 0, 0] (res_main_v0 V0) slices_S16x20x4_S16x20x1_0_0_0) shapeCasts_S16x20x1_S16x20)) (subf (shapeCast _ (extractStridedSlice S16x20x1 ![0, 0, 3] (res_main_v0 V0) slices_S16x20x4_S16x20x1_0_0_3) shapeCasts_S16x20x1_S16x20) (shapeCast _ (extractStridedSlice S16x20x1 ![0, 0, 1] (res_main_v0 V0) slices_S16x20x4_S16x20x1_0_0_1) shapeCasts_S16x20x1_S16x20))) := by
  unfold val0_2
  simp only [ops_part0_1, TRef.binary, TRef.unary, TRef.toBuf, TRef.ofBuf, cast_eq]
  after_results_simp
  simp only [val0_1_main_v0] <;> rfl
set_option maxRecDepth 8192 in
set_option maxHeartbeats 2000000 in
theorem val0_2_main_v53 (V0 : Valuation τ sig (Elt F)) : val0_2 V0 (no_index (Proc.devRef .tc main_v53)) = subf (shapeCast _ (extractStridedSlice S24564x1 ![0, 2] (res_main_v13 V0) slices_S24564x4_S24564x1_0_2) shapeCasts_S24564x1_S24564) (shapeCast _ (extractStridedSlice S24564x1 ![0, 0] (res_main_v13 V0) slices_S24564x4_S24564x1_0_0) shapeCasts_S24564x1_S24564) := by
  unfold val0_2
  simp only [ops_part0_1, TRef.binary, TRef.unary, TRef.toBuf, TRef.ofBuf, cast_eq]
  after_results_simp
  simp only [val0_1_main_v13] <;> rfl
set_option maxRecDepth 8192 in
set_option maxHeartbeats 2000000 in
theorem val0_2_main_v54 (V0 : Valuation τ sig (Elt F)) : val0_2 V0 (no_index (Proc.devRef .tc main_v54)) = extractStridedSlice S24564x1 ![0, 3] (res_main_v13 V0) slices_S24564x4_S24564x1_0_3 := by
  unfold val0_2
  simp only [ops_part0_1, TRef.binary, TRef.unary, TRef.toBuf, TRef.ofBuf, cast_eq]
  after_results_simp
  simp only [val0_1_main_v13] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v55, main_v56]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v0 (V0 : Valuation τ sig (Elt F)) : val1 V0 (no_index (Proc.devRef .tc main_v0)) = res_main_v0 V0 :=
  (val1_keep V0 main_v0 (by decide)).trans (val0_2_main_v0 V0)
theorem val1_main_v2 (V0 : Valuation τ sig (Elt F)) : val1 V0 (no_index (Proc.devRef .tc main_v2)) = shapeCast _ (extractStridedSlice S16x20x1 ![0, 0, 4] (V0 (Proc.devRef .tc main_arg1)) slices_S16x20x5_S16x20x1_0_0_4) shapeCasts_S16x20x1_S16x20 :=
  (val1_keep V0 main_v2 (by decide)).trans (val0_2_main_v2 V0)
theorem val1_main_v36 (V0 : Valuation τ sig (Elt F)) : val1 V0 (no_index (Proc.devRef .tc main_v36)) = res_main_v36 V0 :=
  (val1_keep V0 main_v36 (by decide)).trans (val0_2_main_v36 V0)
theorem val1_main_v48 (V0 : Valuation τ sig (Elt F)) : val1 V0 (no_index (Proc.devRef .tc main_v48)) = broadcastInDim S16x20x1 ![0, 1] bcast_S16x20_S16x20x1_0_1 (mulf (subf (shapeCast _ (extractStridedSlice S16x20x1 ![0, 0, 2] (res_main_v0 V0) slices_S16x20x4_S16x20x1_0_0_2) shapeCasts_S16x20x1_S16x20) (shapeCast _ (extractStridedSlice S16x20x1 ![0, 0, 0] (res_main_v0 V0) slices_S16x20x4_S16x20x1_0_0_0) shapeCasts_S16x20x1_S16x20)) (subf (shapeCast _ (extractStridedSlice S16x20x1 ![0, 0, 3] (res_main_v0 V0) slices_S16x20x4_S16x20x1_0_0_3) shapeCasts_S16x20x1_S16x20) (shapeCast _ (extractStridedSlice S16x20x1 ![0, 0, 1] (res_main_v0 V0) slices_S16x20x4_S16x20x1_0_0_1) shapeCasts_S16x20x1_S16x20))) :=
  (val1_keep V0 main_v48 (by decide)).trans (val0_2_main_v48 V0)
theorem val1_main_v53 (V0 : Valuation τ sig (Elt F)) : val1 V0 (no_index (Proc.devRef .tc main_v53)) = subf (shapeCast _ (extractStridedSlice S24564x1 ![0, 2] (res_main_v13 V0) slices_S24564x4_S24564x1_0_2) shapeCasts_S24564x1_S24564) (shapeCast _ (extractStridedSlice S24564x1 ![0, 0] (res_main_v13 V0) slices_S24564x4_S24564x1_0_0) shapeCasts_S24564x1_S24564) :=
  (val1_keep V0 main_v53 (by decide)).trans (val0_2_main_v53 V0)
set_option maxRecDepth 8192 in
theorem val1_main_v55 (V0 : Valuation τ sig (Elt F)) : val1 V0 (no_index (Proc.devRef .tc main_v55)) = shapeCast _ (extractStridedSlice S24564x1 ![0, 3] (res_main_v13 V0) slices_S24564x4_S24564x1_0_3) shapeCasts_S24564x1_S24564 := by
  unfold val1
  simp only [ops_part0_2]
  after_results_simp
  simp only [val0_2_main_v54] <;> rfl
set_option maxRecDepth 8192 in
theorem val1_main_v56 (V0 : Valuation τ sig (Elt F)) : val1 V0 (no_index (Proc.devRef .tc main_v56)) = extractStridedSlice S24564x1 ![0, 1] (res_main_v13 V0) slices_S24564x4_S24564x1_0_1 := by
  unfold val1
  simp only [ops_part0_2]
  after_results_simp
  simp only [val0_2_main_v13] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v57, main_v58, main_v59, main_v60, main_v61, main_v62, main_v63, main_v64, main_v65, main_v66, main_call1_v0, main_call1_cst, main_call1_c, main_call1_v1_0, main_v67, main_cst_2, main_v68, main_call2_v0, main_call2_cst, main_call2_c, main_call2_v1_0, main_v69, main_v70, main_v71, main_v72, main_v73, main_v74, main_v75, main_v76, main_v77]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v0 (V0 : Valuation τ sig (Elt F)) : val1_1 V0 (no_index (Proc.devRef .tc main_v0)) = res_main_v0 V0 :=
  (val1_1_keep V0 main_v0 (by decide)).trans (val1_main_v0 V0)
theorem val1_1_main_v2 (V0 : Valuation τ sig (Elt F)) : val1_1 V0 (no_index (Proc.devRef .tc main_v2)) = shapeCast _ (extractStridedSlice S16x20x1 ![0, 0, 4] (V0 (Proc.devRef .tc main_arg1)) slices_S16x20x5_S16x20x1_0_0_4) shapeCasts_S16x20x1_S16x20 :=
  (val1_1_keep V0 main_v2 (by decide)).trans (val1_main_v2 V0)
set_option maxRecDepth 8192 in
set_option maxHeartbeats 2000000 in
theorem val1_1_main_v68 (V0 : Valuation τ sig (Elt F)) : val1_1 V0 (no_index (Proc.devRef .tc main_v68)) = Host.reduce FloatOps.maximumf (res_main_v66 V0) (constant S_ .f32 0xFF800000#32) reducesTo_S16x20x24564_S16x24564_d1 h_S_ := by
  unfold val1_1
  simp only [ops_part1_0, TRef.nullary, TRef.quaternary, TRef.toBuf, TRef.ofBuf, cast_eq]
  after_results_simp
  simp only [val1_main_v56, val1_main_v55, val1_main_v53, val1_main_v48, val1_main_v36] <;> rfl
set_option maxRecDepth 8192 in
set_option maxHeartbeats 2000000 in
theorem val1_1_main_v69 (V0 : Valuation τ sig (Elt F)) : val1_1 V0 (no_index (Proc.devRef .tc main_v69)) = (bestTruth (F := F) (res_main_v66 V0) (res_main_call2_v0 V0) (res_main_call2_cst V0) (res_main_call2_c V0)) := by
  unfold val1_1
  simp only [ops_part1_0, TRef.nullary, TRef.quaternary, TRef.toBuf, TRef.ofBuf, cast_eq]
  after_results_simp
  simp only [val1_main_v56, val1_main_v55, val1_main_v53, val1_main_v48, val1_main_v36] <;> rfl
set_option maxRecDepth 8192 in
set_option maxHeartbeats 2000000 in
theorem val1_1_main_v76 (V0 : Valuation τ sig (Elt F)) : val1_1 V0 (no_index (Proc.devRef .tc main_v76)) = cmpi .eq (broadcastInDim S16x20x24564 ![0, 1, 2] bcast_S16x20x1_S16x20x24564_0_1_2 (broadcastInDim S16x20x1 ![0, 1] bcast_S16x20_S16x20x1_0_1 ((bestPrior (F := F) (res_main_v66 V0) (res_main_call1_v0 V0) (res_main_call1_cst V0) (res_main_call1_c V0))))) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (iotaInDim S24564 32 0)))) := by
  unfold val1_1
  simp only [ops_part1_0, TRef.nullary, TRef.quaternary, TRef.toBuf, TRef.ofBuf, cast_eq]
  after_results_simp
  simp only [val1_main_v56, val1_main_v55, val1_main_v53, val1_main_v48, val1_main_v36] <;> rfl
set_option maxRecDepth 8192 in
set_option maxHeartbeats 2000000 in
theorem val1_1_main_v77 (V0 : Valuation τ sig (Elt F)) : val1_1 V0 (no_index (Proc.devRef .tc main_v77)) = iotaInDim S20 32 0 := by
  unfold val1_1
  simp only [ops_part1_0, TRef.nullary, TRef.quaternary, TRef.toBuf, TRef.ofBuf, cast_eq]
  after_results_simp
  all_goals rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v78, main_c, main_call3_v0, main_call3_v1, main_call3_v2, main_call3_v3, main_call3_v4, main_v79, main_c_3, main_v80, main_c_4, main_v81, main_v82, main_cst_5, main_call4_v0, main_call4_v1, main_call4_v2, main_v83, main_c_6, main_v84, main_v85, main_v86, main_c_7, main_v87, main_v88, main_c_8, main_v89, main_v90, main_v91, main_v92]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v0 (V0 : Valuation τ sig (Elt F)) : val1_2 V0 (no_index (Proc.devRef .tc main_v0)) = res_main_v0 V0 :=
  (val1_2_keep V0 main_v0 (by decide)).trans (val1_1_main_v0 V0)
theorem val1_2_main_v2 (V0 : Valuation τ sig (Elt F)) : val1_2 V0 (no_index (Proc.devRef .tc main_v2)) = shapeCast _ (extractStridedSlice S16x20x1 ![0, 0, 4] (V0 (Proc.devRef .tc main_arg1)) slices_S16x20x5_S16x20x1_0_0_4) shapeCasts_S16x20x1_S16x20 :=
  (val1_2_keep V0 main_v2 (by decide)).trans (val1_1_main_v2 V0)
set_option maxRecDepth 8192 in
set_option maxHeartbeats 2000000 in
theorem val1_2_main_v83 (V0 : Valuation τ sig (Elt F)) : val1_2 V0 (no_index (Proc.devRef .tc main_v83)) = select (cmpi .sge (res_main_v80 V0) (broadcastInDim S16x24564 ![] bcast_S_S16x24564 (constantI S_ 32 0#32))) (broadcastInDim S16x24564 ![1] bcast_S24564_S16x24564_1 (broadcastInDim S24564 ![] bcast_S_S24564 (id (constant S_ .f32 0x40000000#32)))) (Host.reduce FloatOps.maximumf (res_main_v66 V0) (constant S_ .f32 0xFF800000#32) reducesTo_S16x20x24564_S16x24564_d1 h_S_) := by
  unfold val1_2
  simp only [ops_part1_1, TRef.ternary, TRef.unary, TRef.toBuf, TRef.ofBuf, cast_eq]
  after_results_simp
  simp only [val1_1_main_v68, val1_1_main_v77, val1_1_main_v76] <;> rfl
set_option maxRecDepth 8192 in
set_option maxHeartbeats 2000000 in
theorem val1_2_main_v86 (V0 : Valuation τ sig (Elt F)) : val1_2 V0 (no_index (Proc.devRef .tc main_v86)) = res_main_v86 V0 := by
  unfold val1_2
  simp only [ops_part1_1, TRef.ternary, TRef.unary, TRef.toBuf, TRef.ofBuf, cast_eq]
  after_results_simp
  simp only [val1_1_main_v69, val1_1_main_v77, val1_1_main_v76] <;> rfl
set_option maxRecDepth 8192 in
set_option maxHeartbeats 2000000 in
theorem val1_2_main_v92 (V0 : Valuation τ sig (Elt F)) : val1_2 V0 (no_index (Proc.devRef .tc main_v92)) = broadcastInDim S16x24564x1 ![0, 1] bcast_S16x24564_S16x24564x1_0_1 (select (cmpi .slt (res_main_v86 V0) (broadcastInDim S16x24564 ![] bcast_S_S16x24564 (constantI S_ 32 0#32))) (addi (res_main_v86 V0) (broadcastInDim S16x24564 ![] bcast_S_S16x24564 (constantI S_ 32 20#32))) (res_main_v86 V0)) := by
  unfold val1_2
  simp only [ops_part1_1, TRef.ternary, TRef.unary, TRef.toBuf, TRef.ofBuf, cast_eq]
  after_results_simp
  simp only [val1_1_main_v69, val1_1_main_v77, val1_1_main_v76] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v93, main_c_9, main_v94, main_v95, main_c_10, main_v96, main_v97, main_v98, main_v99, main_v100, main_v101, main_c_11, main_v102, main_v103, main_cst_12, main_v104]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_v83 (V0 : Valuation τ sig (Elt F)) : val2 V0 (no_index (Proc.devRef .tc main_v83)) = select (cmpi .sge (res_main_v80 V0) (broadcastInDim S16x24564 ![] bcast_S_S16x24564 (constantI S_ 32 0#32))) (broadcastInDim S16x24564 ![1] bcast_S24564_S16x24564_1 (broadcastInDim S24564 ![] bcast_S_S24564 (id (constant S_ .f32 0x40000000#32)))) (Host.reduce FloatOps.maximumf (res_main_v66 V0) (constant S_ .f32 0xFF800000#32) reducesTo_S16x20x24564_S16x24564_d1 h_S_) :=
  (val2_keep V0 main_v83 (by decide)).trans (val1_2_main_v83 V0)
set_option maxRecDepth 8192 in
set_option maxHeartbeats 1600000 in
theorem val2_main_v93 (V0 : Valuation τ sig (Elt F)) : val2 V0 (no_index (Proc.devRef .tc main_v93)) = res_main_v93 V0 := by
  unfold val2
  simp only [ops_part1_2]
  after_results_simp
  simp only [val1_2_main_v92, val1_2_main_v0] <;> rfl
set_option maxRecDepth 8192 in
set_option maxHeartbeats 1600000 in
theorem val2_main_v103 (V0 : Valuation τ sig (Elt F)) : val2 V0 (no_index (Proc.devRef .tc main_v103)) = addi (fptosi 32 (Host.gather gather_S16x20_S16x24564x1_S16x24564_n_1_0_0_1_2_11 (shapeCast _ (extractStridedSlice S16x20x1 ![0, 0, 4] (V0 (Proc.devRef .tc main_arg1)) slices_S16x20x5_S16x20x1_0_0_4) shapeCasts_S16x20x1_S16x20) (broadcastInDim S16x24564x1 ![0, 1] bcast_S16x24564_S16x24564x1_0_1 (select (cmpi .slt (res_main_v86 V0) (broadcastInDim S16x24564 ![] bcast_S_S16x24564 (constantI S_ 32 0#32))) (addi (res_main_v86 V0) (broadcastInDim S16x24564 ![] bcast_S_S16x24564 (constantI S_ 32 20#32))) (res_main_v86 V0))))) (broadcastInDim S16x24564 ![] bcast_S_S16x24564 (constantI S_ 32 1#32)) := by
  unfold val2
  simp only [ops_part1_2]
  after_results_simp
  simp only [val1_2_main_v86, val1_2_main_v2] <;> rfl
set_option maxRecDepth 8192 in
set_option maxHeartbeats 1600000 in
theorem val2_main_v104 (V0 : Valuation τ sig (Elt F)) : val2 V0 (no_index (Proc.devRef .tc main_v104)) = broadcastInDim S16x24564 ![] bcast_S_S16x24564 (constant S_ .f32 0x3F000000#32) := by
  unfold val2
  simp only [ops_part1_2]
  after_results_simp
  all_goals rfl

/-- The device's buffer contents after @main's first 168 operations. -/
def val2_1 (V0 : Valuation τ sig (Elt F)) : Valuation τ sig (Elt F) := after ops_part2_0 (val2 V0)
/-- The buffers that window `ops_part2_0`'s operations write. -/
abbrev ops_part2_0_W : List (Ref sig .tc) := [main_v105, main_c_13, main_call6_v0, main_call6_v1, main_call6_v2, main_v106, main_v107, main_v108, main_v109, main_cst_14, main_v110, main_v111, main_v112, main_v113, main_v114, main_v115, main_v116, main_v117, main_v118, main_v119, main_v120, main_v121, main_v122, main_v123, main_v124, main_v125, main_v126, main_v127, main_v128, main_v129]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
set_option maxRecDepth 8192 in
set_option maxHeartbeats 2000000 in
theorem val2_1_main_v106 (V0 : Valuation τ sig (Elt F)) : val2_1 V0 (no_index (Proc.devRef .tc main_v106)) = res_main_v106 V0 := by
  unfold val2_1
  simp only [ops_part2_0, TRef.ternary, TRef.unary, TRef.toBuf, TRef.ofBuf, cast_eq]
  after_results_simp
  simp only [val2_main_v103, val2_main_v104, val2_main_v83] <;> rfl
set_option maxRecDepth 8192 in
set_option maxHeartbeats 2000000 in
theorem val2_1_main_v123 (V0 : Valuation τ sig (Elt F)) : val2_1 V0 (no_index (Proc.devRef .tc main_v123)) = Host.divf (subf (Host.divf (addf (extractStridedSlice S16x24564x2 ![0, 0, 0] (res_main_v93 V0) slices_S16x24564x4_S16x24564x2_0_0_0) (extractStridedSlice S16x24564x2 ![0, 0, 2] (res_main_v93 V0) slices_S16x24564x4_S16x24564x2_0_0_2)) (broadcastInDim S16x24564x2 ![] bcast_S_S16x24564x2 (constant S_ .f32 0x40000000#32))) (broadcastInDim S16x24564x2 ![0, 1, 2] bcast_S1x24564x2_S16x24564x2_0_1_2 (broadcastInDim S1x24564x2 ![1, 2] bcast_S24564x2_S1x24564x2_1_2 (extractStridedSlice S24564x2 ![0, 0] (V0 (Proc.devRef .tc main_arg2)) slices_S24564x4_S24564x2_0_0)))) (broadcastInDim S16x24564x2 ![0, 1, 2] bcast_S1x24564x2_S16x24564x2_0_1_2 (broadcastInDim S1x24564x2 ![1, 2] bcast_S24564x2_S1x24564x2_1_2 (mulf (broadcastInDim S24564x2 ![] bcast_S_S24564x2 (shapeCast _ (extractStridedSlice S1 ![0] (V0 (Proc.devRef .tc main_arg3)) slices_S2_S1_0) shapeCasts_S1_S_)) (extractStridedSlice S24564x2 ![0, 2] (V0 (Proc.devRef .tc main_arg2)) slices_S24564x4_S24564x2_0_2)))) := by
  unfold val2_1
  simp only [ops_part2_0, TRef.ternary, TRef.unary, TRef.toBuf, TRef.ofBuf, cast_eq]
  after_results_simp
  simp only [val2_main_arg2, val2_main_arg3, val2_main_v93] <;> rfl
set_option maxRecDepth 8192 in
set_option maxHeartbeats 2000000 in
theorem val2_1_main_v126 (V0 : Valuation τ sig (Elt F)) : val2_1 V0 (no_index (Proc.devRef .tc main_v126)) = subf (extractStridedSlice S16x24564x2 ![0, 0, 2] (res_main_v93 V0) slices_S16x24564x4_S16x24564x2_0_0_2) (extractStridedSlice S16x24564x2 ![0, 0, 0] (res_main_v93 V0) slices_S16x24564x4_S16x24564x2_0_0_0) := by
  unfold val2_1
  simp only [ops_part2_0, TRef.ternary, TRef.unary, TRef.toBuf, TRef.ofBuf, cast_eq]
  after_results_simp
  simp only [val2_main_v93] <;> rfl
set_option maxRecDepth 8192 in
set_option maxHeartbeats 2000000 in
theorem val2_1_main_v129 (V0 : Valuation τ sig (Elt F)) : val2_1 V0 (no_index (Proc.devRef .tc main_v129)) = broadcastInDim S16x24564x2 ![0, 1, 2] bcast_S1x24564x2_S16x24564x2_0_1_2 (broadcastInDim S1x24564x2 ![1, 2] bcast_S24564x2_S1x24564x2_1_2 (extractStridedSlice S24564x2 ![0, 2] (V0 (Proc.devRef .tc main_arg2)) slices_S24564x4_S24564x2_0_2)) := by
  unfold val2_1
  simp only [ops_part2_0, TRef.ternary, TRef.unary, TRef.toBuf, TRef.ofBuf, cast_eq]
  after_results_simp
  simp only [val2_main_arg2] <;> rfl

/-- The device's buffer contents after @main's first 198 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v130, main_v131, main_v132, main_v133, main_v134, main_v135, main_v136, main_c_15, main_v137, main_v138, main_v139, main_v140, main_cst_16, main_v141, main_v142, main_cst_17, main_v143, main_v144, main_v145, main_cst_18, main_v146, main_v147, main_v148, main_v149, main_v150, main_v151, main_v152, main_cst_19, main_v153, main_v154]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_v106 (V0 : Valuation τ sig (Elt F)) : val2_2 V0 (no_index (Proc.devRef .tc main_v106)) = res_main_v106 V0 :=
  (val2_2_keep V0 main_v106 (by decide)).trans (val2_1_main_v106 V0)
set_option maxRecDepth 8192 in
set_option maxHeartbeats 2000000 in
theorem val2_2_main_v153 (V0 : Valuation τ sig (Elt F)) : val2_2 V0 (no_index (Proc.devRef .tc main_v153)) = Host.reduceAdd (mulf (select (cmpf .olt (res_main_v140 V0) (broadcastInDim S16x24564x4 ![] bcast_S_S16x24564x4 (constant S_ .f32 0x3F800000#32))) (mulf (mulf (broadcastInDim S16x24564x4 ![] bcast_S_S16x24564x4 (constant S_ .f32 0x3F000000#32)) (res_main_v139 V0)) (res_main_v139 V0)) (subf (res_main_v140 V0) (broadcastInDim S16x24564x4 ![] bcast_S_S16x24564x4 (constant S_ .f32 0x3F000000#32)))) (broadcastInDim S16x24564x4 ![0, 1, 2] bcast_S16x24564x1_S16x24564x4_0_1_2 (uitofp .f32 (broadcastInDim S16x24564x1 ![0, 1] bcast_S16x24564_S16x24564x1_0_1 (res_main_v138 V0))))) (constant S_ .f32 0x00000000#32) reducesTo_S16x24564x4_S16_d1_2 h_S_ := by
  unfold val2_2
  simp only [ops_part2_1, TRef.ternary, TRef.toBuf, TRef.ofBuf, cast_eq]
  after_results_simp
  simp only [val2_1_main_v106, val2_1_main_arg3, val2_1_main_v129, val2_1_main_v126, val2_1_main_v123, val2_1_main_arg0] <;> rfl
set_option maxRecDepth 8192 in
set_option maxHeartbeats 2000000 in
theorem val2_2_main_v154 (V0 : Valuation τ sig (Elt F)) : val2_2 V0 (no_index (Proc.devRef .tc main_v154)) = extui 32 (res_main_v138 V0) natLt_1_32 := by
  unfold val2_2
  simp only [ops_part2_1, TRef.ternary, TRef.toBuf, TRef.ofBuf, cast_eq]
  after_results_simp
  simp only [val2_1_main_v106] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_c_20, main_v155, main_c_21]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_v106 (V0 : Valuation τ sig (Elt F)) : val3 V0 (no_index (Proc.devRef .tc main_v106)) = res_main_v106 V0 :=
  (val3_keep V0 main_v106 (by decide)).trans (val2_2_main_v106 V0)
theorem val3_main_v153 (V0 : Valuation τ sig (Elt F)) : val3 V0 (no_index (Proc.devRef .tc main_v153)) = Host.reduceAdd (mulf (select (cmpf .olt (res_main_v140 V0) (broadcastInDim S16x24564x4 ![] bcast_S_S16x24564x4 (constant S_ .f32 0x3F800000#32))) (mulf (mulf (broadcastInDim S16x24564x4 ![] bcast_S_S16x24564x4 (constant S_ .f32 0x3F000000#32)) (res_main_v139 V0)) (res_main_v139 V0)) (subf (res_main_v140 V0) (broadcastInDim S16x24564x4 ![] bcast_S_S16x24564x4 (constant S_ .f32 0x3F000000#32)))) (broadcastInDim S16x24564x4 ![0, 1, 2] bcast_S16x24564x1_S16x24564x4_0_1_2 (uitofp .f32 (broadcastInDim S16x24564x1 ![0, 1] bcast_S16x24564_S16x24564x1_0_1 (res_main_v138 V0))))) (constant S_ .f32 0x00000000#32) reducesTo_S16x24564x4_S16_d1_2 h_S_ :=
  (val3_keep V0 main_v153 (by decide)).trans (val2_2_main_v153 V0)
set_option maxRecDepth 8192 in
theorem val3_main_v155 (V0 : Valuation τ sig (Elt F)) : val3 V0 (no_index (Proc.devRef .tc main_v155)) = Host.reduce IntOp.addi (extui 32 (res_main_v138 V0) natLt_1_32) (constantI S_ 32 0#32) reducesTo_S16x24564_S16_d1 h_S_ := by
  unfold val3
  simp only [ops_part2_2]
  after_results_simp
  simp only [val2_2_main_v154] <;> rfl
set_option maxRecDepth 8192 in
theorem val3_main_c_21 (V0 : Valuation τ sig (Elt F)) : val3 V0 (no_index (Proc.devRef .tc main_c_21)) = constantI S_ 32 0#32 := by
  unfold val3
  simp only [ops_part2_2]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_call8_v0, main_v156, main_v157, main_v158, main_v159, main_v160, main_v161, main_c_22, main_call9_v0, main_v162, main_v163]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
set_option maxRecDepth 8192 in
set_option maxHeartbeats 1100000 in
theorem val4_main_v157 (V0 : Valuation τ sig (Elt F)) : val4 V0 (no_index (Proc.devRef .tc main_v157)) = shapeCast _ (pad S16x24576 ![0, 0] ![0, 12] ![0, 0] (res_main_v106 V0) (id (constantI S_ 32 0#32)) pads_S16x24564_S16x24576_000_0120 h_S_) shapeCasts_S16x24576_S16x192x128 := by
  unfold val4
  simp only [ops_part3, TRef.binary, TRef.unary, TRef.toBuf, TRef.ofBuf, cast_eq]
  after_results_simp
  simp only [val3_main_c_21, val3_main_v106] <;> rfl
set_option maxRecDepth 8192 in
set_option maxHeartbeats 1100000 in
theorem val4_main_v163 (V0 : Valuation τ sig (Elt F)) : val4 V0 (no_index (Proc.devRef .tc main_v163)) = shapeCast _ (pad S16x128 ![0, 0] ![0, 126] ![0, 0] (concatenate S16x2 1 [⟨S16x1, (broadcastInDim S16x1 ![0] bcast_S16_S16x1_0 (Host.reduceAdd (mulf (select (cmpf .olt (res_main_v140 V0) (broadcastInDim S16x24564x4 ![] bcast_S_S16x24564x4 (constant S_ .f32 0x3F800000#32))) (mulf (mulf (broadcastInDim S16x24564x4 ![] bcast_S_S16x24564x4 (constant S_ .f32 0x3F000000#32)) (res_main_v139 V0)) (res_main_v139 V0)) (subf (res_main_v140 V0) (broadcastInDim S16x24564x4 ![] bcast_S_S16x24564x4 (constant S_ .f32 0x3F000000#32)))) (broadcastInDim S16x24564x4 ![0, 1, 2] bcast_S16x24564x1_S16x24564x4_0_1_2 (uitofp .f32 (broadcastInDim S16x24564x1 ![0, 1] bcast_S16x24564_S16x24564x1_0_1 (res_main_v138 V0))))) (constant S_ .f32 0x00000000#32) reducesTo_S16x24564x4_S16_d1_2 h_S_))⟩, ⟨S16x1, (broadcastInDim S16x1 ![0] bcast_S16_S16x1_0 (sitofp .f32 (Host.reduce IntOp.addi (extui 32 (res_main_v138 V0) natLt_1_32) (constantI S_ 32 0#32) reducesTo_S16x24564_S16_d1 h_S_)))⟩] concatenates_S16x1_S16x1_S16x2_d1) (sitofp .f32 (constantI S_ 32 0#32)) pads_S16x2_S16x128_000_01260 h_S_) shapeCasts_S16x128_S16x1x128 := by
  unfold val4
  simp only [ops_part3, TRef.binary, TRef.unary, TRef.toBuf, TRef.ofBuf, cast_eq]
  after_results_simp
  simp only [val3_main_v155, val3_main_v153] <;> rfl

theorem after_ops (V0 : Valuation τ sig (Elt F)) : after ops V0 = val4 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = shapeCast _ (pad S16x24576 ![0, 0] ![0, 12] ![0, 0] (res_main_v106 (launchContents m c)) (id (constantI S_ 32 0#32)) pads_S16x24564_S16x24576_000_0120 h_S_) shapeCasts_S16x24576_S16x192x128
      ∧ r.2.mem ((c.tc : Thread nD τ).loc main_v163) = shapeCast _ (pad S16x128 ![0, 0] ![0, 126] ![0, 0] (concatenate S16x2 1 [⟨S16x1, (broadcastInDim S16x1 ![0] bcast_S16_S16x1_0 (Host.reduceAdd (mulf (select (cmpf .olt (res_main_v140 (launchContents m c)) (broadcastInDim S16x24564x4 ![] bcast_S_S16x24564x4 (constant S_ .f32 0x3F800000#32))) (mulf (mulf (broadcastInDim S16x24564x4 ![] bcast_S_S16x24564x4 (constant S_ .f32 0x3F000000#32)) (res_main_v139 (launchContents m c))) (res_main_v139 (launchContents m c))) (subf (res_main_v140 (launchContents m c)) (broadcastInDim S16x24564x4 ![] bcast_S_S16x24564x4 (constant S_ .f32 0x3F000000#32)))) (broadcastInDim S16x24564x4 ![0, 1, 2] bcast_S16x24564x1_S16x24564x4_0_1_2 (uitofp .f32 (broadcastInDim S16x24564x1 ![0, 1] bcast_S16x24564_S16x24564x1_0_1 (res_main_v138 (launchContents m c)))))) (constant S_ .f32 0x00000000#32) reducesTo_S16x24564x4_S16_d1_2 h_S_))⟩, ⟨S16x1, (broadcastInDim S16x1 ![0] bcast_S16_S16x1_0 (sitofp .f32 (Host.reduce IntOp.addi (extui 32 (res_main_v138 (launchContents m c)) natLt_1_32) (constantI S_ 32 0#32) reducesTo_S16x24564_S16_d1 h_S_)))⟩] concatenates_S16x1_S16x1_S16x2_d1) (sitofp .f32 (constantI S_ 32 0#32)) pads_S16x2_S16x128_000_01260 h_S_) shapeCasts_S16x128_S16x1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v157).trans ((congrFun (after_ops (launchContents m c)) (Proc.devRef .tc main_v157)).trans (val4_main_v157 (launchContents m c))),
      (h c main_v163).trans ((congrFun (after_ops (launchContents m c)) (Proc.devRef .tc main_v163)).trans (val4_main_v163 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c)))⟩)
    (run_seq scopedRefs_eq scopedSems_eq defs main (fun _ => ops) main_eq (fun _ => ops_sub) m ρ fun _ => ops_fresh)

end Cert.ReferenceIdeal.Value

end
-- ==== Proof.RefPlain.lean ====
/- The reference's values as functions of its four arguments alone. -/
module

public import proofs.«01_k».proof.Proof.RefRun

@[expose] public section

noncomputable section

namespace Cert.Proof.RefPlain

open Cert.ReferenceIdeal Cert.ReferenceIdeal.Gen Cert.ReferenceIdeal.Value Idealize.ShloMosaic Idealize.ShloMosaic.TcCoe Idealize.ShloMosaic.StableHlo

variable {F : FTy → Type} [FloatOps F]

/-- For each truth, which prior it overlaps most. -/
def bestPriorP (x : FVec F S16x20x24564 .f32) (y : IVec S16x20x24564 32) (u : FVec F S_ .f32) (v : IVec S_ 32) : IVec S16x20 32 :=
  fun j => (Host.argReduce reducer_argmax_f32_i32 x y u v reducesTo_S16x20x24564_S16x20_d2 h_S_ j).2
/-- For each prior, which truth overlaps it most. -/
def bestTruthP (x : FVec F S16x20x24564 .f32) (y : IVec S16x20x24564 32) (u : FVec F S_ .f32) (v : IVec S_ 32) : IVec S16x24564 32 :=
  fun j => (Host.argReduce reducer_argmax_f32_i32 x y u v reducesTo_S16x20x24564_S16x24564_d1 h_S_ j).2

/-- The truths' corners. -/
def v0 (a0 : FVec F S16x24564x4 .f32) (a1 : FVec F S16x20x5 .f32) (a2 : FVec F S24564x4 .f32) (a3 : FVec F S2 .f32) : FVec F S16x20x4 .f32 :=
  extractStridedSlice S16x20x4 ![0, 0, 0] a1 slices_S16x20x5_S16x20x4_0_0_0

/-- The priors' corners. -/
def v13 (a0 : FVec F S16x24564x4 .f32) (a1 : FVec F S16x20x5 .f32) (a2 : FVec F S24564x4 .f32) (a3 : FVec F S2 .f32) : FVec F S24564x4 .f32 :=
  concatenate S24564x4 1 [⟨S24564x2, (subf (extractStridedSlice S24564x2 ![0, 0] a2 slices_S24564x4_S24564x2_0_0) (Host.divf (extractStridedSlice S24564x2 ![0, 2] a2 slices_S24564x4_S24564x2_0_2) (broadcastInDim S24564x2 ![] bcast_S_S24564x2 (constant S_ .f32 0x40000000#32))))⟩, ⟨S24564x2, (addf (extractStridedSlice S24564x2 ![0, 0] a2 slices_S24564x4_S24564x2_0_0) (Host.divf (extractStridedSlice S24564x2 ![0, 2] a2 slices_S24564x4_S24564x2_0_2) (broadcastInDim S24564x2 ![] bcast_S_S24564x2 (constant S_ .f32 0x40000000#32))))⟩] concatenates_S24564x2_S24564x2_S24564x4_d1

/-- How far each truth and prior reach into each other on each axis. -/
def v31 (a0 : FVec F S16x24564x4 .f32) (a1 : FVec F S16x20x5 .f32) (a2 : FVec F S24564x4 .f32) (a3 : FVec F S2 .f32) : FVec F S16x20x24564x2 .f32 :=
  maximumf (broadcastInDim S16x20x24564x2 ![] bcast_S_S16x20x24564x2 (constant S_ .f32 0x00000000#32)) (subf (minimumf (broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 2] (v0 a0 a1 a2 a3) slices_S16x20x4_S16x20x2_0_0_2))) (broadcastInDim S16x20x24564x2 ![0, 1, 2, 3] bcast_S1x1x24564x2_S16x20x24564x2_0_1_2_3 (broadcastInDim S1x1x24564x2 ![1, 2, 3] bcast_S1x24564x2_S1x1x24564x2_1_2_3 (broadcastInDim S1x24564x2 ![1, 2] bcast_S24564x2_S1x24564x2_1_2 (extractStridedSlice S24564x2 ![0, 2] (v13 a0 a1 a2 a3) slices_S24564x4_S24564x2_0_2))))) (maximumf (broadcastInDim S16x20x24564x2 ![0, 1, 2, 3] bcast_S16x20x1x2_S16x20x24564x2_0_1_2_3 (broadcastInDim S16x20x1x2 ![0, 1, 3] bcast_S16x20x2_S16x20x1x2_0_1_3 (extractStridedSlice S16x20x2 ![0, 0, 0] (v0 a0 a1 a2 a3) slices_S16x20x4_S16x20x2_0_0_0))) (broadcastInDim S16x20x24564x2 ![0, 1, 2, 3] bcast_S1x1x24564x2_S16x20x24564x2_0_1_2_3 (broadcastInDim S1x1x24564x2 ![1, 2, 3] bcast_S1x24564x2_S1x1x24564x2_1_2_3 (broadcastInDim S1x24564x2 ![1, 2] bcast_S24564x2_S1x24564x2_1_2 (extractStridedSlice S24564x2 ![0, 0] (v13 a0 a1 a2 a3) slices_S24564x4_S24564x2_0_0))))))

/-- The area they share. -/
def v36 (a0 : FVec F S16x24564x4 .f32) (a1 : FVec F S16x20x5 .f32) (a2 : FVec F S24564x4 .f32) (a3 : FVec F S2 .f32) : FVec F S16x20x24564 .f32 :=
  mulf (shapeCast _ (extractStridedSlice S16x20x24564x1 ![0, 0, 0, 0] (v31 a0 a1 a2 a3) slices_S16x20x24564x2_S16x20x24564x1_0_0_0_0) shapeCasts_S16x20x24564x1_S16x20x24564) (shapeCast _ (extractStridedSlice S16x20x24564x1 ![0, 0, 0, 1] (v31 a0 a1 a2 a3) slices_S16x20x24564x2_S16x20x24564x1_0_0_0_1) shapeCasts_S16x20x24564x1_S16x20x24564)

/-- Their overlap. -/
def v66 (a0 : FVec F S16x24564x4 .f32) (a1 : FVec F S16x20x5 .f32) (a2 : FVec F S24564x4 .f32) (a3 : FVec F S2 .f32) : FVec F S16x20x24564 .f32 :=
  Host.divf (v36 a0 a1 a2 a3) (subf (addf (broadcastInDim S16x20x24564 ![0, 1, 2] bcast_S16x20x1_S16x20x24564_0_1_2 (broadcastInDim S16x20x1 ![0, 1] bcast_S16x20_S16x20x1_0_1 (mulf (subf (shapeCast _ (extractStridedSlice S16x20x1 ![0, 0, 2] (v0 a0 a1 a2 a3) slices_S16x20x4_S16x20x1_0_0_2) shapeCasts_S16x20x1_S16x20) (shapeCast _ (extractStridedSlice S16x20x1 ![0, 0, 0] (v0 a0 a1 a2 a3) slices_S16x20x4_S16x20x1_0_0_0) shapeCasts_S16x20x1_S16x20)) (subf (shapeCast _ (extractStridedSlice S16x20x1 ![0, 0, 3] (v0 a0 a1 a2 a3) slices_S16x20x4_S16x20x1_0_0_3) shapeCasts_S16x20x1_S16x20) (shapeCast _ (extractStridedSlice S16x20x1 ![0, 0, 1] (v0 a0 a1 a2 a3) slices_S16x20x4_S16x20x1_0_0_1) shapeCasts_S16x20x1_S16x20))))) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (mulf (subf (shapeCast _ (extractStridedSlice S24564x1 ![0, 2] (v13 a0 a1 a2 a3) slices_S24564x4_S24564x1_0_2) shapeCasts_S24564x1_S24564) (shapeCast _ (extractStridedSlice S24564x1 ![0, 0] (v13 a0 a1 a2 a3) slices_S24564x4_S24564x1_0_0) shapeCasts_S24564x1_S24564)) (subf (shapeCast _ (extractStridedSlice S24564x1 ![0, 3] (v13 a0 a1 a2 a3) slices_S24564x4_S24564x1_0_3) shapeCasts_S24564x1_S24564) (shapeCast _ (extractStridedSlice S24564x1 ![0, 1] (v13 a0 a1 a2 a3) slices_S24564x4_S24564x1_0_1) shapeCasts_S24564x1_S24564))))))) (v36 a0 a1 a2 a3))

/-- The last truth that claims each prior, and -1 where none does. -/
def v80 (a0 : FVec F S16x24564x4 .f32) (a1 : FVec F S16x20x5 .f32) (a2 : FVec F S24564x4 .f32) (a3 : FVec F S2 .f32) : IVec S16x24564 32 :=
  Host.reduce IntOp.maxsi (select (cmpi .eq (broadcastInDim S16x20x24564 ![0, 1, 2] bcast_S16x20x1_S16x20x24564_0_1_2 (broadcastInDim S16x20x1 ![0, 1] bcast_S16x20_S16x20x1_0_1 ((bestPriorP (v66 a0 a1 a2 a3) (iotaInDim S16x20x24564 32 2) (constant S_ .f32 0xFF800000#32) (constantI S_ 32 0#32))))) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (iotaInDim S24564 32 0))))) (broadcastInDim S16x20x24564 ![1, 2] bcast_S20x24564_S16x20x24564_1_2 (broadcastInDim S20x24564 ![0, 1] bcast_S20x1_S20x24564_0_1 (broadcastInDim S20x1 ![0] bcast_S20_S20x1_0 (iotaInDim S20 32 0)))) (broadcastInDim S16x20x24564 ![1, 2] bcast_S20x24564_S16x20x24564_1_2 (broadcastInDim S20x24564 ![] bcast_S_S20x24564 (constantI S_ 32 4294967295#32)))) (constantI S_ 32 2147483648#32) reducesTo_S16x20x24564_S16x24564_d1 h_S_

/-- The truth each prior takes. -/
def v86 (a0 : FVec F S16x24564x4 .f32) (a1 : FVec F S16x20x5 .f32) (a2 : FVec F S24564x4 .f32) (a3 : FVec F S2 .f32) : IVec S16x24564 32 :=
  select (cmpi .sge (v80 a0 a1 a2 a3) (broadcastInDim S16x24564 ![] bcast_S_S16x24564 (constantI S_ 32 0#32))) (v80 a0 a1 a2 a3) ((bestTruthP (v66 a0 a1 a2 a3) (iotaInDim S16x20x24564 32 1) (constant S_ .f32 0xFF800000#32) (constantI S_ 32 0#32)))

/-- Its corners. -/
def v93 (a0 : FVec F S16x24564x4 .f32) (a1 : FVec F S16x20x5 .f32) (a2 : FVec F S24564x4 .f32) (a3 : FVec F S2 .f32) : FVec F S16x24564x4 .f32 :=
  Host.gather gather_S16x20x4_S16x24564x1_S16x24564x4_2_1_0_0_1_2_114 (v0 a0 a1 a2 a3) (broadcastInDim S16x24564x1 ![0, 1] bcast_S16x24564_S16x24564x1_0_1 (select (cmpi .slt (v86 a0 a1 a2 a3) (broadcastInDim S16x24564 ![] bcast_S_S16x24564 (constantI S_ 32 0#32))) (addi (v86 a0 a1 a2 a3) (broadcastInDim S16x24564 ![] bcast_S_S16x24564 (constantI S_ 32 20#32))) (v86 a0 a1 a2 a3)))

/-- Each prior's class. -/
def v106 (a0 : FVec F S16x24564x4 .f32) (a1 : FVec F S16x20x5 .f32) (a2 : FVec F S24564x4 .f32) (a3 : FVec F S2 .f32) : IVec S16x24564 32 :=
  select (cmpf .olt (select (cmpi .sge (v80 a0 a1 a2 a3) (broadcastInDim S16x24564 ![] bcast_S_S16x24564 (constantI S_ 32 0#32))) (broadcastInDim S16x24564 ![1] bcast_S24564_S16x24564_1 (broadcastInDim S24564 ![] bcast_S_S24564 (constant S_ .f32 0x40000000#32))) (Host.reduce FloatOps.maximumf (v66 a0 a1 a2 a3) (constant S_ .f32 0xFF800000#32) reducesTo_S16x20x24564_S16x24564_d1 h_S_)) (broadcastInDim S16x24564 ![] bcast_S_S16x24564 (constant S_ .f32 0x3F000000#32))) (broadcastInDim S16x24564 ![1] bcast_S24564_S16x24564_1 (broadcastInDim S24564 ![] bcast_S_S24564 (constantI S_ 32 0#32))) (addi (fptosi 32 (Host.gather gather_S16x20_S16x24564x1_S16x24564_n_1_0_0_1_2_11 (shapeCast _ (extractStridedSlice S16x20x1 ![0, 0, 4] a1 slices_S16x20x5_S16x20x1_0_0_4) shapeCasts_S16x20x1_S16x20) (broadcastInDim S16x24564x1 ![0, 1] bcast_S16x24564_S16x24564x1_0_1 (select (cmpi .slt (v86 a0 a1 a2 a3) (broadcastInDim S16x24564 ![] bcast_S_S16x24564 (constantI S_ 32 0#32))) (addi (v86 a0 a1 a2 a3) (broadcastInDim S16x24564 ![] bcast_S_S16x24564 (constantI S_ 32 20#32))) (v86 a0 a1 a2 a3))))) (broadcastInDim S16x24564 ![] bcast_S_S16x24564 (constantI S_ 32 1#32)))

/-- Whether it has one. -/
def v138 (a0 : FVec F S16x24564x4 .f32) (a1 : FVec F S16x20x5 .f32) (a2 : FVec F S24564x4 .f32) (a3 : FVec F S2 .f32) : IVec S16x24564 1 :=
  cmpi .sgt (v106 a0 a1 a2 a3) (broadcastInDim S16x24564 ![] bcast_S_S16x24564 (constantI S_ 32 0#32))

/-- The predictions' differences. -/
def v139 (a0 : FVec F S16x24564x4 .f32) (a1 : FVec F S16x20x5 .f32) (a2 : FVec F S24564x4 .f32) (a3 : FVec F S2 .f32) : FVec F S16x24564x4 .f32 :=
  subf a0 (concatenate S16x24564x4 2 [⟨S16x24564x2, (Host.divf (subf (Host.divf (addf (extractStridedSlice S16x24564x2 ![0, 0, 0] (v93 a0 a1 a2 a3) slices_S16x24564x4_S16x24564x2_0_0_0) (extractStridedSlice S16x24564x2 ![0, 0, 2] (v93 a0 a1 a2 a3) slices_S16x24564x4_S16x24564x2_0_0_2)) (broadcastInDim S16x24564x2 ![] bcast_S_S16x24564x2 (constant S_ .f32 0x40000000#32))) (broadcastInDim S16x24564x2 ![0, 1, 2] bcast_S1x24564x2_S16x24564x2_0_1_2 (broadcastInDim S1x24564x2 ![1, 2] bcast_S24564x2_S1x24564x2_1_2 (extractStridedSlice S24564x2 ![0, 0] a2 slices_S24564x4_S24564x2_0_0)))) (broadcastInDim S16x24564x2 ![0, 1, 2] bcast_S1x24564x2_S16x24564x2_0_1_2 (broadcastInDim S1x24564x2 ![1, 2] bcast_S24564x2_S1x24564x2_1_2 (mulf (broadcastInDim S24564x2 ![] bcast_S_S24564x2 (shapeCast _ (extractStridedSlice S1 ![0] a3 slices_S2_S1_0) shapeCasts_S1_S_)) (extractStridedSlice S24564x2 ![0, 2] a2 slices_S24564x4_S24564x2_0_2)))))⟩, ⟨S16x24564x2, (Host.divf (Host.log (Host.divf (subf (extractStridedSlice S16x24564x2 ![0, 0, 2] (v93 a0 a1 a2 a3) slices_S16x24564x4_S16x24564x2_0_0_2) (extractStridedSlice S16x24564x2 ![0, 0, 0] (v93 a0 a1 a2 a3) slices_S16x24564x4_S16x24564x2_0_0_0)) (broadcastInDim S16x24564x2 ![0, 1, 2] bcast_S1x24564x2_S16x24564x2_0_1_2 (broadcastInDim S1x24564x2 ![1, 2] bcast_S24564x2_S1x24564x2_1_2 (extractStridedSlice S24564x2 ![0, 2] a2 slices_S24564x4_S24564x2_0_2))))) (broadcastInDim S16x24564x2 ![] bcast_S_S16x24564x2 (shapeCast _ (extractStridedSlice S1 ![1] a3 slices_S2_S1_1) shapeCasts_S1_S_)))⟩] concatenates_S16x24564x2_S16x24564x2_S16x24564x4_d2)

/-- Their absolute values. -/
def v140 (a0 : FVec F S16x24564x4 .f32) (a1 : FVec F S16x20x5 .f32) (a2 : FVec F S24564x4 .f32) (a3 : FVec F S2 .f32) : FVec F S16x24564x4 .f32 :=
  Host.absf (v139 a0 a1 a2 a3)

/-- Each image's loss. -/
def vloss (a0 : FVec F S16x24564x4 .f32) (a1 : FVec F S16x20x5 .f32) (a2 : FVec F S24564x4 .f32) (a3 : FVec F S2 .f32) : FVec F S16 .f32 :=
  (Host.reduceAdd (mulf (select (cmpf .olt (v140 a0 a1 a2 a3) (broadcastInDim S16x24564x4 ![] bcast_S_S16x24564x4 (constant S_ .f32 0x3F800000#32))) (mulf (mulf (broadcastInDim S16x24564x4 ![] bcast_S_S16x24564x4 (constant S_ .f32 0x3F000000#32)) (v139 a0 a1 a2 a3)) (v139 a0 a1 a2 a3)) (subf (v140 a0 a1 a2 a3) (broadcastInDim S16x24564x4 ![] bcast_S_S16x24564x4 (constant S_ .f32 0x3F000000#32)))) (broadcastInDim S16x24564x4 ![0, 1, 2] bcast_S16x24564x1_S16x24564x4_0_1_2 (uitofp .f32 (broadcastInDim S16x24564x1 ![0, 1] bcast_S16x24564_S16x24564x1_0_1 (v138 a0 a1 a2 a3))))) (constant S_ .f32 0x00000000#32) reducesTo_S16x24564x4_S16_d1_2 h_S_)

/-- Each image's number of positives. -/
def vnpos (a0 : FVec F S16x24564x4 .f32) (a1 : FVec F S16x20x5 .f32) (a2 : FVec F S24564x4 .f32) (a3 : FVec F S2 .f32) : FVec F S16 .f32 :=
  (sitofp .f32 (Host.reduce IntOp.addi (extui 32 (v138 a0 a1 a2 a3) natLt_1_32) (constantI S_ 32 0#32) reducesTo_S16x24564_S16_d1 h_S_))

/-- The first result. -/
def out0 (a0 : FVec F S16x24564x4 .f32) (a1 : FVec F S16x20x5 .f32) (a2 : FVec F S24564x4 .f32) (a3 : FVec F S2 .f32) : IVec S16x192x128 32 :=
  shapeCast S16x192x128 (pad S16x24576 ![0, 0] ![0, 12] ![0, 0] (v106 a0 a1 a2 a3) (constantI S_ 32 0#32) pads_S16x24564_S16x24576_000_0120 h_S_) shapeCasts_S16x24576_S16x192x128

/-- The second result. -/
def out1 (a0 : FVec F S16x24564x4 .f32) (a1 : FVec F S16x20x5 .f32) (a2 : FVec F S24564x4 .f32) (a3 : FVec F S2 .f32) : FVec F S16x1x128 .f32 :=
  shapeCast S16x1x128 (pad S16x128 ![0, 0] ![0, 126] ![0, 0] (concatenate S16x2 1 [⟨S16x1, (broadcastInDim S16x1 ![0] bcast_S16_S16x1_0 (vloss a0 a1 a2 a3))⟩, ⟨S16x1, (broadcastInDim S16x1 ![0] bcast_S16_S16x1_0 (vnpos a0 a1 a2 a3))⟩] concatenates_S16x1_S16x1_S16x2_d1) (sitofp .f32 (constantI S_ 32 0#32)) pads_S16x2_S16x128_000_01260 h_S_) shapeCasts_S16x128_S16x1x128

open Idealize.SL.Sem in
/-- The reference's run in these terms. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = out0 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v163) = out1 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2⟩) (Cert.ReferenceIdeal.Value.run m ρ)

end Cert.Proof.RefPlain
-- ==== Proof.RefArg.lean ====
/- The reference's arg-max, read at an index. -/
module

public import proofs.«01_k».proof.Proof.RefPlain
public import proofs.«01_k».proof.Proof.Spec
public import Idealize.ShloMosaic.Lib.Pointwise
public import Idealize.ShloMosaic.Lib.ValueIdx

@[expose] public section

noncomputable section

namespace Cert.Proof.RefVal

open Cert.ReferenceIdeal Cert.ReferenceIdeal.Gen Idealize.ShloMosaic Idealize.ShloMosaic.TcCoe Idealize.ShloMosaic.StableHlo Cert.Proof.Spec Cert.Proof.RefPlain

theorem drop2 (i : S16x20x24564.Idx) : reducesTo_S16x20x24564_S16x20_d2.drop i = ix2 (i 0) (i 1) := by
  funext a; fin_cases a <;> rfl
theorem drop1 (i : S16x20x24564.Idx) : reducesTo_S16x20x24564_S16x24564_d1.drop i = ix2 (i 0) (i 2) := by
  funext a; fin_cases a <;> rfl

/-- What the arg-max fold ranges over: the pairs at the indices that drop to the result's. -/
theorem mem_fiber {α β : Type} {s t : Shape} {axes : List (Fin s.rank)} (x : s.Idx → α) (y : s.Idx → β) (h : s.ReducesTo axes t) (j : t.Idx) (e : α × β) :
    e ∈ Host.argReduceFiber x y h j ↔ ∃ i, h.drop i = j ∧ e = (x i, y i) := by
  simp only [Host.argReduceFiber, List.mem_map, List.mem_filter, decide_eq_true_eq]
  constructor
  · rintro ⟨n, ⟨-, hn⟩, rfl⟩
    exact ⟨_, hn, rfl⟩
  · rintro ⟨i, hi, rfl⟩
    exact ⟨s.rowMajor i, ⟨List.mem_finRange _, by rw [Equiv.symm_apply_apply]; exact hi⟩, by rw [Equiv.symm_apply_apply]⟩

theorem e_init : ((constant S_ .f32 0xFF800000#32 : FVec Ideal S_ .f32) (Shape.Idx.first h_S_), (constantI S_ 32 0#32) (Shape.Idx.first h_S_))
      = ((⊥ : EReal), 0#32) := Prod.ext bot_eq rfl

theorem arg_eq {s t u : Shape} {axes : List (Fin s.rank)} {β : Type} (f : Ideal .f32 × β → Ideal .f32 × β → Ideal .f32 × β) (x : FVec Ideal s .f32) (y : s.Idx → β)
    (ix : u.Idx → Ideal .f32) (iy : u.Idx → β) (h : s.ReducesTo axes t) (hu : 0 < u.numel) (j : t.Idx) :
    (Host.argReduce f x y ix iy h hu j).2 = ((Host.argReduceFiber x y h j).foldl f (ix (Shape.Idx.first hu), iy (Shape.Idx.first hu))).2 := by
  rw [Ideal.argReduce_eq_reduce2, Host.reduce2_eq_foldl_fiber]

theorem bestPriorP_fun : @bestPriorP Ideal _ = fun x y u v j => ((Host.argReduceFiber x y reducesTo_S16x20x24564_S16x20_d2 j).foldl (reducer_argmax_f32_i32 (F := Ideal)) (u (Shape.Idx.first h_S_), v (Shape.Idx.first h_S_))).2 := by
  delta bestPriorP
  refine funext fun x => funext fun y => funext fun u => funext fun v => funext fun j => ?_
  exact arg_eq (reducer_argmax_f32_i32 (F := Ideal)) x y u v reducesTo_S16x20x24564_S16x20_d2 h_S_ j

theorem bestPriorP_eq (x : FVec Ideal S16x20x24564 .f32) (y : IVec S16x20x24564 32) (u : FVec Ideal S_ .f32) (v : IVec S_ 32) (j : S16x20.Idx) :
    bestPriorP x y u v j = ((Host.argReduceFiber x y reducesTo_S16x20x24564_S16x20_d2 j).foldl (reducer_argmax_f32_i32 (F := Ideal)) (u (Shape.Idx.first h_S_), v (Shape.Idx.first h_S_))).2 := by
  rw [bestPriorP_fun]

theorem bestTruthP_fun : @bestTruthP Ideal _ = fun x y u v j => ((Host.argReduceFiber x y reducesTo_S16x20x24564_S16x24564_d1 j).foldl (reducer_argmax_f32_i32 (F := Ideal)) (u (Shape.Idx.first h_S_), v (Shape.Idx.first h_S_))).2 := by
  delta bestTruthP
  refine funext fun x => funext fun y => funext fun u => funext fun v => funext fun j => ?_
  exact arg_eq (reducer_argmax_f32_i32 (F := Ideal)) x y u v reducesTo_S16x20x24564_S16x24564_d1 h_S_ j

theorem bestTruthP_eq (x : FVec Ideal S16x20x24564 .f32) (y : IVec S16x20x24564 32) (u : FVec Ideal S_ .f32) (v : IVec S_ 32) (j : S16x24564.Idx) :
    bestTruthP x y u v j = ((Host.argReduceFiber x y reducesTo_S16x20x24564_S16x24564_d1 j).foldl (reducer_argmax_f32_i32 (F := Ideal)) (u (Shape.Idx.first h_S_), v (Shape.Idx.first h_S_))).2 := by
  rw [bestTruthP_fun]

/-- The arg-max along the priors. -/
theorem bestPrior_at (x : FVec Ideal S16x20x24564 .f32) (b : Fin 16) (t : Fin 20) (hx : ∀ q : Fin 24564, 0 ≤ (x (ix3 b t q) : EReal)) :
    ∃ p : Fin 24564, bestPriorP x (iotaInDim S16x20x24564 32 2) (constant S_ .f32 0xFF800000#32) (constantI S_ 32 0#32) (ix2 b t) = BitVec.ofNat 32 p.val
      ∧ IsFirst (fun q : Fin 24564 => x (ix3 b t q)) p := by
  rw [bestPriorP_eq, e_init]
  refine foldl_first (by decide) (by decide) (fun q : Fin 24564 => x (ix3 b t q)) hx _ (fun e he => ?_) (fun q => ?_) _
  · obtain ⟨i, hi, rfl⟩ := (mem_fiber _ _ _ _ _).1 he
    rw [drop2] at hi
    have h0 : i 0 = b := congrFun hi 0
    have h1 : i 1 = t := congrFun hi 1
    have hi : i = ix3 b t (i 2) := by rw [← h0, ← h1]; exact eq_ix3 i
    exact ⟨i 2, Prod.ext (congrArg x hi) rfl⟩
  · exact (mem_fiber _ _ _ _ _).2 ⟨ix3 b t q, drop2 _, rfl⟩

/-- The arg-max along the truths. -/
theorem bestTruth_at (x : FVec Ideal S16x20x24564 .f32) (b : Fin 16) (q : Fin 24564) (hx : ∀ t : Fin 20, 0 ≤ (x (ix3 b t q) : EReal)) :
    ∃ p : Fin 20, bestTruthP x (iotaInDim S16x20x24564 32 1) (constant S_ .f32 0xFF800000#32) (constantI S_ 32 0#32) (ix2 b q) = BitVec.ofNat 32 p.val
      ∧ IsFirst (fun t : Fin 20 => x (ix3 b t q)) p := by
  rw [bestTruthP_eq, e_init]
  refine foldl_first (by decide) (by decide) (fun t : Fin 20 => x (ix3 b t q)) hx _ (fun e he => ?_) (fun t => ?_) _
  · obtain ⟨i, hi, rfl⟩ := (mem_fiber _ _ _ _ _).1 he
    rw [drop1] at hi
    have h0 : i 0 = b := congrFun hi 0
    have h1 : i 2 = q := congrFun hi 1
    have hi : i = ix3 b (i 1) q := by rw [← h0, ← h1]; exact eq_ix3 i
    exact ⟨i 1, Prod.ext (congrArg x hi) rfl⟩
  · exact (mem_fiber _ _ _ _ _).2 ⟨ix3 b t q, drop1 _, rfl⟩

end Cert.Proof.RefVal
-- ==== Proof.RefRead.lean ====
/- The reference's reductions, look-ups and overlaps, read at an index. -/
module

public import proofs.«01_k».proof.Proof.RefPlain
public import proofs.«01_k».proof.Proof.RefArg
public import Idealize.ShloMosaic.Lib.Pointwise
public import Idealize.ShloMosaic.Lib.ValueIdx

@[expose] public section

noncomputable section

namespace Cert.Proof.RefVal

open Cert.ReferenceIdeal Cert.ReferenceIdeal.Gen Idealize.ShloMosaic Idealize.ShloMosaic.TcCoe Idealize.ShloMosaic.StableHlo Cert.Proof.Spec Cert.Proof.RefPlain

/-! ## Look-ups -/

theorem gather3 {α : Type} (x : S16x20x4.Idx → α) (idx : IVec S16x24564x1 32) (b : Fin 16) (q : Fin 24564) (k : Fin 4) (t : Fin 20)
    (h : idx (ix3 b q 0) = BitVec.ofNat 32 t.val) :
    Host.gather gather_S16x20x4_S16x24564x1_S16x24564x4_2_1_0_0_1_2_114 x idx (ix3 b q k) = x (ix3 b t k) := by
  have ht := t.isLt
  have hi : (idx (ix3 b q 0)).toInt.toNat = t.val := by
    rw [h, BitVec.toInt_eq_toNat_cond, BitVec.toNat_ofNat, Nat.mod_eq_of_lt (by omega), if_pos (by omega)]; rfl
  have hs : ∀ c, gather_S16x20x4_S16x24564x1_S16x24564x4_2_1_0_0_1_2_114.siIdx (ix3 b q k) c = ix3 b q 0 := by
    intro c; funext a; fin_cases a
    · rfl
    · rfl
    · exact Fin.ext (by show c.val = 0; have h : c.val < 1 := c.isLt; omega)
  refine congrArg x (funext fun a => Fin.ext ?_)
  fin_cases a
  · show 0 + b.val + 0 = b.val; omega
  · show min (idx _).toInt.toNat (20 - 1) + 0 + 0 = t.val
    rw [hs, hi]; omega
  · show 0 + 0 + k.val = k.val; omega

theorem gather2 {α : Type} (x : S16x20.Idx → α) (idx : IVec S16x24564x1 32) (b : Fin 16) (q : Fin 24564) (t : Fin 20)
    (h : idx (ix3 b q 0) = BitVec.ofNat 32 t.val) :
    Host.gather gather_S16x20_S16x24564x1_S16x24564_n_1_0_0_1_2_11 x idx (ix2 b q) = x (ix2 b t) := by
  have ht := t.isLt
  have hi : (idx (ix3 b q 0)).toInt.toNat = t.val := by
    rw [h, BitVec.toInt_eq_toNat_cond, BitVec.toNat_ofNat, Nat.mod_eq_of_lt (by omega), if_pos (by omega)]; rfl
  have hs : ∀ c, gather_S16x20_S16x24564x1_S16x24564_n_1_0_0_1_2_11.siIdx (ix2 b q) c = ix3 b q 0 := by
    intro c; funext a; fin_cases a
    · rfl
    · rfl
    · exact Fin.ext (by show c.val = 0; have h : c.val < 1 := c.isLt; omega)
  refine congrArg x (funext fun a => Fin.ext ?_)
  fin_cases a
  · show 0 + b.val + 0 = b.val; omega
  · show min (idx _).toInt.toNat (20 - 1) + 0 + 0 = t.val
    rw [hs, hi]; omega

/-! ## Reductions -/

theorem max_truths (x : FVec Ideal S16x20x24564 .f32) (w : BitVec 32) (b : Fin 16) (q : Fin 24564) :
    Host.reduce FloatOps.maximumf x (constant S_ .f32 w) reducesTo_S16x20x24564_S16x24564_d1 h_S_ (ix2 b q)
      = Finset.fold max (Ideal.ofBits .f32 w) (fun t : Fin 20 => x (ix3 b t q)) Finset.univ := by
  pointwise

theorem maxI_truths (x : IVec S16x20x24564 32) (w : BitVec 32) (b : Fin 16) (q : Fin 24564) :
    Host.reduce IntOp.maxsi x (constantI S_ 32 w) reducesTo_S16x20x24564_S16x24564_d1 h_S_ (ix2 b q)
      = Finset.fold IntOp.maxsi w (fun t : Fin 20 => x (ix3 b t q)) Finset.univ := by
  pointwise

theorem sum_all (x : FVec Ideal S16x24564x4 .f32) (b : Fin 16) :
    Host.reduceAdd x (constant S_ .f32 0x00000000#32) reducesTo_S16x24564x4_S16_d1_2 h_S_ (ix1 b) = ∑ q : Fin 24564, ∑ k : Fin 4, x (ix3 b q k) := by
  pointwise

/-! ## The overlaps -/

variable (a0 : FVec Ideal S16x24564x4 .f32) (a1 : FVec Ideal S16x20x5 .f32) (a2 : FVec Ideal S24564x4 .f32) (a3 : FVec Ideal S2 .f32)

/-- Image `b` of the arguments. -/
def img (b : Fin 16) : Img where
  T t k := a1 (ix3 b t k)
  p q k := a2 (ix2 q k)
  l q k := a0 (ix3 b q k)
  w0 := a3 (ix1 0)
  w1 := a3 (ix1 1)

theorem v0_at (b : Fin 16) (t : Fin 20) (k : Fin 4) : v0 a0 a1 a2 a3 (ix3 b t k) = a1 (ix3 b t ⟨k.val, by omega⟩) := by
  unfold v0
  pointwise
theorem v13_at (q : Fin 24564) (k : Fin 4) : v13 a0 a1 a2 a3 (ix2 q k)
    = if h : k.val < 2 then a2 (ix2 q k) - Ideal.div (a2 (ix2 q ⟨2 + k.val, by omega⟩)) (Ideal.ofBits .f32 0x40000000#32)
      else a2 (ix2 q ⟨k.val - 2, by omega⟩) + Ideal.div (a2 (ix2 q ⟨2 + (k.val - 2), by omega⟩)) (Ideal.ofBits .f32 0x40000000#32) := by
  unfold v13
  pointwise
theorem v31_at (b : Fin 16) (t : Fin 20) (q : Fin 24564) (k : Fin 2) : v31 a0 a1 a2 a3 (ix4 b t q k)
    = max 0 (min (v0 a0 a1 a2 a3 (ix3 b t ⟨2 + k.val, by omega⟩)) (v13 a0 a1 a2 a3 (ix2 q ⟨2 + k.val, by omega⟩))
        - max (v0 a0 a1 a2 a3 (ix3 b t ⟨k.val, by omega⟩)) (v13 a0 a1 a2 a3 (ix2 q ⟨k.val, by omega⟩))) := by
  unfold v31
  pointwise
theorem v36_at (b : Fin 16) (t : Fin 20) (q : Fin 24564) : v36 a0 a1 a2 a3 (ix3 b t q) = v31 a0 a1 a2 a3 (ix4 b t q 0) * v31 a0 a1 a2 a3 (ix4 b t q 1) := by
  unfold v36
  pointwise
theorem v66_at' (b : Fin 16) (t : Fin 20) (q : Fin 24564) : v66 a0 a1 a2 a3 (ix3 b t q)
    = Ideal.div (v36 a0 a1 a2 a3 (ix3 b t q))
      ((v0 a0 a1 a2 a3 (ix3 b t 2) - v0 a0 a1 a2 a3 (ix3 b t 0)) * (v0 a0 a1 a2 a3 (ix3 b t 3) - v0 a0 a1 a2 a3 (ix3 b t 1))
        + (v13 a0 a1 a2 a3 (ix2 q 2) - v13 a0 a1 a2 a3 (ix2 q 0)) * (v13 a0 a1 a2 a3 (ix2 q 3) - v13 a0 a1 a2 a3 (ix2 q 1))
        - v36 a0 a1 a2 a3 (ix3 b t q)) := by
  unfold v66
  pointwise

/-- The overlaps are the specified ones. -/
theorem v66_at (b : Fin 16) (t : Fin 20) (q : Fin 24564) :
    v66 a0 a1 a2 a3 (ix3 b t q) = (img a0 a1 a2 a3 b).o t (Fin.castLE (by decide) q) := by
  have hp : ∀ k, (img a0 a1 a2 a3 b).pp (Fin.castLE (by decide) q) k = a2 (ix2 q k) := fun k => dif_pos q.isLt
  have e0 : v13 a0 a1 a2 a3 (ix2 q 0) = a2 (ix2 q 0) - a2 (ix2 q 2) * Ideal.ofBits .f32 0x3F000000#32 := by rw [v13_at, ← div_two]; rfl
  have e1 : v13 a0 a1 a2 a3 (ix2 q 1) = a2 (ix2 q 1) - a2 (ix2 q 3) * Ideal.ofBits .f32 0x3F000000#32 := by rw [v13_at, ← div_two]; rfl
  have e2 : v13 a0 a1 a2 a3 (ix2 q 2) = a2 (ix2 q 0) + a2 (ix2 q 2) * Ideal.ofBits .f32 0x3F000000#32 := by rw [v13_at, ← div_two]; rfl
  have e3 : v13 a0 a1 a2 a3 (ix2 q 3) = a2 (ix2 q 1) + a2 (ix2 q 3) * Ideal.ofBits .f32 0x3F000000#32 := by rw [v13_at, ← div_two]; rfl
  have f : ∀ k : Fin 4, v0 a0 a1 a2 a3 (ix3 b t k) = (img a0 a1 a2 a3 b).T t ⟨k.val, by omega⟩ := fun k => v0_at a0 a1 a2 a3 b t k
  have s0 : v31 a0 a1 a2 a3 (ix4 b t q 0) = sideS ((img a0 a1 a2 a3 b).T t 0) ((img a0 a1 a2 a3 b).T t 2) (a2 (ix2 q 0)) (a2 (ix2 q 2)) := by
    rw [v31_at, f, f, sideS, max_comm, ← e0, ← e2, min_comm, max_comm (v13 a0 a1 a2 a3 (ix2 q 0))]; rfl
  have s1 : v31 a0 a1 a2 a3 (ix4 b t q 1) = sideS ((img a0 a1 a2 a3 b).T t 1) ((img a0 a1 a2 a3 b).T t 3) (a2 (ix2 q 1)) (a2 (ix2 q 3)) := by
    rw [v31_at, f, f, sideS, max_comm, ← e1, ← e3, min_comm, max_comm (v13 a0 a1 a2 a3 (ix2 q 1))]; rfl
  rw [v66_at', v36_at, s0, s1, e0, e1, e2, e3, f, f, f, f, Img.o, hp, hp, hp, hp]
  rfl

end Cert.Proof.RefVal
-- ==== Proof.RefVal.lean ====
/- The reference's results, read at an index and put in the specified terms. -/
module

public import proofs.«01_k».proof.Proof.RefRead
public import Idealize.ShloMosaic.Lib.Routing.Ops

@[expose] public section

noncomputable section

namespace Cert.Proof.RefVal

open Cert.ReferenceIdeal Cert.ReferenceIdeal.Gen Idealize.ShloMosaic Idealize.ShloMosaic.TcCoe Idealize.ShloMosaic.StableHlo Cert.Proof.Spec Cert.Proof.RefPlain

variable (a0 : FVec Ideal S16x24564x4 .f32) (a1 : FVec Ideal S16x20x5 .f32) (a2 : FVec Ideal S24564x4 .f32) (a3 : FVec Ideal S2 .f32)

/-- Where prior `q` stands among the padded ones. -/
abbrev up (q : Fin 24564) : Fin 24576 := Fin.castLE (by decide) q

/-- For each truth and each prior, the best prior and the best truth. -/
def bp : IVec S16x20 32 := bestPriorP (v66 a0 a1 a2 a3) (iotaInDim S16x20x24564 32 2) (constant S_ .f32 0xFF800000#32) (constantI S_ 32 0#32)
def bt : IVec S16x24564 32 := bestTruthP (v66 a0 a1 a2 a3) (iotaInDim S16x20x24564 32 1) (constant S_ .f32 0xFF800000#32) (constantI S_ 32 0#32)

section
variable {a0 a1 a2 a3} {b : Fin 16} (g : (img a0 a1 a2 a3 b).Good)
include g

theorem bp_at (t : Fin 20) : bp a0 a1 a2 a3 (ix2 b t) = BitVec.ofNat 32 (cp (img a0 a1 a2 a3 b).o t).val := by
  obtain ⟨p, e, hp⟩ := bestPrior_at (v66 a0 a1 a2 a3) b t (fun q => by rw [v66_at]; exact g.nonneg t _)
  simp only [v66_at] at hp
  have := (cp_first (img a0 a1 a2 a3 b).o t).unique (IsFirst.pad (by decide) (g.nonneg t) (g.pad t) hp)
  rw [bp, e, this]
  rfl

theorem bt_at (q : Fin 24564) : ∃ p : Fin 20, bt a0 a1 a2 a3 (ix2 b q) = BitVec.ofNat 32 p.val ∧ IsFirst (fun t => (img a0 a1 a2 a3 b).o t (up q)) p := by
  obtain ⟨p, e, hp⟩ := bestTruth_at (v66 a0 a1 a2 a3) b q (fun t => by rw [v66_at]; exact g.nonneg t _)
  simp only [v66_at] at hp
  exact ⟨p, e, hp⟩
end

/-- What each truth bids for each prior: its own number where the prior is its best one, and -1 elsewhere. -/
def bid (z : IVec S16x20 32) : IVec S16x20x24564 32 :=
  select (cmpi .eq (broadcastInDim S16x20x24564 ![0, 1, 2] bcast_S16x20x1_S16x20x24564_0_1_2 (broadcastInDim S16x20x1 ![0, 1] bcast_S16x20_S16x20x1_0_1 z)) (broadcastInDim S16x20x24564 ![0, 1, 2] bcast_S1x1x24564_S16x20x24564_0_1_2 (broadcastInDim S1x1x24564 ![1, 2] bcast_S1x24564_S1x1x24564_1_2 (broadcastInDim S1x24564 ![1] bcast_S24564_S1x24564_1 (iotaInDim S24564 32 0))))) (broadcastInDim S16x20x24564 ![1, 2] bcast_S20x24564_S16x20x24564_1_2 (broadcastInDim S20x24564 ![0, 1] bcast_S20x1_S20x24564_0_1 (broadcastInDim S20x1 ![0] bcast_S20_S20x1_0 (iotaInDim S20 32 0)))) (broadcastInDim S16x20x24564 ![1, 2] bcast_S20x24564_S16x20x24564_1_2 (broadcastInDim S20x24564 ![] bcast_S_S20x24564 (constantI S_ 32 4294967295#32)))
theorem bid_read (z : IVec S16x20 32) (b : Fin 16) (t : Fin 20) (q : Fin 24564) : bid z (ix3 b t q)
    = Scalar.select (IntOp.cmpi .eq (z (ix2 b t)) (BitVec.ofNat 32 q.val)) (BitVec.ofNat 32 t.val) 4294967295#32 := by
  unfold bid
  pointwise
theorem v80_eq : v80 a0 a1 a2 a3 = Host.reduce IntOp.maxsi (bid (bp a0 a1 a2 a3)) (constantI S_ 32 2147483648#32) reducesTo_S16x20x24564_S16x24564_d1 h_S_ := rfl
theorem v80_read (b : Fin 16) (q : Fin 24564) : v80 a0 a1 a2 a3 (ix2 b q)
    = Finset.fold IntOp.maxsi 2147483648#32 (fun t : Fin 20 => Scalar.select (IntOp.cmpi .eq (bp a0 a1 a2 a3 (ix2 b t)) (BitVec.ofNat 32 q.val))
        (BitVec.ofNat 32 t.val) 4294967295#32) Finset.univ := by
  rw [v80_eq, maxI_truths]
  exact Finset.fold_congr fun t _ => bid_read _ b t q

theorem v86_read (b : Fin 16) (q : Fin 24564) : v86 a0 a1 a2 a3 (ix2 b q)
    = Scalar.select (IntOp.cmpi .sge (v80 a0 a1 a2 a3 (ix2 b q)) 0#32) (v80 a0 a1 a2 a3 (ix2 b q)) (bt a0 a1 a2 a3 (ix2 b q)) := by
  unfold v86
  rw [show bestTruthP (v66 a0 a1 a2 a3) (iotaInDim S16x20x24564 32 1) (constant S_ .f32 0xFF800000#32) (constantI S_ 32 0#32) = bt a0 a1 a2 a3 from rfl]
  generalize bt a0 a1 a2 a3 = z
  generalize v80 a0 a1 a2 a3 = y
  pointwise

/-- The rows looked up. -/
def rows : IVec S16x24564x1 32 :=
  broadcastInDim S16x24564x1 ![0, 1] bcast_S16x24564_S16x24564x1_0_1 (select (cmpi .slt (v86 a0 a1 a2 a3) (broadcastInDim S16x24564 ![] bcast_S_S16x24564 (constantI S_ 32 0#32))) (addi (v86 a0 a1 a2 a3) (broadcastInDim S16x24564 ![] bcast_S_S16x24564 (constantI S_ 32 20#32))) (v86 a0 a1 a2 a3))
theorem rows_read (b : Fin 16) (q : Fin 24564) : rows a0 a1 a2 a3 (ix3 b q 0)
    = Scalar.select (IntOp.cmpi .slt (v86 a0 a1 a2 a3 (ix2 b q)) 0#32) (IntOp.addi (v86 a0 a1 a2 a3 (ix2 b q)) 20#32) (v86 a0 a1 a2 a3 (ix2 b q)) := by
  unfold rows
  generalize v86 a0 a1 a2 a3 = z
  pointwise

/-- The best overlap of each prior, its truth's label, and its class from these. -/
def mx : FVec Ideal S16x24564 .f32 :=
  Host.reduce FloatOps.maximumf (v66 a0 a1 a2 a3) (constant S_ .f32 0xFF800000#32) reducesTo_S16x20x24564_S16x24564_d1 h_S_
def lab : FVec Ideal S16x24564 .f32 :=
  Host.gather gather_S16x20_S16x24564x1_S16x24564_n_1_0_0_1_2_11 (shapeCast S16x20 (extractStridedSlice S16x20x1 ![0, 0, 4] a1 slices_S16x20x5_S16x20x1_0_0_4) shapeCasts_S16x20x1_S16x20) (rows a0 a1 a2 a3)
def cls (y : IVec S16x24564 32) (R G : FVec Ideal S16x24564 .f32) : IVec S16x24564 32 :=
  select (cmpf .olt (select (cmpi .sge y (broadcastInDim S16x24564 ![] bcast_S_S16x24564 (constantI S_ 32 0#32))) (broadcastInDim S16x24564 ![1] bcast_S24564_S16x24564_1 (broadcastInDim S24564 ![] bcast_S_S24564 (constant S_ .f32 0x40000000#32))) R) (broadcastInDim S16x24564 ![] bcast_S_S16x24564 (constant S_ .f32 0x3F000000#32))) (broadcastInDim S16x24564 ![1] bcast_S24564_S16x24564_1 (broadcastInDim S24564 ![] bcast_S_S24564 (constantI S_ 32 0#32))) (addi (fptosi 32 G) (broadcastInDim S16x24564 ![] bcast_S_S16x24564 (constantI S_ 32 1#32)))
theorem mx_read (b : Fin 16) (q : Fin 24564) : mx a0 a1 a2 a3 (ix2 b q)
    = Finset.fold max (Ideal.ofBits .f32 0xFF800000#32) (fun t : Fin 20 => v66 a0 a1 a2 a3 (ix3 b t q)) Finset.univ := max_truths _ _ b q
theorem lab_read (b : Fin 16) (q : Fin 24564) (t : Fin 20) (h : rows a0 a1 a2 a3 (ix3 b q 0) = BitVec.ofNat 32 t.val) :
    lab a0 a1 a2 a3 (ix2 b q) = a1 (ix3 b t 4) := (gather2 _ _ b q t h).trans (by pointwise)
theorem cls_read (y : IVec S16x24564 32) (R G : FVec Ideal S16x24564 .f32) (b : Fin 16) (q : Fin 24564) : cls y R G (ix2 b q)
    = if (Scalar.select (IntOp.cmpi .sge (y (ix2 b q)) 0#32) (Ideal.ofBits .f32 0x40000000#32) (R (ix2 b q)) : EReal) < Ideal.ofBits .f32 0x3F000000#32
      then 0#32 else IntOp.addi (Ideal.fptosi 32 (G (ix2 b q))) 1#32 := by
  unfold cls
  pointwise
  rfl
theorem v106_eq : v106 a0 a1 a2 a3 = cls (v80 a0 a1 a2 a3) (mx a0 a1 a2 a3) (lab a0 a1 a2 a3) := rfl
theorem v106_read (b : Fin 16) (q : Fin 24564) (t : Fin 20) (h : rows a0 a1 a2 a3 (ix3 b q 0) = BitVec.ofNat 32 t.val) : v106 a0 a1 a2 a3 (ix2 b q)
    = if (Scalar.select (IntOp.cmpi .sge (v80 a0 a1 a2 a3 (ix2 b q)) 0#32) (Ideal.ofBits .f32 0x40000000#32)
          (mx a0 a1 a2 a3 (ix2 b q)) : EReal) < Ideal.ofBits .f32 0x3F000000#32
      then 0#32 else IntOp.addi (Ideal.fptosi 32 (a1 (ix3 b t 4))) 1#32 := by
  rw [v106_eq, cls_read, lab_read a0 a1 a2 a3 b q t h]

theorem v93_read (b : Fin 16) (q : Fin 24564) (k : Fin 4) (t : Fin 20) (h : rows a0 a1 a2 a3 (ix3 b q 0) = BitVec.ofNat 32 t.val) :
    v93 a0 a1 a2 a3 (ix3 b q k) = a1 (ix3 b t ⟨k.val, by omega⟩) := by
  rw [← v0_at a0 a1 a2 a3 b t k]
  exact gather3 (v0 a0 a1 a2 a3) (rows a0 a1 a2 a3) b q k t h

theorem v139_read (b : Fin 16) (q : Fin 24564) (k : Fin 4) : v139 a0 a1 a2 a3 (ix3 b q k)
    = a0 (ix3 b q k) - if h : k.val < 2 then
        Ideal.div (Ideal.div (v93 a0 a1 a2 a3 (ix3 b q k) + v93 a0 a1 a2 a3 (ix3 b q ⟨2 + k.val, by omega⟩)) (Ideal.ofBits .f32 0x40000000#32) - a2 (ix2 q k))
          (a3 (ix1 0) * a2 (ix2 q ⟨2 + k.val, by omega⟩))
      else Ideal.div (Ideal.log (Ideal.div (v93 a0 a1 a2 a3 (ix3 b q ⟨2 + (k.val - 2), by omega⟩) - v93 a0 a1 a2 a3 (ix3 b q ⟨k.val - 2, by omega⟩))
          (a2 (ix2 q ⟨2 + (k.val - 2), by omega⟩)))) (a3 (ix1 1)) := by
  unfold v139
  generalize v93 a0 a1 a2 a3 = z
  pointwise

theorem v138_read (b : Fin 16) (q : Fin 24564) : v138 a0 a1 a2 a3 (ix2 b q) = IntOp.cmpi .sgt (v106 a0 a1 a2 a3 (ix2 b q)) 0#32 := by
  unfold v138
  generalize v106 a0 a1 a2 a3 = z
  pointwise

theorem vloss_read (b : Fin 16) : vloss a0 a1 a2 a3 (ix1 b)
    = ∑ q : Fin 24564, ∑ k : Fin 4, Img.sm (v139 a0 a1 a2 a3 (ix3 b q k)) * (if v138 a0 a1 a2 a3 (ix2 b q) = 1#1 then 1 else 0) := by
  unfold vloss v140
  generalize v139 a0 a1 a2 a3 = z
  generalize v138 a0 a1 a2 a3 = y
  rw [sum_all]
  refine Finset.sum_congr rfl fun q _ => Finset.sum_congr rfl fun k _ => ?_
  unfold Img.sm
  have hy : ∀ w : BitVec 1, (FloatOps.uitofp .f32 w : Ideal .f32) = ((if w = 1#1 then 1 else 0 : EReal)) := by
    intro w
    rcases BitVec.eq_zero_or_eq_one w with rfl | rfl <;> simp [FloatOps.uitofp]
  pointwise
  rw [hy]
  rfl

theorem out0_read (b : Fin 16) (i : Fin 192) (j : Fin 128) : out0 a0 a1 a2 a3 (ix3 b i j)
    = if h : i.val * 128 + j.val < 24564 then v106 a0 a1 a2 a3 (ix2 b ⟨i.val * 128 + j.val, h⟩) else 0#32 := by
  unfold out0
  generalize v106 a0 a1 a2 a3 = z
  pointwise

theorem out1_read (b : Fin 16) (j : Fin 128) : out1 a0 a1 a2 a3 (ix3 b 0 j)
    = if j.val = 0 then vloss a0 a1 a2 a3 (ix1 b) else if j.val = 1 then vnpos a0 a1 a2 a3 (ix1 b) else 0 := by
  unfold out1
  generalize vloss a0 a1 a2 a3 = z
  generalize vnpos a0 a1 a2 a3 = y
  pointwise
  rw [show (FloatOps.sitofp FTy.f32 0#32 : Ideal .f32) = (0 : EReal) by simp [FloatOps.sitofp]]
  have hj := j.isLt
  split_ifs <;> first | rfl | omega

end Cert.Proof.RefVal
-- ==== Proof.RefOut.lean ====
/- The reference's results are the specified classes, losses and counts. -/
module

public import proofs.«01_k».proof.Proof.RefVal

@[expose] public section

noncomputable section

namespace Cert.Proof.RefVal

open Cert.ReferenceIdeal Cert.ReferenceIdeal.Gen Idealize.ShloMosaic Idealize.ShloMosaic.TcCoe Idealize.ShloMosaic.StableHlo Cert.Proof.Spec Cert.Proof.RefPlain

theorem sge_zero (w : BitVec 32) : IntOp.cmpi .sge w 0#32 = BitVec.ofBool (decide (0 ≤ w.toInt)) := by
  simp [IntOp.cmpi, BitVec.sle]
theorem slt_zero (w : BitVec 32) : IntOp.cmpi .slt w 0#32 = BitVec.ofBool (decide (w.toInt < 0)) := by
  simp [IntOp.cmpi, BitVec.slt]
theorem sgt_zero (w : BitVec 32) : (IntOp.cmpi .sgt w 0#32 = 1#1) ↔ 0 < w.toInt := by
  by_cases h : 0 < w.toInt <;> simp [IntOp.cmpi, BitVec.slt, h]

theorem toInt_truth (t : Fin 20) : (BitVec.ofNat 32 t.val).toInt = t.val := toInt_ofNat (by have := t.isLt; omega)

variable {a0 : FVec Ideal S16x24564x4 .f32} {a1 : FVec Ideal S16x20x5 .f32} {a2 : FVec Ideal S24564x4 .f32} {a3 : FVec Ideal S2 .f32}
  {b : Fin 16} (g : (img a0 a1 a2 a3 b).Good)
include g

theorem bid_at (t : Fin 20) (q : Fin 24564) : bid (bp a0 a1 a2 a3) (ix3 b t q)
    = if cp (img a0 a1 a2 a3 b).o t = up q then BitVec.ofNat 32 t.val else 4294967295#32 := by
  have e : (BitVec.ofNat 32 (cp (img a0 a1 a2 a3 b).o t).val = BitVec.ofNat 32 q.val) = (cp (img a0 a1 a2 a3 b).o t = up q) := by
    have h1 := (cp (img a0 a1 a2 a3 b).o t).isLt
    have h2 := q.isLt
    rw [ofNat_inj (by omega) (by omega), Fin.ext_iff]
    rfl
  rw [bid_read, bp_at g, cmpi_eq, select_ofBool]
  simp only [e]

/-- A prior is claimed by its last claimant, or by none. -/
theorem v80_at (q : Fin 24564) :
    (∃ t, (cp (img a0 a1 a2 a3 b).o t = up q ∧ ∀ s, cp (img a0 a1 a2 a3 b).o s = up q → s ≤ t) ∧ v80 a0 a1 a2 a3 (ix2 b q) = BitVec.ofNat 32 t.val)
    ∨ ((∀ s, cp (img a0 a1 a2 a3 b).o s ≠ up q) ∧ v80 a0 a1 a2 a3 (ix2 b q) = 4294967295#32) := by
  rw [v80_eq, maxI_truths]
  simp only [bid_at g]
  generalize cp (img a0 a1 a2 a3 b).o = c
  generalize up q = u
  obtain ⟨h1, -, h3⟩ := fold_pick IntOp.maxsi (fun x y => x.toInt ≤ y.toInt) (fun _ => le_rfl) (fun h h' => h.trans h') maxsi_choice maxsi_left maxsi_right
    2147483648#32 (fun t : Fin 20 => if c t = u then BitVec.ofNat 32 t.val else 4294967295#32) Finset.univ
  generalize Finset.fold IntOp.maxsi 2147483648#32 (fun t : Fin 20 => if c t = u then BitVec.ofNat 32 t.val else 4294967295#32) Finset.univ = r at h1 h3 ⊢
  have hm : (4294967295#32).toInt = -1 := by decide
  have hl : (2147483648#32).toInt = -2147483648 := by decide
  have h4 : ∀ s, c s = u → (s.val : ℤ) ≤ r.toInt := fun s hs => by
    have := h3 s (Finset.mem_univ _)
    rwa [if_pos hs, toInt_truth] at this
  have h5 : -1 ≤ r.toInt := by
    have := h3 0 (Finset.mem_univ _)
    split_ifs at this
    · rw [toInt_truth] at this; omega
    · rwa [hm] at this
  rcases h1 with rfl | ⟨t, -, rfl⟩
  · rw [hl] at h5; omega
  · by_cases ht : c t = u
    · left
      refine ⟨t, ⟨ht, fun s hs => ?_⟩, if_pos ht⟩
      have := h4 s hs
      rw [if_pos ht, toInt_truth] at this
      exact Fin.le_def.2 (by exact_mod_cast this)
    · right
      refine ⟨fun s hs => ?_, if_neg ht⟩
      have := h4 s hs
      rw [if_neg ht, hm] at this
      omega

theorem v86_at (q : Fin 24564) : v86 a0 a1 a2 a3 (ix2 b q) = BitVec.ofNat 32 ((img a0 a1 a2 a3 b).tr (up q)).val := by
  rw [v86_read, sge_zero, select_ofBool]
  rcases v80_at g q with ⟨t, ht, e⟩ | ⟨hs, e⟩
  · rw [e, toInt_truth, if_pos (by omega), IsTruth.unique ((img a0 a1 a2 a3 b).tr_spec (up q)) (.inl ht)]
  · obtain ⟨p, e', hp⟩ := bt_at g q
    rw [e, if_neg (by decide), e', IsTruth.unique ((img a0 a1 a2 a3 b).tr_spec (up q)) (.inr ⟨hs, hp⟩)]

theorem rows_at (q : Fin 24564) : rows a0 a1 a2 a3 (ix3 b q 0) = BitVec.ofNat 32 ((img a0 a1 a2 a3 b).tr (up q)).val := by
  rw [rows_read, v86_at g, slt_zero, select_ofBool, if_neg (by rw [toInt_truth]; omega)]

theorem mx_at (q : Fin 24564) (t : Fin 20) (h : IsFirst (fun t => (img a0 a1 a2 a3 b).o t (up q)) t) :
    mx a0 a1 a2 a3 (ix2 b q) = (img a0 a1 a2 a3 b).o t (up q) := by
  rw [mx_read, bot_eq]
  simp only [v66_at]
  apply le_antisymm
  · exact Finset.fold_max_le _ |>.2 ⟨bot_le, fun s _ => h.1 s⟩
  · exact Finset.le_fold_max _ |>.2 (.inr ⟨t, Finset.mem_univ _, le_rfl⟩)

theorem best_at (q : Fin 24564) :
    Scalar.select (IntOp.cmpi .sge (v80 a0 a1 a2 a3 (ix2 b q)) 0#32) (Ideal.ofBits .f32 0x40000000#32) (mx a0 a1 a2 a3 (ix2 b q))
      = best (img a0 a1 a2 a3 b).o (up q) ((img a0 a1 a2 a3 b).tr (up q)) := by
  rw [sge_zero, select_ofBool, best]
  rcases v80_at g q with ⟨t, ht, e⟩ | ⟨hs, e⟩
  · rw [e, toInt_truth, if_pos (by omega), if_pos ⟨t, ht.1⟩]
  · obtain ⟨p, -, hp⟩ := bt_at g q
    rw [e, if_neg (by decide), if_neg (by rintro ⟨s, h⟩; exact hs s h), IsTruth.unique ((img a0 a1 a2 a3 b).tr_spec (up q)) (.inr ⟨hs, hp⟩)]
    exact mx_at g q p hp

/-- The classes. -/
theorem v106_at (q : Fin 24564) : v106 a0 a1 a2 a3 (ix2 b q) = (img a0 a1 a2 a3 b).conf (up q) := by
  rw [v106_read a0 a1 a2 a3 b q _ (rows_at g q), best_at g, Img.conf]
  rfl

theorem v93_at (q : Fin 24564) (k : Fin 4) : v93 a0 a1 a2 a3 (ix3 b q k) = (img a0 a1 a2 a3 b).T ((img a0 a1 a2 a3 b).tr (up q)) ⟨k.val, by omega⟩ :=
  v93_read a0 a1 a2 a3 b q k _ (rows_at g q)

theorem v139_at (q : Fin 24564) (k : Fin 4) : v139 a0 a1 a2 a3 (ix3 b q k) = (img a0 a1 a2 a3 b).l q k - (img a0 a1 a2 a3 b).g (up q) k := by
  have hp : ∀ k, (img a0 a1 a2 a3 b).pp (up q) k = a2 (ix2 q k) := fun k => dif_pos q.isLt
  rw [v139_read]
  refine congrArg (fun z => a0 (ix3 b q k) - z) ?_
  simp only [v93_at g, div_two]
  have hk := k.isLt
  rcases k with ⟨_ | _ | _ | _ | k, hk'⟩
  · rw [Img.g]; show _ = (img a0 a1 a2 a3 b).gC (up q) 0 2 0 2; rw [Img.gC, hp, hp]; rfl
  · rw [Img.g]; show _ = (img a0 a1 a2 a3 b).gC (up q) 1 3 1 3; rw [Img.gC, hp, hp]; rfl
  · rw [Img.g]; show _ = (img a0 a1 a2 a3 b).gS (up q) 2 0 2; rw [Img.gS, hp]; rfl
  · rw [Img.g]; show _ = (img a0 a1 a2 a3 b).gS (up q) 3 1 3; rw [Img.gS, hp]; rfl
  · exact absurd hk (by simp)

theorem v138_at (q : Fin 24564) : (v138 a0 a1 a2 a3 (ix2 b q) = 1#1) ↔ 0 < ((img a0 a1 a2 a3 b).conf (up q)).toInt := by
  rw [v138_read, v106_at g, sgt_zero]

/-- The losses. -/
theorem vloss_at : vloss a0 a1 a2 a3 (ix1 b) = (img a0 a1 a2 a3 b).loss := by
  rw [vloss_read, Img.loss]
  refine Finset.sum_congr rfl fun q _ => Finset.sum_congr rfl fun k _ => ?_
  rw [v139_at g, Img.pos]
  simp only [v138_at g]

/-- The counts. -/
theorem vnpos_at : vnpos a0 a1 a2 a3 (ix1 b) = (img a0 a1 a2 a3 b).npos := by
  classical
  have hc := Routing.reduce_count (n := 16) (m := 24564) (by decide) (v138 a0 a1 a2 a3) natLt_1_32 reducesTo_S16x24564_S16_d1 h_S_ b
    (fun q => ∃ h : q < 24564, 0 < ((img a0 a1 a2 a3 b).conf (up ⟨q, h⟩)).toInt) (fun q => (v138_at g q).trans ⟨fun h => ⟨q.isLt, h⟩, fun h => h.2⟩)
  have e : vnpos a0 a1 a2 a3 (ix1 b) = ((((Host.reduce IntOp.addi (extui 32 (v138 a0 a1 a2 a3) natLt_1_32) (constantI S_ 32 0#32) reducesTo_S16x24564_S16_d1 h_S_ (ix1 b)).toInt : ℝ)) : EReal) := rfl
  rw [e]
  refine (congrArg (fun w : BitVec 32 => ((w.toInt : ℝ) : EReal)) hc).trans ?_
  beta_reduce
  rw [toInt_ofNat (lt_of_le_of_lt (Nat.count_le _) (by decide)), Nat.count_eq_card_filter_range, Img.npos]
  have e2 : ∀ q : Fin 24564, (img a0 a1 a2 a3 b).pos (up q) = ((if ∃ h : q.val < 24564, 0 < ((img a0 a1 a2 a3 b).conf (up ⟨q.val, h⟩)).toInt then 1 else 0 : ℕ) : EReal) := by
    intro q
    rw [Img.pos]
    by_cases h : 0 < ((img a0 a1 a2 a3 b).conf (up q)).toInt
    · rw [if_pos h, if_pos ⟨q.isLt, h⟩]; simp
    · rw [if_neg h, if_neg (fun h' => h h'.2)]; simp
  rw [Finset.sum_congr rfl fun q _ => e2 q, ← Nat.cast_sum,
    Fin.sum_univ_eq_sum_range (fun q => if ∃ h : q < 24564, 0 < ((img a0 a1 a2 a3 b).conf (up ⟨q, h⟩)).toInt then 1 else 0) 24564, Finset.sum_boole]
  rw [Int.cast_natCast, EReal.coe_natCast, Nat.cast_id]

omit g in
/-- The first result. -/
theorem out0_at (g : ∀ b, (img a0 a1 a2 a3 b).Good) (b : Fin 16) (i : Fin 192) (j : Fin 128) : out0 a0 a1 a2 a3 (ix3 b i j)
    = (img a0 a1 a2 a3 b).conf ⟨i.val * 128 + j.val, by omega⟩ := by
  rw [out0_read]
  split_ifs with h
  · rw [v106_at (g b)]; rfl
  · rw [(g b).conf_pad _ (not_lt.1 h)]

omit g in
/-- The second result. -/
theorem out1_at (g : ∀ b, (img a0 a1 a2 a3 b).Good) (b : Fin 16) (j : Fin 128) : out1 a0 a1 a2 a3 (ix3 b 0 j)
    = if j.val = 0 then (img a0 a1 a2 a3 b).loss else if j.val = 1 then (img a0 a1 a2 a3 b).npos else 0 := by
  rw [out1_read, vloss_at (g b), vnpos_at (g b)]

end Cert.Proof.RefVal
-- ==== Proof.Pre.lean ====
/- What the precondition says of each image: the corners in order, the priors of positive size. -/
module

public import proofs.«01_k».proof.Pre_boxes
public import proofs.«01_k».proof.Proof.Run
public import Idealize.ShloMosaic.Lib.ReduceAll
public import Idealize.ShloMosaic.Lib.Pointwise

@[expose] public section

noncomputable section

namespace Cert.Proof.Pre

open Cert.Pre_boxes Idealize.ShloMosaic

/-- The side conditions of the precondition's operations. -/
instance facts : Cert.Pre_boxes.Facts where
  slices_S16x20x5_S16x20x1_0_0_0 := by decide
  shapeCasts_S16x20x1_S16x20 := by decide
  slices_S16x20x5_S16x20x1_0_0_1 := by decide
  slices_S16x20x5_S16x20x1_0_0_2 := by decide
  slices_S16x20x5_S16x20x1_0_0_3 := by decide
  bcast_S_S16x20 := by decide
  reducesTo_S16x20_S_d0_1 := by decide
  h_S_ := by decide
  slices_S24564x4_S24564x2_0_2 := by decide
  bcast_S_S24564x2 := by decide
  reducesTo_S24564x2_S_d0_1 := by decide

instance : Subsingleton S_.Idx := ⟨fun a b => funext fun k => k.elim0⟩

theorem oge_iff (x y : EReal) : Ideal.cmp .oge x y = 1#1 ↔ y ≤ x := by
  unfold Ideal.cmp
  by_cases h : y ≤ x <;> simp [h]
theorem ogt_iff (x y : EReal) : Ideal.cmp .ogt x y = 1#1 ↔ y < x := by
  unfold Ideal.cmp
  by_cases h : y < x <;> simp [h]

/-- Column `k` of the truths. -/
theorem col0 (a1 : FVec Ideal S16x20x5 .f32) (b : Fin 16) (t : Fin 20) :
    shapeCast S16x20 (extractStridedSlice S16x20x1 ![0, 0, 0] a1 facts.slices_S16x20x5_S16x20x1_0_0_0) facts.shapeCasts_S16x20x1_S16x20 (ix2 b t) = a1 (ix3 b t 0) := by pointwise
theorem col1 (a1 : FVec Ideal S16x20x5 .f32) (b : Fin 16) (t : Fin 20) :
    shapeCast S16x20 (extractStridedSlice S16x20x1 ![0, 0, 1] a1 facts.slices_S16x20x5_S16x20x1_0_0_1) facts.shapeCasts_S16x20x1_S16x20 (ix2 b t) = a1 (ix3 b t 1) := by pointwise
theorem col2 (a1 : FVec Ideal S16x20x5 .f32) (b : Fin 16) (t : Fin 20) :
    shapeCast S16x20 (extractStridedSlice S16x20x1 ![0, 0, 2] a1 facts.slices_S16x20x5_S16x20x1_0_0_2) facts.shapeCasts_S16x20x1_S16x20 (ix2 b t) = a1 (ix3 b t 2) := by pointwise
theorem col3 (a1 : FVec Ideal S16x20x5 .f32) (b : Fin 16) (t : Fin 20) :
    shapeCast S16x20 (extractStridedSlice S16x20x1 ![0, 0, 3] a1 facts.slices_S16x20x5_S16x20x1_0_0_3) facts.shapeCasts_S16x20x1_S16x20 (ix2 b t) = a1 (ix3 b t 3) := by pointwise
theorem size0 (a2 : FVec Ideal S24564x4 .f32) (q : Fin 24564) :
    extractStridedSlice S24564x2 ![0, 2] a2 facts.slices_S24564x4_S24564x2_0_2 (ix2 q 0) = a2 (ix2 q 2) := by pointwise
theorem size1 (a2 : FVec Ideal S24564x4 .f32) (q : Fin 24564) :
    extractStridedSlice S24564x2 ![0, 2] a2 facts.slices_S24564x4_S24564x2_0_2 (ix2 q 1) = a2 (ix2 q 3) := by pointwise
theorem zeroP (i : S24564x2.Idx) : broadcastInDim S24564x2 ![] facts.bcast_S_S24564x2 (constant (F := Ideal) S_ .f32 0x00000000#32) i = (0 : EReal) := Ideal.ofBits_zero_f32

/-- The precondition makes every image good. -/
theorem good (a0 : FVec Ideal S16x24564x4 .f32) (a1 : FVec Ideal S16x20x5 .f32) (a2 : FVec Ideal S24564x4 .f32) (a3 : FVec Ideal S2 .f32)
    (h : fn (F := Ideal) a0 a1 a2 a3 = fun _ => 1#1) (b : Fin 16) : (Run.img a0 a1 a2 a3 b).Good := by
  have h := congrFun h (fun k => k.elim0)
  obtain ⟨h, hp⟩ := IntOp.andi_eq_one.1 h
  obtain ⟨h, hy⟩ := IntOp.andi_eq_one.1 h
  obtain ⟨h0, hx⟩ := IntOp.andi_eq_one.1 h
  have h0 := Host.reduce_andi_all _ _ _ _ _ h0
  have hx := Host.reduce_andi_all _ _ _ _ _ hx
  have hy := Host.reduce_andi_all _ _ _ _ _ hy
  have hp := Host.reduce_andi_all _ _ _ _ _ hp
  refine ⟨fun t => ?_, fun t => ?_, fun t => ?_, fun q => ?_, fun q => ?_⟩
  · refine (IntOp.ori_eq_one.1 (h0 (ix2 b t))).imp (fun e => ?_) (fun e => ?_)
    · have e := (oge_iff _ _).1 e
      dsimp only at e
      rw [col0] at e
      exact e
    · have e := (oge_iff _ _).1 e
      dsimp only at e
      rw [col1] at e
      exact e
  · have e := (oge_iff _ _).1 (hx (ix2 b t))
    dsimp only at e
    rw [col0, col2] at e
    exact e
  · have e := (oge_iff _ _).1 (hy (ix2 b t))
    dsimp only at e
    rw [col1, col3] at e
    exact e
  · have e := (ogt_iff _ _).1 (hp (ix2 q 0))
    dsimp only at e
    rw [size0, zeroP] at e
    exact e
  · have e := (ogt_iff _ _).1 (hp (ix2 q 1))
    dsimp only at e
    rw [size1, zeroP] at e
    exact e

end Cert.Proof.Pre
-- ==== Proof.Mine.lean ====
/- The second call runs: whatever its buffers hold, the body of each grid point ends without fault and hands every buffer back, so the
   call terminates, its arguments stay and its semaphores end at zero. Nothing is said of what it computes. -/
module

public import proofs.«01_k».proof.Proof.Gen.Mine
public import proofs.«01_k».proof.Proof.Gen.Mine.Frame
public import proofs.«01_k».proof.Proof.Gen.Mine.Skeleton
public import proofs.«01_k».proof.Proof.Gen.Mine.Loops

@[expose] public section

set_option maxRecDepth 16384

noncomputable section

namespace Cert.Mine.Hand

open Cert.Mine Cert.Mine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

local notation "𝕄" => MT nD τ sig Unit (Elt F) ℕ (UR sig nD τ) ℕ

/-! ## Which of the four parts of the body a grid point takes -/

/-- The test for chunk `k`, as the body makes it. -/
abbrev chunk (k : BitVec 32) (i : grid0.Coords) : Prop :=
  Scalar.cmpi .ne (Scalar.extui (Scalar.cmpi .eq (BitVec.ofNat 32 (i 1).val) k) : BitVec 32) 0#32 = 1#1

/-- It holds at one chunk and fails at the others. -/
theorem chunk_at : ∀ n k : Fin 3, Scalar.cmpi .ne (Scalar.extui (Scalar.cmpi .eq (BitVec.ofNat 32 n.val) (BitVec.ofNat 32 k.val)) : BitVec 32) 0#32 = 1#1 ↔ n = k := by
  decide
theorem last_iff (i : grid0.Coords) : k0_cond4 i = 1#1 ↔ i 1 = (2 : Fin 3) := chunk_at (i 1) 2

/-- A test that holds at chunk `k` alone fails at another. -/
theorem off {n a k : Fin 3} {P : Prop} (e : P ↔ n = k) (h : n = a) (d : a ≠ k) : ¬ P := fun p => d (h.symm.trans (e.1 p))

/-! ## The body -/

/-- A buffer held whole, at contents that nothing names. -/
abbrev held (c : Dev nD) {sp : Space} {s : Shape} {e : EltTy} (a : Memref sig .tc sp s e) : sProp 𝕄 :=
  iprop(∃ d, owns (c : Thread nD τ) a fullShare d)

/-- The body's four buffers, so held: the confidences' block, the classes' block, the output's block and the scratch. -/
abbrev all (c : Dev nD) (arg2 : Memref sig .tc .vmem S1x8192x81 .f32) (arg3 : Memref sig .tc .vmem S1x8x8192 .i8)
    (arg4 : Memref sig .tc .vmem S1x1x128 .f32) (arg5 : Memref sig .tc .vmem S24x8192 .f32) : sProp 𝕄 :=
  iprop(held (F := F) c arg2 ∗ held (F := F) c arg3 ∗ held (F := F) c arg4 ∗ held (F := F) c arg5)

variable (c : Dev nD) (i : grid0.Coords) (arg2 : Memref sig .tc .vmem S1x8192x81 .f32) (harg2 : arg2.IsWhole) (arg3 : Memref sig .tc .vmem S1x8x8192 .i8) (harg3 : arg3.IsWhole) (arg4 : Memref sig .tc .vmem S1x1x128 .f32) (harg4 : arg4.IsWhole) (arg5 : Memref sig .tc .vmem S24x8192 .f32) (harg5 : arg5.IsWhole)

/-- The body at any point ends and hands the four buffers back. At a point of chunk `k` it takes the part for chunk `k`, and at the last
    chunk also the part that mines the row. -/
theorem run (K : PUnit → sProp 𝕄) :
    iprop(all (F := F) c arg2 arg3 arg4 arg5 ∗ (all (F := F) c arg2 arg3 arg4 arg5 -∗ K ⟨⟩))
      ⊢ wp frame (wpE (defs₀ (F := F)) Variants.none c none) Set.univ (cc0__lambda_ i arg2 harg2 arg3 harg3 arg4 harg4 arg5 harg5) K := by
  have e0 : chunk 0#32 i ↔ i 1 = (0 : Fin 3) := chunk_at (i 1) 0
  have e1 : chunk 1#32 i ↔ i 1 = (1 : Fin 3) := chunk_at (i 1) 1
  have e2 : chunk 2#32 i ↔ i 1 = (2 : Fin 3) := chunk_at (i 1) 2
  have e3 := last_iff i
  simp only [cc0__lambda__eq_skeleton]; unfold cc0__lambda__skel
  simp only [k0_part1_eq_skeleton]
  obtain h | h | h : i 1 = (0 : Fin 3) ∨ i 1 = (1 : Fin 3) ∨ i 1 = (2 : Fin 3) :=
    (by decide : ∀ n : Fin 3, n = 0 ∨ n = 1 ∨ n = 2) (i 1)
  on_goal 1 => simp only [dif_pos (e0.2 h), dif_neg (off e1 h (by decide)), dif_neg (off e2 h (by decide)), dif_neg (off e3 h (by decide))]
  on_goal 2 => simp only [dif_neg (off e0 h (by decide)), dif_pos (e1.2 h), dif_neg (off e2 h (by decide)), dif_neg (off e3 h (by decide))]
  on_goal 3 => simp only [dif_neg (off e0 h (by decide)), dif_neg (off e1 h (by decide)), dif_pos (e2.2 h), dif_pos (e3.2 h)]
  all_goals
    unfold all held owns
    iintro ⟨⟨⟨%d2, %f2, -, H2⟩, ⟨%d3, %f3, -, H3⟩, ⟨%d4, %f4, -, H4⟩, ⟨%d5, %f5, -, H5⟩⟩, Hk⟩
    sl_exec
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

/-! ## The proof data and the launch -/

variable (m : (ℓ : Loc nD τ sig) → Buf (Elt F) ℓ) (ρ : Dev nD → PrngReg)

/-- No window's buffer is followed from point to point. -/
def forgets : Fin 3 → Bool := fun _ => true

/-- The arrays as the call finds them; what the body leaves unnamed; the scratch at anything; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is given at a point, and hands back: the invariant, what is owed, and the three windows' buffers. -/
def bodyPre (c : Dev nD) (t : Fin cfg0.N) : sProp 𝕄 :=
  iprop((dats m 0 c).Φ t.castSucc ∗ (dats m 0 c).owesAt () t.castSucc ∗ held (F := F) c (st0_0 t) ∗ held (F := F) c (st0_1 t) ∗ held (F := F) c (st0_2 t))
def bodyPost (c : Dev nD) (t : Fin cfg0.N) : sProp 𝕄 :=
  iprop((dats m 0 c).Φ t.succ ∗ (dats m 0 c).owesAt () t.succ ∗ held (F := F) c (st0_0 t) ∗ held (F := F) c (st0_1 t) ∗ held (F := F) c (st0_2 t))

/-- The invariant: the scratch and the generator's register, both at anything. -/
theorem inv_eq (c : Dev nD) :
    (Pipeline.ΦA spec0 c : sProp 𝕄) = iprop(held (F := F) c (Memref.whole cc0_scratch0) ∗ ∃ r, prngReg c r) := by
  unfold Pipeline.ΦA held
  rw [scopedRest0_eq]
  simp only [owns_whole]
  try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq]
  iintro ⟨⟨HS, Hg⟩, HO, H0, H1, H2⟩
  iapply (run c (grid0.coords t) (st0_0 t) _ (st0_1 t) _ (st0_2 t) _ (Memref.whole cc0_scratch0) _ _)
  isplitl [H0 H1 H2 HS]
  · isplitl [H0]; · iexact H0
    isplitl [H1]; · iexact H1
    isplitl [H2]; · iexact H2
    iexact HS
  iintro ⟨H0, H1, H2, HS⟩
  isplitl [HS Hg]
  · isplitl [HS]; · iexact HS
    iexact Hg
  isplitl [HO]; · iexact HO
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound_body m c t) rfl .rfl fun _ => .rfl

set_option backward.isDefEq.respectTransparency.types false in
/-- Every execution of the call's program ends, with the input's array as it was, the buffers beside the call as they were, and every
    counter at zero. -/
theorem launch :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame of the second call: it ends, both arguments are as they were, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r (h : _ ∧ _) => ⟨fun c =>
    ⟨(h.1.arr_in c 0 rfl).trans ((A_eq m c 0).trans (V_main_arg0 m c)),
      ((h.1 c).2 main_arg1 (Pipeline.mem_restRefs_of main_arg1 (by decide) (by decide))).trans (V_main_arg1 m c)⟩, h.2⟩) (launch m ρ)

end Cert.Mine.Hand

end
-- ==== Proof.Mining.lean ====
/- The second call with the bisection on bits replaced: what a grid point leaves in the scratch and in the output's block, and what the
   call's result array is. -/
module

public import proofs.«01_k».proof.Proof.Gen.MiningIdeal
public import proofs.«01_k».proof.Proof.Gen.MiningIdeal.Frame
public import proofs.«01_k».proof.Proof.Gen.MiningIdeal.Skeleton
public import proofs.«01_k».proof.Proof.Gen.MiningIdeal.Loops
public import Idealize.ShloMosaic.Lib.Pipeline.ArrRel
public import Idealize.ShloMosaic.Lib.Pipeline.DatRel
public import Idealize.ShloMosaic.Lib.Pointwise
public import Idealize.ShloMosaic.Lib.ValueIdx
public import Idealize.ShloMosaic.Lib.WritesUnit
public import Idealize.ShloMosaic.Lib.VecWindow

@[expose] public section

set_option maxRecDepth 16384

noncomputable section

namespace Cert.Proof.Mining

open Cert.MiningIdeal Cert.MiningIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## Which of the four parts of the body a grid point takes -/

/-- The test for chunk `k`, as the body makes it. -/
abbrev chunk (k : BitVec 32) (i : grid0.Coords) : Prop :=
  Scalar.cmpi .ne (Scalar.extui (Scalar.cmpi .eq (BitVec.ofNat 32 (i 1).val) k) : BitVec 32) 0#32 = 1#1

/-- It holds at one chunk and fails at the others. -/
theorem chunk_at : ∀ n k : Fin 3, Scalar.cmpi .ne (Scalar.extui (Scalar.cmpi .eq (BitVec.ofNat 32 n.val) (BitVec.ofNat 32 k.val)) : BitVec 32) 0#32 = 1#1 ↔ n = k := by
  decide
theorem last_iff (i : grid0.Coords) : k0_cond4 i = 1#1 ↔ i 1 = (2 : Fin 3) := chunk_at (i 1) 2

/-- A test that holds at chunk `k` alone fails at another. -/
theorem off {n a k : Fin 3} {P : Prop} (e : P ↔ n = k) (h : n = a) (d : a ≠ k) : ¬ P := fun p => d (h.symm.trans (e.1 p))

variable (c : Dev nD) (i : grid0.Coords) (arg2 : Memref sig .tc .vmem S1x8192x81 .f32) (harg2 : arg2.IsWhole) (arg3 : Memref sig .tc .vmem S1x8x8192 .i8) (harg3 : arg3.IsWhole) (arg4 : Memref sig .tc .vmem S1x1x128 .f32) (harg4 : arg4.IsWhole) (arg5 : Memref sig .tc .vmem S24x8192 .f32) (harg5 : arg5.IsWhole)
  (X : Vec F S1x8192x81 .f32) (Z : Vec F S1x8x8192 .i8) (O : Vec F S1x1x128 .f32) (S : Vec F S24x8192 .f32)

/-- Row `k` of the classes' block. -/
def zrow (k : Fin 3) : Vec F S1x1x8192 .i8 := fun y => Z (ix3 0 ⟨k.val, by omega⟩ (y 2))

/-- Row `r` of the scratch and its neighbours become those of chunk `k`. -/
def Stored (k : Fin 3) (S' : Vec F S24x8192 .f32) : Prop :=
  ∀ (r : Fin 24) (j : Fin 8192), S' (ix2 r j)
    = if r.val = k.val then k0_pay1 X (zrow Z k) (ix2 0 j) else if r.val = 8 + k.val then k0_pay1 X (zrow Z k) (ix2 1 j)
      else if r.val = 16 + k.val then k0_pay1 X (zrow Z k) (ix2 2 j) else S (ix2 r j)

abbrev held (a2 : Vec F S1x8192x81 .f32) (a3 : Vec F S1x8x8192 .i8) (a4 : Vec F S1x1x128 .f32) (a5 : Vec F S24x8192 .f32) : sProp 𝕄 :=
  iprop(owns (c : Thread nD τ) arg2 fullShare a2 ∗ owns (c : Thread nD τ) arg3 fullShare a3 ∗ owns (c : Thread nD τ) arg4 fullShare a4 ∗ owns (c : Thread nD τ) arg5 fullShare a5)

/-- The three stores of a chunk, read. -/
theorem stored_of {v : View sig .tc .vmem S24x8192 .f32} (f : v.ty.Contents (Elt F)) (hf : v.read (Elt F) f = S) (k : Fin 3)
    {o0 o1 o2 sz0 sz1 sz2 : Fin 2 → ℕ} (b0 : ∀ a : Fin 2, o0 a + sz0 a ≤ S24x8192.size a) (b1 : ∀ a : Fin 2, o1 a + sz1 a ≤ S24x8192.size a)
    (b2 : ∀ a : Fin 2, o2 a + sz2 a ≤ S24x8192.size a) (z0 : sz0 = ![1, 8192]) (z1 : sz1 = ![1, 8192]) (z2 : sz2 = ![1, 8192])
    (e0 : o0 = ![k.val, 0]) (e1 : o1 = ![8 + k.val, 0]) (e2 : o2 = ![16 + k.val, 0])
    (w0 : (Rect.unit (s := S24x8192) o0 sz0 b0).shape.Idx → Elt F .f32) (w1 : (Rect.unit (s := S24x8192) o1 sz1 b1).shape.Idx → Elt F .f32)
    (w2 : (Rect.unit (s := S24x8192) o2 sz2 b2).shape.Idx → Elt F .f32)
    (h0 : ∀ x (j : Fin 8192), (x 1).val = j.val → w0 x = k0_pay1 X (zrow Z k) (ix2 0 j)) (h1 : ∀ x (j : Fin 8192), (x 1).val = j.val → w1 x = k0_pay1 X (zrow Z k) (ix2 1 j))
    (h2 : ∀ x (j : Fin 8192), (x 1).val = j.val → w2 x = k0_pay1 X (zrow Z k) (ix2 2 j)) :
    Stored X Z S k (v.read (Elt F) (v.writes (Elt F) f [⟨Rect.unit (s := S24x8192) o2 sz2 b2, w2⟩, ⟨Rect.unit (s := S24x8192) o1 sz1 b1, w1⟩, ⟨Rect.unit (s := S24x8192) o0 sz0 b0, w0⟩])) := by
  subst z0 z1 z2
  intro r j
  have hk := k.isLt
  rw [View.read_writes_cons_rows v f b2 w2 _ _ (W := 1) e2 rfl rfl, View.read_writes_cons_rows v f b1 w1 _ _ (W := 1) e1 rfl rfl, View.read_writes_cons_rows v f b0 w0 _ _ (W := 1) e0 rfl rfl]
  have hr : ((ix2 r j : S24x8192.Idx) 0).val = r.val := rfl
  simp only [hr]
  by_cases a0 : r.val = k.val
  · rw [dif_neg (by omega), dif_neg (by omega), dif_pos (by omega), if_pos a0]
    exact h0 _ _ (by rw [Rect.unitLocal_val]; simp)
  by_cases a1 : r.val = 8 + k.val
  · rw [dif_neg (by omega), dif_pos (by omega), if_neg a0, if_pos a1]
    exact h1 _ _ (by rw [Rect.unitLocal_val]; simp)
  by_cases a2 : r.val = 16 + k.val
  · rw [dif_pos (by omega), if_neg a0, if_neg a1, if_pos a2]
    exact h2 _ _ (by rw [Rect.unitLocal_val]; simp)
  rw [dif_neg (by omega), dif_neg (by omega), dif_neg (by omega), if_neg a0, if_neg a1, if_neg a2]
  subst hf; rfl

/-- The whole block of logits, loaded. -/
theorem load_logits {v : View sig .tc .vmem S1x8192x81 .f32} (f : v.ty.Contents (Elt F)) (b) :
    v.readAt (Elt F) (Rect.unit (s := S1x8192x81) ![0, 0, 0] ![1, 8192, 81] b).toLoadRect f = v.read (Elt F) f := by
  funext x
  rw [View.readAt_apply]
  congr 1
  funext a; fin_cases a <;> (apply Fin.ext; simp [Rect.unit, Rect.toLoadRect, LoadRect.idx])

/-- Row `k` of the block of classes, loaded. -/
theorem load_classes {v : View sig .tc .vmem S1x8x8192 .i8} (f : v.ty.Contents (Elt F)) (k : Fin 3) {o : Fin 3 → ℕ} (e : o = ![0, k.val, 0]) (b) :
    v.readAt (Elt F) (Rect.unit (s := S1x8x8192) o ![1, 1, 8192] b).toLoadRect f = zrow (v.read (Elt F) f) k := by
  subst e
  funext x
  rw [View.readAt_apply]
  unfold zrow
  congr 1
  have h1 : (x 1).val = 0 := Nat.lt_one_iff.1 (x 1).isLt
  funext a; fin_cases a <;> (apply Fin.ext; simp [Rect.unit, Rect.toLoadRect, LoadRect.idx, ix3, h1])

theorem row_idx (x : S1x8192.Idx) (j : Fin 8192) (hx : (x 1).val = j.val) : x = ix2 0 j := by
  funext a; fin_cases a; exacts [Fin.ext (Nat.lt_one_iff.1 (x 0).isLt), Fin.ext hx]
theorem row_max (A : Vec F S1x8192x81 .f32) (B : Vec F S1x1x8192 .i8) (x : S1x8192.Idx) (j : Fin 8192) (hx : (x 1).val = j.val) :
    k0_pay2 A B x = k0_pay1 A B (ix2 0 j) := by
  rw [row_idx x j hx]; unfold k0_pay2; pointwise
theorem row_sum (A : Vec F S1x8192x81 .f32) (B : Vec F S1x1x8192 .i8) (x : S1x8192.Idx) (j : Fin 8192) (hx : (x 1).val = j.val) :
    k0_pay3 A B x = k0_pay1 A B (ix2 1 j) := by
  rw [row_idx x j hx]; unfold k0_pay3; pointwise
theorem row_tgt (A : Vec F S1x8192x81 .f32) (B : Vec F S1x1x8192 .i8) (x : S1x8192.Idx) (j : Fin 8192) (hx : (x 1).val = j.val) :
    k0_pay4 A B x = k0_pay1 A B (ix2 2 j) := by
  rw [row_idx x j hx]; unfold k0_pay4; pointwise

theorem run0 (h : i 1 = (0 : Fin 3)) (K : PUnit → sProp 𝕄) :
    iprop(held c arg2 arg3 arg4 arg5 X Z O S ∗ ((∃ S', ⌜Stored X Z S 0 S'⌝ ∗ held c arg2 arg3 arg4 arg5 X Z O S') -∗ K ⟨⟩))
      ⊢ wp frame (wpE (defs₀ (F := F)) Variants.none c none) Set.univ (cc0__lambda_ i arg2 harg2 arg3 harg3 arg4 harg4 arg5 harg5) K := by
  have e0 : chunk 0#32 i ↔ i 1 = (0 : Fin 3) := chunk_at (i 1) 0
  have e1 : chunk 1#32 i ↔ i 1 = (1 : Fin 3) := chunk_at (i 1) 1
  have e2 : chunk 2#32 i ↔ i 1 = (2 : Fin 3) := chunk_at (i 1) 2
  have e3 := last_iff i
  simp only [cc0__lambda__eq_skeleton]; unfold cc0__lambda__skel
  simp only [k0_part1_eq_skeleton]
  simp only [dif_pos (e0.2 h), dif_neg (off e1 h (by decide)), dif_neg (off e2 h (by decide)), dif_neg (off e3 h (by decide))]
  unfold held owns
  iintro ⟨⟨⟨%f2, %h2, H2⟩, ⟨%f3, %h3, H3⟩, ⟨%f4, %h4, H4⟩, ⟨%f5, %h5, H5⟩⟩, Hk⟩
  sl_exec
  sl_step
  simp only [load_logits, load_classes _ 0 rfl, h2, h3]
  iapply Hk
  iexists _; isplitr; swap
  · isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    iexists _; isplitr; swap; · iexact H5
    ipureintro; rfl
  ipureintro
  refine stored_of X Z S f5 h5 0 _ _ _ rfl rfl rfl rfl rfl rfl _ _ _ ?_ ?_ ?_ <;> intro x j hx
  · exact (congrArg (fun z => k0_pay2 X z x) ((load_classes f3 0 rfl _).trans (by rw [h3]))).trans (row_max X _ x j hx)
  · exact (congrArg (fun z => k0_pay3 X z x) ((load_classes f3 0 rfl _).trans (by rw [h3]))).trans (row_sum X _ x j hx)
  · exact (congrArg (fun z => k0_pay4 X z x) ((load_classes f3 0 rfl _).trans (by rw [h3]))).trans (row_tgt X _ x j hx)

theorem run1 (h : i 1 = (1 : Fin 3)) (K : PUnit → sProp 𝕄) :
    iprop(held c arg2 arg3 arg4 arg5 X Z O S ∗ ((∃ S', ⌜Stored X Z S 1 S'⌝ ∗ held c arg2 arg3 arg4 arg5 X Z O S') -∗ K ⟨⟩))
      ⊢ wp frame (wpE (defs₀ (F := F)) Variants.none c none) Set.univ (cc0__lambda_ i arg2 harg2 arg3 harg3 arg4 harg4 arg5 harg5) K := by
  have e0 : chunk 0#32 i ↔ i 1 = (0 : Fin 3) := chunk_at (i 1) 0
  have e1 : chunk 1#32 i ↔ i 1 = (1 : Fin 3) := chunk_at (i 1) 1
  have e2 : chunk 2#32 i ↔ i 1 = (2 : Fin 3) := chunk_at (i 1) 2
  have e3 := last_iff i
  simp only [cc0__lambda__eq_skeleton]; unfold cc0__lambda__skel
  simp only [k0_part1_eq_skeleton]
  simp only [dif_neg (off e0 h (by decide)), dif_pos (e1.2 h), dif_neg (off e2 h (by decide)), dif_neg (off e3 h (by decide))]
  unfold held owns
  iintro ⟨⟨⟨%f2, %h2, H2⟩, ⟨%f3, %h3, H3⟩, ⟨%f4, %h4, H4⟩, ⟨%f5, %h5, H5⟩⟩, Hk⟩
  sl_exec
  sl_step
  simp only [load_logits, load_classes _ 0 rfl, h2, h3]
  iapply Hk
  iexists _; isplitr; swap
  · isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    iexists _; isplitr; swap; · iexact H5
    ipureintro; rfl
  ipureintro
  refine stored_of X Z S f5 h5 1 _ _ _ rfl rfl rfl rfl rfl rfl _ _ _ ?_ ?_ ?_ <;> intro x j hx
  · exact (congrArg (fun z => k0_pay6 X z x) ((load_classes f3 1 rfl _).trans (by rw [h3]))).trans (row_max X _ x j hx)
  · exact (congrArg (fun z => k0_pay7 X z x) ((load_classes f3 1 rfl _).trans (by rw [h3]))).trans (row_sum X _ x j hx)
  · exact (congrArg (fun z => k0_pay8 X z x) ((load_classes f3 1 rfl _).trans (by rw [h3]))).trans (row_tgt X _ x j hx)

/-- Six rows of the scratch from row `o`. -/
def rows6 (o : Fin 3) : Vec F S6x8192 .f32 := fun y => S (ix2 ⟨8 * o.val + (y 0).val, by have : (y 0).val < 6 := (y 0).isLt; omega⟩ (y 1))
/-- Six rows of the classes. -/
def classes6 : Vec F S1x6x8192 .i8 := fun y => Z (ix3 0 ⟨(y 1).val, by have : (y 1).val < 6 := (y 1).isLt; omega⟩ (y 2))

/-- What the last chunk stores, from the scratch as that chunk leaves it and the classes. -/
def mined : Vec F S1x1x128 .f32 :=
  k0_pay13 (k0_pay16 (rows6 S 0) (rows6 S 1) (rows6 S 2) (classes6 Z)) (extractAt ![0, 0, 0] (k0_pay17 (classes6 Z)) inpos_S1x1x1_p0_0_0)
    (Scalar.minsi (Scalar.muli 3#32 (extractAt ![0, 0, 0] (k0_pay17 (classes6 Z)) inpos_S1x1x1_p0_0_0)) 24563#32)
    (k0_pay18 (rows6 S 0) (rows6 S 1) (rows6 S 2) (classes6 Z))
    (Scf.fold (fun (_ : Fin k0_t1_loop.trips) x => k0_pay19 (rows6 S 0) (rows6 S 1) (rows6 S 2) (classes6 Z) x) (Scalar.ofBits .f32 0x7F800000#32))

theorem load_rows6 {v : View sig .tc .vmem S24x8192 .f32} (f : v.ty.Contents (Elt F)) (k : Fin 3) {o : Fin 2 → ℕ} (e : o = ![8 * k.val, 0]) (b) :
    v.readAt (Elt F) (Rect.unit (s := S24x8192) o S6x8192.size b).toLoadRect f = rows6 (v.read (Elt F) f) k := by
  subst e
  funext x
  rw [View.readAt_apply]
  unfold rows6
  congr 1
  funext a; fin_cases a <;> (apply Fin.ext; simp [Rect.unit, Rect.toLoadRect, LoadRect.idx, ix2])
theorem load_classes6 {v : View sig .tc .vmem S1x8x8192 .i8} (f : v.ty.Contents (Elt F)) (b) :
    v.readAt (Elt F) (Rect.unit (s := S1x8x8192) ![0, 0, 0] S1x6x8192.size b).toLoadRect f = classes6 (v.read (Elt F) f) := by
  funext x
  rw [View.readAt_apply]
  unfold classes6
  congr 1
  have h1 : (x 0).val = 0 := Nat.lt_one_iff.1 (x 0).isLt
  funext a; fin_cases a <;> (apply Fin.ext; simp [Rect.unit, Rect.toLoadRect, LoadRect.idx, ix3, h1])
/-- The output's one store, read. -/
theorem read_out {v : View sig .tc .vmem S1x1x128 .f32} (f : v.ty.Contents (Elt F)) (b) (w) :
    v.read (Elt F) (v.writes (Elt F) f [⟨Rect.unit (s := S1x1x128) ![0, 0, 0] ![1, 1, 128] b, w⟩]) = w :=
  View.read_writes_full v f b w []

theorem run2 (h : i 1 = (2 : Fin 3)) (K : PUnit → sProp 𝕄) :
    iprop(held c arg2 arg3 arg4 arg5 X Z O S ∗ ((∃ S', ⌜Stored X Z S 2 S'⌝ ∗ held c arg2 arg3 arg4 arg5 X Z (mined Z S') S') -∗ K ⟨⟩))
      ⊢ wp frame (wpE (defs₀ (F := F)) Variants.none c none) Set.univ (cc0__lambda_ i arg2 harg2 arg3 harg3 arg4 harg4 arg5 harg5) K := by
  have e0 : chunk 0#32 i ↔ i 1 = (0 : Fin 3) := chunk_at (i 1) 0
  have e1 : chunk 1#32 i ↔ i 1 = (1 : Fin 3) := chunk_at (i 1) 1
  have e2 : chunk 2#32 i ↔ i 1 = (2 : Fin 3) := chunk_at (i 1) 2
  have e3 := last_iff i
  simp only [cc0__lambda__eq_skeleton]; unfold cc0__lambda__skel
  simp only [k0_part1_eq_skeleton]
  simp only [dif_neg (off e0 h (by decide)), dif_neg (off e1 h (by decide)), dif_pos (e2.2 h), dif_pos (e3.2 h)]
  unfold held owns
  iintro ⟨⟨⟨%f2, %h2, H2⟩, ⟨%f3, %h3, H3⟩, ⟨%f4, %h4, H4⟩, ⟨%f5, %h5, H5⟩⟩, Hk⟩
  sl_exec
  sl_step
  unfold run2.sl.r_1 run2.sl.v40 run2.sl.v42 run2.sl.v41 run2.sl.v40 run2.sl.r_2 run2.sl.r run2.sl.H5_3 run2.sl.cst_16
  have hS : Stored X Z S 2 (arg5.view.read (Elt F) (arg5.view.writes (Elt F) f5 _)) :=
    stored_of X Z S f5 h5 2 inb_S24x8192_S1x8192_2_0 inb_S24x8192_S1x8192_10_0 inb_S24x8192_S1x8192_18_0 rfl rfl rfl rfl rfl rfl
      (k0_pay10 (arg2.view.readAt (Elt F) (Rect.unit (s := S1x8192x81) ![0, 0, 0] ![1, 8192, 81] inb_S1x8192x81_S1x8192x81_0_0_0).toLoadRect f2)
        (arg3.view.readAt (Elt F) (Rect.unit (s := S1x8x8192) ![0, 2, 0] ![1, 1, 8192] inb_S1x8x8192_S1x1x8192_0_2_0).toLoadRect f3))
      (k0_pay11 (arg2.view.readAt (Elt F) (Rect.unit (s := S1x8192x81) ![0, 0, 0] ![1, 8192, 81] inb_S1x8192x81_S1x8192x81_0_0_0).toLoadRect f2)
        (arg3.view.readAt (Elt F) (Rect.unit (s := S1x8x8192) ![0, 2, 0] ![1, 1, 8192] inb_S1x8x8192_S1x1x8192_0_2_0).toLoadRect f3))
      (k0_pay12 (arg2.view.readAt (Elt F) (Rect.unit (s := S1x8192x81) ![0, 0, 0] ![1, 8192, 81] inb_S1x8192x81_S1x8192x81_0_0_0).toLoadRect f2)
        (arg3.view.readAt (Elt F) (Rect.unit (s := S1x8x8192) ![0, 2, 0] ![1, 1, 8192] inb_S1x8x8192_S1x1x8192_0_2_0).toLoadRect f3))
      (fun x j hx => by rw [load_logits, h2]; exact (congrArg (fun z => k0_pay10 X z x) ((load_classes f3 2 rfl _).trans (by rw [h3]))).trans (row_max X _ x j hx))
      (fun x j hx => by rw [load_logits, h2]; exact (congrArg (fun z => k0_pay11 X z x) ((load_classes f3 2 rfl _).trans (by rw [h3]))).trans (row_sum X _ x j hx))
      (fun x j hx => by rw [load_logits, h2]; exact (congrArg (fun z => k0_pay12 X z x) ((load_classes f3 2 rfl _).trans (by rw [h3]))).trans (row_tgt X _ x j hx))
  iapply Hk
  iexists _; isplitr; swap
  · isplitl [H2]
    · iexists _; isplitr; swap; · iexact H2
      ipureintro; exact h2
    isplitl [H3]
    · iexists _; isplitr; swap; · iexact H3
      ipureintro; exact h3
    isplitl [H4]; swap
    · iexists _; isplitr; swap; · iexact H5
      ipureintro; rfl
    iexists _; isplitr; swap; · iexact H4
    ipureintro
    rw [read_out]
    simp only [← h3]
    unfold mined
    simp only [← load_rows6 _ 0 (o := ![0, 0]) rfl inb_S24x8192_S6x8192_0_0, ← load_rows6 _ 1 (o := ![8, 0]) rfl inb_S24x8192_S6x8192_8_0,
      ← load_rows6 _ 2 (o := ![16, 0]) rfl inb_S24x8192_S6x8192_16_0, ← load_classes6 _ inb_S1x8x8192_S1x6x8192_0_0_0]
  ipureintro
  exact hS

end Cert.Proof.Mining

end
-- ==== Proof.MiningRun.lean ====
/- The second call with the bisection on bits replaced: its launch, and what its result array holds. -/
module

public import proofs.«01_k».proof.Proof.Mining

@[expose] public section

set_option maxRecDepth 16384

noncomputable section

namespace Cert.Proof.Mining

open Cert.MiningIdeal Cert.MiningIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of logits as grid point `u` may find it: its rows of the array, and past the array's end anything. -/
def logits (c : Dev nD) (u : Fin cfg0.N) (d : Vec F S1x8192x81 .f32) : Vec F S1x8192x81 .f32 :=
  (cfg0.win 0).fill (cfg0.grid.coords u) d (iblk m c 0 u)

/-- The scratch holds chunk `k`'s rows of point `u`. -/
def HasRows (c : Dev nD) (u : Fin cfg0.N) (k : Fin 3) (S : Vec F S24x8192 .f32) : Prop :=
  ∃ d, ∀ j : Fin 8192,
    S (ix2 ⟨k.val, by omega⟩ j) = k0_pay1 (logits m c u d) (zrow (iblk m c 1 u) k) (ix2 0 j)
    ∧ S (ix2 ⟨8 + k.val, by omega⟩ j) = k0_pay1 (logits m c u d) (zrow (iblk m c 1 u) k) (ix2 1 j)
    ∧ S (ix2 ⟨16 + k.val, by omega⟩ j) = k0_pay1 (logits m c u d) (zrow (iblk m c 1 u) k) (ix2 2 j)

/-- The rows of the chunks below `n` of image `b`. -/
def Done (c : Dev nD) (b n : ℕ) (S : Vec F S24x8192 .f32) : Prop :=
  ∀ k : Fin 3, k.val < n → ∃ u : Fin cfg0.N, u.val = 3 * b + k.val ∧ HasRows m c u k S

theorem done_zero (c : Dev nD) (b : ℕ) (S : Vec F S24x8192 .f32) : Done m c b 0 S := fun _ h => absurd h (Nat.not_lt_zero _)

/-- A chunk's stores add its rows. -/
theorem done_succ (c : Dev nD) (b : ℕ) (k : Fin 3) (u : Fin cfg0.N) (hu : u.val = 3 * b + k.val) (d : Vec F S1x8192x81 .f32)
    (S S' : Vec F S24x8192 .f32) (h : Done m c b k.val S) (hs : Stored (logits m c u d) (iblk m c 1 u) S k S') : Done m c b (k.val + 1) S' := by
  intro k' hk'
  have hk3 := k.isLt
  by_cases e : k' = k
  · subst e
    refine ⟨u, hu, d, fun j => ⟨?_, ?_, ?_⟩⟩
    · rw [hs, if_pos rfl]
    · rw [hs, if_neg (by simp only; omega), if_pos rfl]
    · rw [hs, if_neg (by simp only; omega), if_neg (by simp only; omega), if_pos rfl]
  · have hlt : k'.val < k.val := by have : k'.val ≠ k.val := fun h => e (Fin.ext h); omega
    obtain ⟨u', hu', d', hd⟩ := h k' hlt
    refine ⟨u', hu', d', fun j => ?_⟩
    rw [hs, hs, hs]
    rw [if_neg (by simp only; omega), if_neg (by simp only; omega), if_neg (by simp only; omega),
      if_neg (by simp only; omega), if_neg (by simp only; omega), if_neg (by simp only; omega),
      if_neg (by simp only; omega), if_neg (by simp only; omega), if_neg (by simp only; omega)]
    exact hd j

/-- The windows of the logits and of the result are held to what they meet, not followed. -/
def marked : Fin 3 → Bool := fun w => decide (w ≠ 1)

/-- What the body leaves: at an image's last chunk, what it makes of the scratch with all three chunks' rows. -/
def Left (c : Dev nD) : (w : Fin cfg0.W) → Fin cfg0.N → ((cfg0.win w).block.Idx → Elt F (cfg0.win w).elt) → Prop
  | ⟨0, _⟩ => fun _ _ => True
  | ⟨1, _⟩ => fun _ _ => True
  | ⟨2, _⟩ => fun t X => t.val % 3 = 2 → ∃ S, Done m c (t.val / 3) 3 S ∧ X = mined (iblk m c 1 t) S

/-- The arrays as the call finds them; the classes left as they are; the scratch with the rows stored so far. -/
def dats (c : Dev nD) : Dat τ (Elt F) Unit ℕ (UR sig nD τ) ℕ cfg0 c where
  A w := V m c (Pipeline.arrRef spec0 w)
  after w t := match w with
    | ⟨0, _⟩ => Pipeline.Dat.unnamed (cfg := cfg0) 0 t
    | ⟨1, _⟩ => iblk m c 1 t
    | ⟨2, _⟩ => Pipeline.Dat.unnamed (cfg := cfg0) 2 t
  Φ t := iprop((∃ S, ⌜Done m c (t.val / 3) (t.val % 3) S⌝ ∗ owns (c : Thread nD τ) (Memref.whole cc0_scratch0) fullShare S) ∗ ∃ r, prngReg c r)
  q _ := fullShare
  owed _ := 0

/-- The data with the marked windows held to what the body leaves. -/
def rdat (c : Dev nD) : Pipeline.RDat τ (Elt F) Unit ℕ (UR sig nD τ) ℕ cfg0 c := (dats m c).toRRel marked (Left m c)

theorem A_eq (c : Dev nD) (w : Fin cfg0.W) : (rdat m c).A w = V m c (Pipeline.arrRef spec0 w) := rfl

theorem finds0 (c : Dev nD) (t : Fin cfg0.N) (Y) (h : (rdat m c).Finds 0 t Y) : ∃ d, Y = logits m c t d :=
  ((rdat m c).finds_of_fetch (fetch0_0 t) Y).1 h

theorem coord1 : ∀ t : Fin cfg0.N, (grid0.coords t 1).val = t.val % 3 := (by decide +kernel : ∀ t : Fin grid0.N, _)

def bodyPre (c : Dev nD) (t : Fin cfg0.N) : sProp 𝕄 :=
  iprop((dats m c).Φ t.castSucc ∗ (dats m c).owesAt () t.castSucc ∗ (∃ Y, ⌜(rdat m c).Finds 0 t Y⌝ ∗ owns (c : Thread nD τ) (st0_0 t) fullShare Y)
    ∗ (∃ d, owns (c : Thread nD τ) (st0_1 t) fullShare ((dats m c).before 1 t d)) ∗ (∃ Y, ⌜(rdat m c).Finds 2 t Y⌝ ∗ owns (c : Thread nD τ) (st0_2 t) fullShare Y))
def bodyPost (c : Dev nD) (t : Fin cfg0.N) : sProp 𝕄 :=
  iprop((dats m c).Φ t.succ ∗ (dats m c).owesAt () t.succ ∗ (∃ X, ⌜Left m c 0 t X⌝ ∗ owns (c : Thread nD τ) (st0_0 t) fullShare X)
    ∗ owns (c : Thread nD τ) (st0_1 t) fullShare ((dats m c).after 1 t) ∗ (∃ X, ⌜Left m c 2 t X⌝ ∗ owns (c : Thread nD τ) (st0_2 t) fullShare X))

/-- The invariant: the scratch and the generator's register, both at anything. -/
theorem inv_eq (c : Dev nD) :
    (Pipeline.ΦA spec0 c : sProp 𝕄) = iprop((∃ S, owns (c : Thread nD τ) (Memref.whole cc0_scratch0) fullShare S) ∗ ∃ r, prngReg c r) := by
  unfold Pipeline.ΦA
  rw [scopedRest0_eq]
  simp only [owns_whole]
  try rfl

/-- The body at a point, whatever the chunk. -/
theorem run_at (c : Dev nD) (t : Fin cfg0.N) (d : Vec F S1x8192x81 .f32) (O : Vec F S1x1x128 .f32) (S : Vec F S24x8192 .f32)
    (hd : Done m c (t.val / 3) (t.val % 3) S) (K : PUnit → sProp 𝕄) :
    iprop(held c (st0_0 t) (st0_1 t) (st0_2 t) (Memref.whole cc0_scratch0) (logits m c t d) (iblk m c 1 t) O S
      ∗ ((∃ O' S', ⌜Done m c (t.succ.val / 3) (t.succ.val % 3) S' ∧ Left m c 2 t O'⌝ ∗ held c (st0_0 t) (st0_1 t) (st0_2 t) (Memref.whole cc0_scratch0) (logits m c t d) (iblk m c 1 t) O' S') -∗ K ⟨⟩))
      ⊢ wp frame (wpE (defs₀ (F := F)) Variants.none c none) Set.univ (bodyAt0 t) K := by
  have hc := coord1 t
  have hs : t.succ.val = t.val + 1 := rfl
  obtain h | h | h : grid0.coords t 1 = (0 : Fin 3) ∨ grid0.coords t 1 = (1 : Fin 3) ∨ grid0.coords t 1 = (2 : Fin 3) :=
    (by decide : ∀ n : Fin 3, n = 0 ∨ n = 1 ∨ n = 2) (grid0.coords t 1)
  · have h3 : t.val % 3 = 0 := by rw [← hc, h]; rfl
    iintro ⟨H, Hk⟩
    iapply (run0 c (grid0.coords t) (st0_0 t) _ (st0_1 t) _ (st0_2 t) _ (Memref.whole cc0_scratch0) _ (logits m c t d) (iblk m c 1 t) O S h)
    isplitl [H]; · iexact H
    iintro ⟨%S', %hS, H⟩
    iapply Hk
    iexists O, S'
    isplitr
    · ipureintro
      rw [h3] at hd
      refine ⟨?_, fun e => absurd e (by omega)⟩
      have := done_succ m c (t.val / 3) 0 t (by simp only [Fin.val_zero]; omega) d S S' hd hS
      rw [show t.succ.val / 3 = t.val / 3 by omega, show t.succ.val % 3 = (0 : Fin 3).val + 1 by simp only [Fin.val_zero]; omega]
      exact this
    iexact H
  · have h3 : t.val % 3 = 1 := by rw [← hc, h]; rfl
    iintro ⟨H, Hk⟩
    iapply (run1 c (grid0.coords t) (st0_0 t) _ (st0_1 t) _ (st0_2 t) _ (Memref.whole cc0_scratch0) _ (logits m c t d) (iblk m c 1 t) O S h)
    isplitl [H]; · iexact H
    iintro ⟨%S', %hS, H⟩
    iapply Hk
    iexists O, S'
    isplitr
    · ipureintro
      rw [h3] at hd
      refine ⟨?_, fun e => absurd e (by omega)⟩
      have := done_succ m c (t.val / 3) 1 t (by simp only [Fin.val_one]; omega) d S S' hd hS
      rw [show t.succ.val / 3 = t.val / 3 by omega, show t.succ.val % 3 = (1 : Fin 3).val + 1 by simp only [Fin.val_one]; omega]
      exact this
    iexact H
  · have h3 : t.val % 3 = 2 := by rw [← hc, h]; rfl
    iintro ⟨H, Hk⟩
    iapply (run2 c (grid0.coords t) (st0_0 t) _ (st0_1 t) _ (st0_2 t) _ (Memref.whole cc0_scratch0) _ (logits m c t d) (iblk m c 1 t) O S h)
    isplitl [H]; · iexact H
    iintro ⟨%S', %hS, H⟩
    iapply Hk
    iexists _, S'
    isplitr; swap; · iexact H
    ipureintro
    rw [h3] at hd
    have := done_succ m c (t.val / 3) 2 t (by simp only [Fin.val_two]; omega) d S S' hd hS
    refine ⟨?_, fun _ => ⟨S', this, rfl⟩⟩
    rw [show t.succ.val % 3 = 0 by omega]
    exact done_zero m c _ S'

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m c).owesAt () t.succ = (dats m c).owesAt () t.castSucc from rfl,
    show (dats m c).Φ t.castSucc = iprop((∃ S, ⌜Done m c (t.val / 3) (t.val % 3) S⌝ ∗ owns (c : Thread nD τ) (Memref.whole cc0_scratch0) fullShare S) ∗ ∃ r, prngReg c r) from rfl,
    show (dats m c).Φ t.succ = iprop((∃ S, ⌜Done m c (t.succ.val / 3) (t.succ.val % 3) S⌝ ∗ owns (c : Thread nD τ) (Memref.whole cc0_scratch0) fullShare S) ∗ ∃ r, prngReg c r) from rfl,
    show (dats m c).after 1 t = iblk m c 1 t from rfl]
  simp only [before0_1_of m (dats m c) rfl (fun _ => rfl)]
  iintro ⟨⟨⟨%S, %hd, HS⟩, Hg⟩, HO, ⟨%Y, %hY, H0⟩, ⟨%_, H1⟩, ⟨%O, -, H2⟩⟩
  obtain ⟨d, rfl⟩ := finds0 m c t Y hY
  iapply (run_at m c t d O S hd)
  isplitl [H0 H1 H2 HS]
  · unfold held
    isplitl [H0]; · iexact H0
    isplitl [H1]; · iexact H1
    isplitl [H2]; · iexact H2
    iexact HS
  unfold held
  iintro ⟨%O', %S', %h, H0, H1, H2, HS⟩
  isplitl [HS Hg]
  · isplitl [HS]
    · iexists S'; isplitr
      · ipureintro; exact h.1
      iexact HS
    iexact Hg
  isplitl [HO]; · iexact HO
  isplitl [H0]
  · iexists _; isplitr; swap; · iexact H0
    ipureintro; trivial
  isplitl [H1]; · iexact H1
  iexists O'; isplitr
  · ipureintro; exact h.2
  iexact H2

theorem row (t : Fin cfg0.N) : defs₀ (F := F) .tc cfg0.body (cfg0.bodyArgs t (cfg0.slots t)) = bodyAt0 t := by
  unfold defs₀; rw [Defs.onTc_tc]

theorem obligation (c : Dev nD) : BodyObligationRel (dats (F := F) m c) (defs₀ (F := F)) Variants.none () Set.univ marked (Left m c) := fun t => by
  rw [bigSep_W0, bigSep_W0, row]
  exact triple_restated (sound_body m c t) rfl .rfl fun _ => .rfl

set_option backward.isDefEq.respectTransparency.types false in
theorem launch :
    θ_run defs (onTc (τ := τ) (main (F := F))) (s₀ m ρ)
      (fun r => Pipeline.RDat.FramePost (cfgs 0) (rdat m) (V m) r ∧ r.2.sem = fun _ => 0) :=
  Pipeline.RDat.θ_run_frame_track cfgs (0 : Fin 1) launch0 defs₀ Variants.none (rdat m) m ρ main
    (hbody := fun c => (obligation m c).toRRel) (hshare := fun c => (dats m c).share_full fun _ => rfl)
    (howed := fun _ _ => rfl) (V := V m) (hmain := hmain m Variants.none) (hA := A_eq m)
    (hin := fun c => by
      show _ ⊢ iprop((∃ S, ⌜Done m c (0 / 3) (0 % 3) S⌝ ∗ owns (c : Thread nD τ) (Memref.whole cc0_scratch0) fullShare S) ∗ ∃ r, prngReg c r)
      refine (Entails.of_eq (inv_eq c)).trans ?_
      iintro ⟨⟨%S, H⟩, Hg⟩
      isplitl [H]
      · iexists S; isplitr
        · ipureintro; exact done_zero m c _ S
        iexact H
      iexact Hg)
    (hout := fun c => by
      show iprop((∃ S, ⌜Done m c ((Fin.last cfg0.N).val / 3) ((Fin.last cfg0.N).val % 3) S⌝ ∗ owns (c : Thread nD τ) (Memref.whole cc0_scratch0) fullShare S) ∗ ∃ r, prngReg c r) ⊢ _
      refine .trans ?_ (Entails.of_eq (inv_eq c).symm)
      iintro ⟨⟨%S, -, H⟩, Hg⟩
      isplitl [H]
      · iexists S; iexact H
      iexact Hg)
    (Q' := fun r => Pipeline.RDat.FramePost (cfgs 0) (rdat m) (V m) r ∧ r.2.sem = fun _ => 0) (hQ' := fun _ h => h)

/-- The frame: the call ends, both arguments are as they were, every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r (h : _ ∧ _) => ⟨fun c =>
    ⟨(h.1.arr_in c 0 rfl).trans ((A_eq m c 0).trans (V_main_arg0 m c)),
      ((h.1 c).2 main_arg1 (Pipeline.mem_restRefs_of main_arg1 (by decide) (by decide))).trans (V_main_arg1 m c)⟩, h.2⟩) (launch m ρ)

/-! ## The result array -/

theorem N_eq : cfg0.N = 48 := by decide +kernel
/-- The image of a grid point. -/
def im (t : Fin cfg0.N) : Fin 16 := ⟨t.val / 3, by have h := t.isLt; have e := N_eq; omega⟩
theorem idx0 : ∀ t : Fin cfg0.N, win0_0.index t (0 : Fin 3) = t.val / 3 ∧ win0_0.index t (1 : Fin 3) = t.val % 3 ∧ win0_0.index t (2 : Fin 3) = 0 :=
  (by decide +kernel : ∀ t : Fin grid0.N, _)
theorem idx1 : ∀ t : Fin cfg0.N, win0_1.index t (0 : Fin 3) = t.val / 3 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 3 ∧ win0_2.index t (1 : Fin 3) = 0 ∧ win0_2.index t (2 : Fin 3) = 0 :=
  (by decide +kernel : ∀ t : Fin grid0.N, _)

theorem emb1 (t : Fin cfg0.N) (j : S1x8x8192.Idx) : ((cfg0.win 1).blk t).view.emb j = ix3 (im t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val / 3; omega
  | ⟨1, _⟩ => show win0_1.index t (1 : Fin 3) * 8 + 1 * (j 1).val = (j 1).val; omega
  | ⟨2, _⟩ => show win0_1.index t (2 : Fin 3) * 8192 + 1 * (j 2).val = (j 2).val; omega
theorem emb2 (t : Fin cfg0.N) (j : S1x1x128.Idx) : ((cfg0.win 2).blk t).view.emb j = ix3 (im t) 0 (j 2) := by
  obtain ⟨e0, e1, e2⟩ := idx2 t
  have h0 : (j 0).val < 1 := (j 0).isLt
  have h1 : (j 1).val < 1 := (j 1).isLt
  funext a; apply Fin.ext
  match a with
  | ⟨0, _⟩ => show win0_2.index t (0 : Fin 3) * 1 + 1 * (j 0).val = t.val / 3; omega
  | ⟨1, _⟩ => show win0_2.index t (1 : Fin 3) * 1 + 1 * (j 1).val = 0; omega
  | ⟨2, _⟩ => show win0_2.index t (2 : Fin 3) * 128 + 1 * (j 2).val = (j 2).val; omega

/-- The last grid point of an image. -/
def pt (b : Fin 16) : Fin cfg0.N := ⟨3 * b.val + 2, lt_of_lt_of_eq (by omega) N_eq.symm⟩
theorem im_pt (b : Fin 16) : im (pt b) = b := Fin.ext (by show (3 * b.val + 2) / 3 = b.val; omega)

theorem covered2 (i : S16x1x128.Idx) : ∃ t : Fin cfg0.N, (cfg0.win 2).flush t = true ∧ i ∈ ((cfg0.win 2).blk t).view.set := by
  obtain ⟨b, p, q, rfl⟩ : ∃ b p q, i = ix3 b p q := ⟨_, _, _, eq_ix3 i⟩
  have hp : p = 0 := Subsingleton.elim (α := Fin 1) _ _
  subst hp
  have h := ((cfg0.win 2).blk (pt b)).view.emb_mem_set (ix3 0 0 q)
  rw [emb2, im_pt] at h
  exact ⟨pt b, (flush0_2 _).2 (by show (3 * b.val + 2) % 3 = 2; omega), h⟩

/-- The result array, if what each image's last chunk leaves is named. -/
theorem final (R : Dev nD → Fin 16 → Fin 128 → F .f32)
    (hR : ∀ c (t : Fin cfg0.N) S, t.val % 3 = 2 → Done m c (t.val / 3) 3 S → ∀ j, mined (iblk m c 1 t) S (ix3 0 0 j) = R c (im t) j) :
    θ_run defs (onTc (τ := τ) (main (F := F))) ⟨m, fun _ => 0, ρ⟩ fun r => ∀ c : Dev nD,
      r.2.mem ((c.tc : Thread nD τ).loc main_v3) = (fun y => R c (y 0) (y 2) : S16x1x128.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r (h : _ ∧ _) c => by
    obtain ⟨after, hL, hA⟩ := h.1.exists_exact c
    refine ⟨(hA 2).trans ?_, (h.1.arr_in c 0 rfl).trans ((A_eq m c 0).trans (V_main_arg0 m c)),
      ((h.1 c).2 main_arg1 (Pipeline.mem_restRefs_of main_arg1 (by decide) (by decide))).trans (V_main_arg1 m c)⟩
    refine ((rdat m c).withAfter after).arrAt_eq_of_cover 2 (fun y => R c (y 0) (y 2) : S16x1x128.Idx → F .f32) (fun t hf => ?_) covered2
    have h3 := (flush0_2 t).1 hf
    obtain ⟨S, hS, hX⟩ := (dats m c).toRRel_leaves (w := 2) rfl (hL 2 t hf) h3
    funext j
    show after 2 t j = R c (((cfg0.win 2).blk t).view.emb j 0) (((cfg0.win 2).blk t).view.emb j 2)
    rw [emb2, hX]
    obtain ⟨a, b, q, rfl⟩ : ∃ a b q, j = ix3 a b q := ⟨_, _, _, eq_ix3 j⟩
    have ha : a = 0 := Subsingleton.elim (α := Fin 1) _ _
    have hb : b = 0 := Subsingleton.elim (α := Fin 1) _ _
    subst ha hb
    exact hR c t S h3 hS q) (launch m ρ)

end Cert.Proof.Mining

end
-- ==== Proof.TopK.lean ====
/- The sum of the `k` greatest entries, from a threshold; and the search that finds the threshold by going down the distinct values. -/
module

public import Mathlib.Data.EReal.Operations
public import Mathlib.Algebra.BigOperators.Group.Finset.Basic
public import Mathlib.Order.Interval.Finset.Fin
public import Mathlib.Algebra.Order.BigOperators.Group.Finset
public import Mathlib.Tactic.Ring
public import Mathlib.Order.Fin.Basic

@[expose] public section

namespace Cert.Proof.TopK

/-! ## The search -/

section Search

variable {ι : Type} [Fintype ι] (v : ι → EReal) (k : ℕ)

/-- The entries at least `t`, and those above it, counted. -/
noncomputable def atLeast (t : EReal) : ℕ := (Finset.univ.filter fun i => t ≤ v i).card
noncomputable def above (t : EReal) : ℕ := (Finset.univ.filter fun i => t < v i).card
/-- The greatest entry below `t`. -/
noncomputable def below (t : EReal) : EReal := Finset.univ.sup fun i => if v i < t then v i else ⊥
/-- One step of the search. -/
noncomputable def step (t : EReal) : EReal := if k ≤ atLeast v t then t else below v t

theorem le_below {t : EReal} {i : ι} (h : v i < t) : v i ≤ below v t := by
  have := Finset.le_sup (f := fun i => if v i < t then v i else ⊥) (Finset.mem_univ i)
  rwa [if_pos h] at this

theorem below_le {t : EReal} (i : ι) (h : v i < t) : ∃ j, v j = below v t ∧ v j < t := by
  classical
  obtain ⟨j, -, hj⟩ := Finset.exists_mem_eq_sup Finset.univ ⟨i, Finset.mem_univ i⟩ (fun i => if v i < t then v i else ⊥)
  by_cases hjt : v j < t
  · exact ⟨j, by unfold below; rw [hj, if_pos hjt], hjt⟩
  · have hb : below v t = ⊥ := by unfold below; rw [hj, if_neg hjt]
    have := le_below v h
    rw [hb] at this
    exact ⟨i, by rw [hb]; exact le_bot_iff.1 this, h⟩

theorem above_step (t : EReal) (h : above v t ≤ k) : above v (step v k t) ≤ k := by
  unfold step
  split_ifs with hk
  · exact h
  refine le_trans (Finset.card_le_card fun i hi => ?_) (not_le.1 hk).le
  simp only [Finset.mem_filter, Finset.mem_univ, true_and] at hi ⊢
  by_contra hc
  exact absurd (le_below v (not_le.1 hc)) (not_le.2 hi)

theorem atLeast_step (hN : k ≤ Fintype.card ι) (n : ℕ) (t : EReal) (h : k ≤ atLeast v t ∨ n ≤ atLeast v t) :
    k ≤ atLeast v (step v k t) ∨ n + 1 ≤ atLeast v (step v k t) := by
  unfold step
  split_ifs with hk
  · exact .inl hk
  right
  have hn := h.resolve_left hk
  have : ∃ i, v i < t := by
    by_contra hc
    push Not at hc
    apply hk
    rw [atLeast, Finset.filter_true_of_mem fun i _ => hc i]
    exact hN
  obtain ⟨i, hi⟩ := this
  obtain ⟨j, hj, hjt⟩ := below_le v i hi
  refine Nat.succ_le_of_lt (lt_of_le_of_lt hn (Finset.card_lt_card ?_))
  refine Finset.ssubset_iff_subset_ne.2 ⟨fun l hl => ?_, fun e => ?_⟩
  · simp only [Finset.mem_filter, Finset.mem_univ, true_and] at hl ⊢
    rw [← hj]; exact hjt.le.trans hl
  · have hm : j ∈ Finset.univ.filter fun l => below v t ≤ v l := by simp [hj]
    rw [← e] at hm
    simp only [Finset.mem_filter, Finset.mem_univ, true_and] at hm
    exact absurd hm (not_le.2 hjt)

/-- The search, done as often as there are entries, ends at a threshold with at most `k` entries above it and at least `k` not below. -/
theorem search (hN : k ≤ Fintype.card ι) (n : ℕ) :
    above v ((step v k)^[n] ⊤) ≤ k ∧ (k ≤ atLeast v ((step v k)^[n] ⊤) ∨ n ≤ atLeast v ((step v k)^[n] ⊤)) := by
  induction n with
  | zero => exact ⟨by simp [above], .inr (Nat.zero_le _)⟩
  | succ n ih => rw [Function.iterate_succ_apply']; exact ⟨above_step v k _ ih.1, atLeast_step v k hN n _ ih.2⟩

end Search

/-! ## The sum -/

section Sum

variable {n : ℕ} (g : Fin n → EReal) (hg : Monotone g) (τ : EReal) (k : ℕ)

include hg in
/-- Of an ascending sequence, the last `k` sum to those above the threshold and the threshold for the rest. -/
theorem sum_last (hk : k ≤ n) (h1 : above g τ ≤ k) (h2 : k ≤ atLeast g τ) :
    (∑ i, if n - k ≤ i.val then g i else 0) = (∑ i, if τ < g i then g i else 0) + (k - above g τ) • τ := by
  classical
  have a : ∀ i, τ < g i → n - k ≤ i.val := fun i hi => by
    have : n - i.val ≤ above g τ := by
      rw [← Fin.card_Ici]
      refine Finset.card_le_card fun j hj => ?_
      simp only [Finset.mem_filter, Finset.mem_univ, true_and]
      exact hi.trans_le (hg (Finset.mem_Ici.1 hj))
    omega
  have b : ∀ i : Fin n, n - k ≤ i.val → τ ≤ g i := fun i hi => by
    by_contra hc
    rw [not_le] at hc
    have : atLeast g τ ≤ n - 1 - i.val := by
      rw [← Fin.card_Ioi]
      refine Finset.card_le_card fun j hj => ?_
      simp only [Finset.mem_filter, Finset.mem_univ, true_and] at hj
      rw [Finset.mem_Ioi]
      by_contra hji
      exact absurd (hj.trans (hg (not_lt.1 hji))) (not_le.2 hc)
    have := i.isLt
    omega
  have hs : ∀ i, (if n - k ≤ i.val then g i else 0) = (if τ < g i then g i else 0) + (if n - k ≤ i.val ∧ ¬ τ < g i then τ else 0) := fun i => by
    by_cases h : τ < g i
    · simp [h, a i h]
    · by_cases h' : n - k ≤ i.val
      · simp only [h, h', if_true, if_false, and_self, not_false_eq_true, zero_add]
        exact le_antisymm (not_lt.1 h) (b i h')
      · simp [h, h']
  rw [Finset.sum_congr rfl fun i _ => hs i, Finset.sum_add_distrib]
  congr 1
  rw [← Finset.sum_filter, Finset.sum_const]
  congr 1
  have hcard : (Finset.univ.filter fun i : Fin n => n - k ≤ i.val).card = k := by
    by_cases h0 : k = 0
    · subst h0; simp
    have : (Finset.univ.filter fun i : Fin n => n - k ≤ i.val) = Finset.Ici (⟨n - k, by omega⟩ : Fin n) := by
      ext i; simp [Fin.le_def]
    rw [this, Fin.card_Ici]; simp only; omega
  have hsplit := Finset.card_filter_add_card_filter_not (s := Finset.univ.filter fun i : Fin n => n - k ≤ i.val) (fun i => τ < g i)
  rw [Finset.filter_filter, Finset.filter_filter, hcard] at hsplit
  have : (Finset.univ.filter fun i : Fin n => n - k ≤ i.val ∧ τ < g i) = Finset.univ.filter fun i => τ < g i := by
    ext i; simp only [Finset.mem_filter, Finset.mem_univ, true_and]; exact ⟨And.right, fun h => ⟨a i h, h⟩⟩
  rw [this] at hsplit
  unfold above
  omega

end Sum

section Lanes

variable {ι : Type} [Fintype ι] {n : ℕ} (v : ι → EReal) (f : Fin n → EReal) (e : Fin n → ι) (he : Function.Injective e) (hv : ∀ i, v (e i) = f i)
  (hz : ∀ x, x ∉ Set.range e → v x = 0) (g : Fin n → EReal) (hg : Monotone g) (σ : Equiv.Perm (Fin n)) (hσ : ∀ i, g i = f (σ i)) (hf : ∀ i, 0 ≤ f i)

include he hv hz in
theorem sum_lanes (u : EReal → EReal) (hu : u 0 = 0) : (∑ x, u (v x)) = ∑ i, u (f i) :=
  (Fintype.sum_of_injective e he _ _ (fun x hx => by rw [hz x hx, hu]) fun i => by rw [hv i]).symm

include he hv hz hg hσ hf in
/-- The sum of the `k` greatest among the lanes is that among the entries: a lane beside them holds zero. -/
theorem lanes (τ : EReal) (k : ℕ) (hk : k ≤ n) (hn : k < Fintype.card ι) (h1 : above v τ ≤ k) (h2 : k ≤ atLeast v τ) :
    (∑ x, if τ < v x then v x else 0) + (k - above v τ) • τ = ∑ i, if n - k ≤ i.val then g i else 0 := by
  classical
  have hv0 : ∀ x, 0 ≤ v x := fun x => by
    by_cases hx : x ∈ Set.range e
    · obtain ⟨i, rfl⟩ := hx; rw [hv]; exact hf i
    · rw [hz x hx]
  have hτ : 0 ≤ τ := by
    by_contra hc
    rw [above, Finset.filter_true_of_mem fun x _ => (not_le.1 hc).trans_le (hv0 x)] at h1
    exact absurd h1 (not_le.2 hn)
  have hab : above v τ = above g τ := by
    unfold above
    rw [Finset.card_eq_sum_ones, Finset.sum_filter, Finset.card_eq_sum_ones, Finset.sum_filter, show (∑ i, if τ < g i then 1 else 0) = ∑ i, if τ < f i then 1 else 0 from
      (Finset.sum_congr rfl fun i _ => by rw [hσ i]).trans (Equiv.sum_comp σ fun i => if τ < f i then 1 else 0)]
    exact (Fintype.sum_of_injective e he _ _ (fun x hx => by rw [hz x hx, if_neg (not_lt.2 hτ)]) fun i => by rw [hv i]).symm
  have hat : k ≤ atLeast g τ := by
    have hat' : atLeast g τ = atLeast f τ := by
      unfold atLeast
      rw [Finset.card_eq_sum_ones, Finset.sum_filter, Finset.card_eq_sum_ones, Finset.sum_filter, ← Equiv.sum_comp σ (fun i => if τ ≤ f i then 1 else 0)]
      exact Finset.sum_congr rfl fun i _ => by rw [hσ i]
    rw [hat']
    by_cases h0 : τ = 0
    · subst h0
      rw [atLeast, Finset.filter_true_of_mem fun i _ => hf i, Finset.card_univ, Fintype.card_fin]; exact hk
    · refine h2.trans (le_of_eq ?_)
      unfold atLeast
      rw [Finset.card_eq_sum_ones, Finset.sum_filter, Finset.card_eq_sum_ones, Finset.sum_filter]
      exact (Fintype.sum_of_injective e he _ _ (fun x hx => by rw [hz x hx, if_neg (not_le.2 (lt_of_le_of_ne hτ (Ne.symm h0)))]) fun i => by rw [hv i]).symm
  have hsum : (∑ x, if τ < v x then v x else 0) = ∑ i, if τ < g i then g i else 0 := by
    rw [sum_lanes v f e he hv hz (fun y => if τ < y then y else 0) (by simp), ← Equiv.sum_comp σ]
    exact Finset.sum_congr rfl fun i _ => by rw [hσ i]
  rw [sum_last g hg τ k hk (hab ▸ h1) hat, hsum, hab]

end Lanes

end Cert.Proof.TopK

end
-- ==== Proof.ClassSpec.lean ====
/- The classification loss of one image, in plain terms: what both programs of the second call are read as. -/
module

public import proofs.«01_k».proof.Proof.TopK
public import Idealize.ShloMosaic.PureOps.Ideal.Laws
public import Idealize.ShloMosaic.Lib.WordSum

@[expose] public section

noncomputable section

namespace Cert.Proof.ClassSpec

open Idealize.ShloMosaic

/-! ## The loss -/

/-- The greatest score of a prior. -/
def mx (x : Fin 81 → EReal) : EReal := Finset.fold max (Ideal.ofBits .f32 4286578688#32) x Finset.univ
/-- The sum of the exponentials of its scores, each less the greatest. -/
def sm (x : Fin 81 → EReal) : EReal := ∑ i, Ideal.exp (x i - mx x)
/-- Its score at a class. -/
def tg (x : Fin 81 → EReal) (t : BitVec 32) : EReal := ∑ i : Fin 81, if t = BitVec.ofNat 32 i.val then x i else 0
/-- Its cross entropy. -/
def ce (x : Fin 81 → EReal) (t : BitVec 32) : EReal := Ideal.log (sm x) + mx x - tg x t
/-- A class that is not the background's. -/
abbrev pos (t : BitVec 32) : Prop := (0#32).slt t = true

variable (X : Fin 24564 → Fin 81 → EReal) (T : Fin 24564 → BitVec 32)

/-- How many priors have such a class. -/
def npos : ℕ := (Finset.univ.filter fun q => pos (T q)).card
/-- How many of the others count. -/
def quota : ℕ := min (3 * npos T) 24563
/-- What a prior may be mined for. -/
def entry (q : Fin 24564) : EReal := if pos (T q) then 0 else ce (X q) (T q)
/-- A lane of an image's result, `g` the entries in ascending order. -/
def out (g : Fin 24564 → EReal) (j : Fin 128) : EReal :=
  if j.val = 0 then (∑ q, if pos (T q) then ce (X q) (T q) else 0) + ∑ q : Fin 24564, if 24564 - quota T ≤ q.val then g q else 0
  else if j.val = 1 then ((npos T : ℝ) : EReal) else 0

theorem npos_le : npos T ≤ 24564 := by
  have := Finset.card_filter_le (Finset.univ : Finset (Fin 24564)) fun q => pos (T q)
  rwa [Finset.card_univ, Fintype.card_fin] at this

/-! ## Words -/

theorem lowest : Ideal.ofBits .f32 4286578688#32 = (⊥ : EReal) := by
  simp [Ideal.ofBits, Ideal.ieee]
theorem greatest : Ideal.ofBits .f32 0x7F800000#32 = (⊤ : EReal) := by
  simp [Ideal.ofBits, Ideal.ieee]

theorem sel {α : Type} (p : Bool) (a b : α) : Scalar.select (BitVec.ofBool p) a b = if p = true then a else b := by
  cases p <;> rfl

theorem sel_andNot {α : Type} (p q : Bool) (a b : α) :
    Scalar.select (IntOp.andi (BitVec.ofBool p) (IntOp.xori (BitVec.ofBool q) 1#1)) a b = if p = true ∧ ¬ q = true then a else b := by
  cases p <;> cases q <;> rfl

/-- One or zero as a bit says that one of two conditions holds. -/
theorem one_of (p : Bool) (k : Prop) [Decidable k] :
    FloatOps.uitofp (F := Ideal) FTy.f32 (IntOp.ori (BitVec.ofBool p) (BitVec.ofBool (decide k))) = (if p = true ∨ k then 1 else 0 : EReal) := by
  show (((IntOp.ori (BitVec.ofBool p) (BitVec.ofBool (decide k))).toNat : ℝ) : EReal) = _
  by_cases h : k <;> cases p <;> simp [h, IntOp.ori]

/-- The comparison of two words that are small. -/
theorem sge (a b : BitVec 32) (ha : a.toNat < 2 ^ 31) (hb : b.toNat < 2 ^ 31) : IntOp.cmpi .sge a b = BitVec.ofBool (decide (b.toNat ≤ a.toNat)) := by
  show BitVec.ofBool (b.sle a) = _
  rw [BitVec.sle_eq_decide, BitVec.toInt_eq_toNat_of_lt (by omega), BitVec.toInt_eq_toNat_of_lt (by omega)]
  exact congrArg BitVec.ofBool (decide_eq_decide.2 Int.ofNat_le)

/-- A number below `2 ^ 32` as a word. -/
theorem eq_word (n k : ℕ) (hn : n < 2 ^ 32) (hk : k < 2 ^ 32) : IntOp.cmpi .eq (BitVec.ofNat 32 n) (BitVec.ofNat 32 k) = BitVec.ofBool (decide (n = k)) := by
  show BitVec.ofBool (BitVec.ofNat 32 n == BitVec.ofNat 32 k) = _
  refine congrArg BitVec.ofBool ((Bool.beq_eq_decide_eq _ _).trans (decide_eq_decide.2 ⟨fun e => ?_, fun e => by rw [e]⟩))
  have := congrArg BitVec.toNat e
  simp only [BitVec.toNat_ofNat] at this
  omega

/-- A count in words is the count. -/
theorem count {ι : Type} [Fintype ι] (p : ι → Bool) (h : Fintype.card ι < 2 ^ 32) :
    (Finset.fold IntOp.addi 0#32 (fun x => BitVec.setWidth 32 (BitVec.ofBool (p x))) Finset.univ).toNat = (Finset.univ.filter fun x => p x = true).card := by
  have e : ∀ x, (BitVec.setWidth 32 (BitVec.ofBool (p x))).toNat = if p x = true then 1 else 0 := fun x => by cases p x <;> rfl
  have hc : ∑ x, (BitVec.setWidth 32 (BitVec.ofBool (p x))).toNat = (Finset.univ.filter fun x => p x = true).card := by
    rw [Finset.card_eq_sum_ones, Finset.sum_filter]
    exact Finset.sum_congr rfl fun x _ => e x
  have hle := Finset.card_filter_le (Finset.univ : Finset ι) fun x => p x = true
  rw [← hc]
  exact WordSum.toNat_sum Finset.univ _ (by rw [hc]; exact lt_of_le_of_lt hle h)

/-- Three times a count, at most `24563`. -/
theorem quota_word (n : BitVec 32) (h : n.toNat ≤ 24564) : (IntOp.minsi (IntOp.muli 3#32 n) 24563#32).toNat = min (3 * n.toNat) 24563 := by
  have e : (IntOp.muli 3#32 n).toNat = 3 * n.toNat := by
    show (3#32 * n).toNat = _
    rw [BitVec.toNat_mul]
    show 3 * n.toNat % 2 ^ 32 = _
    omega
  unfold IntOp.minsi
  rw [BitVec.slt_eq_decide, BitVec.toInt_eq_toNat_of_lt (by omega), e]
  show (if decide (((3 * n.toNat : ℕ) : ℤ) < 24563) = true then _ else _ : BitVec 32).toNat = _
  by_cases hd : ((3 * n.toNat : ℕ) : ℤ) < 24563
  · rw [if_pos (decide_eq_true hd), e]; omega
  · rw [if_neg (by simpa using hd)]; show 24563 = _; omega

theorem toInt_small (n : BitVec 32) (h : n.toNat < 2 ^ 31) : ((n.toInt : ℝ) : EReal) = ((n.toNat : ℝ) : EReal) := by
  rw [BitVec.toInt_eq_toNat_of_lt (by omega), Int.cast_natCast]

/-! ## A cross entropy is not negative -/

theorem le_mx (x : Fin 81 → EReal) (i : Fin 81) : x i ≤ mx x := by
  unfold mx
  rw [Finset.le_fold_max]
  exact .inr ⟨i, Finset.mem_univ i, le_rfl⟩

theorem mx_mem (x : Fin 81 → EReal) : ∃ i, mx x = x i := by
  have e : mx x = Finset.univ.sup x := by
    unfold mx
    rw [show Ideal.ofBits .f32 4286578688#32 = (⊥ : EReal) from lowest]
    rfl
  obtain ⟨i, -, hi⟩ := Finset.exists_mem_eq_sup (Finset.univ : Finset (Fin 81)) ⟨0, Finset.mem_univ 0⟩ x
  exact ⟨i, e.trans hi⟩

theorem tg_eq (x : Fin 81 → EReal) (t : BitVec 32) (k : Fin 81) (h : t = BitVec.ofNat 32 k.val) : tg x t = x k := by
  subst h
  unfold tg
  rw [Finset.sum_eq_single k]
  · exact if_pos rfl
  · intro b _ hb
    refine if_neg fun e => hb (Fin.ext ?_)
    have := congrArg BitVec.toNat e
    simp only [BitVec.toNat_ofNat] at this
    omega
  · exact fun hk => absurd (Finset.mem_univ k) hk

theorem exp_nonneg (x : EReal) : 0 ≤ Ideal.exp x := by
  induction x with
  | bot => exact le_rfl
  | top => exact le_top
  | coe r => exact EReal.coe_nonneg.2 (Real.exp_pos r).le

theorem log_nonneg (x : EReal) (h : 1 ≤ x) : 0 ≤ Ideal.log x := by
  induction x with
  | bot => exact absurd (le_bot_iff.1 h) (EReal.coe_ne_bot 1)
  | top => exact le_top
  | coe r =>
    have hr : (1 : ℝ) ≤ r := by exact_mod_cast h
    show 0 ≤ if r ≤ 0 then (⊥ : EReal) else (Real.log r : EReal)
    rw [if_neg (by linarith)]
    exact EReal.coe_nonneg.2 (Real.log_nonneg hr)

/-- Of real scores and a class among theirs. -/
theorem ce_nonneg (x : Fin 81 → EReal) (hx : ∀ i, x i ≠ ⊥ ∧ x i ≠ ⊤) (t : BitVec 32) (k : Fin 81) (h : t = BitVec.ofNat 32 k.val) : 0 ≤ ce x t := by
  obtain ⟨i, hi⟩ := mx_mem x
  have h1 : 1 ≤ sm x := by
    refine le_trans ?_ (Finset.single_le_sum (f := fun i => Ideal.exp (x i - mx x)) (fun j _ => exp_nonneg _) (Finset.mem_univ i))
    show 1 ≤ Ideal.exp (x i - mx x)
    rw [hi, EReal.sub_self (hx i).2 (hx i).1]
    show (1 : EReal) ≤ ((Real.exp 0 : ℝ) : EReal)
    rw [Real.exp_zero]; exact le_rfl
  unfold ce
  rw [tg_eq x t k h, EReal.sub_nonneg (.inr (hx k).2) (.inr (hx k).1)]
  exact le_trans (le_mx x k) (le_add_of_nonneg_left (log_nonneg _ h1))

/-- The greatest of finitely many numbers is a number. -/
theorem fold_real {ι : Type} [Fintype ι] (f : ι → EReal) (h : ∀ i, f i ≠ ⊥ ∧ f i ≠ ⊤) (i : ι) : ∃ M : ℝ, Finset.fold max (⊥ : EReal) f Finset.univ = (M : EReal) := by
  have hb : Finset.fold max (⊥ : EReal) f Finset.univ ≠ ⊥ := fun e =>
    (h i).1 (le_bot_iff.1 (le_trans ((Finset.le_fold_max (f i)).2 (.inr ⟨i, Finset.mem_univ i, le_rfl⟩)) e.le))
  have ht : Finset.fold max (⊥ : EReal) f Finset.univ < ⊤ := (Finset.fold_max_lt ⊤).2 ⟨bot_lt_top, fun k _ => lt_top_iff_ne_top.2 (h k).2⟩
  exact ⟨_, (EReal.coe_toReal ht.ne hb).symm⟩

/-- The logarithm of the sum is the same, whatever number the scores are taken less. -/
theorem lse_real (r : Fin 81 → ℝ) (M : ℝ) : Ideal.log (∑ i, Ideal.exp ((r i : EReal) - (M : EReal))) + (M : EReal) = ((Real.log (∑ i, Real.exp (r i)) : ℝ) : EReal) := by
  have hp : 0 < ∑ i, Real.exp (r i - M) := Finset.sum_pos (fun i _ => Real.exp_pos _) Finset.univ_nonempty
  have hs : (∑ i, Ideal.exp ((r i : EReal) - (M : EReal))) = ((∑ i, Real.exp (r i - M) : ℝ) : EReal) := by
    exact (map_sum (⟨⟨Real.toEReal, EReal.coe_zero⟩, EReal.coe_add⟩ : ℝ →+ EReal) (fun i => Real.exp (r i - M)) Finset.univ).symm
  have hq : ∑ i, Real.exp (r i) = (∑ i, Real.exp (r i - M)) * Real.exp M := by
    rw [Finset.sum_mul]
    exact Finset.sum_congr rfl fun i _ => by rw [← Real.exp_add]; ring_nf
  rw [hs, hq, Real.log_mul hp.ne' (Real.exp_ne_zero M), Real.log_exp]
  show (if _ ≤ (0 : ℝ) then (⊥ : EReal) else ((Real.log _ : ℝ) : EReal)) + (M : EReal) = _
  rw [if_neg (not_le.2 hp), EReal.coe_add]

theorem lse_any (x : Fin 81 → EReal) (hx : ∀ i, x i ≠ ⊥ ∧ x i ≠ ⊤) (M : ℝ) : Ideal.log (∑ i, Ideal.exp (x i - (M : EReal))) + (M : EReal) = Ideal.log (sm x) + mx x := by
  obtain ⟨i, hi⟩ := mx_mem x
  obtain ⟨r, rfl⟩ : ∃ r : Fin 81 → ℝ, x = fun i => (r i : EReal) := ⟨fun i => (x i).toReal, funext fun i => (EReal.coe_toReal (hx i).2 (hx i).1).symm⟩
  unfold sm
  rw [hi, lse_real, lse_real]

end Cert.Proof.ClassSpec

end
-- ==== Proof.MiningVal.lean ====
/- What the last chunk of an image leaves, at the ideal values. -/
module

public import proofs.«01_k».proof.Proof.MiningRun
public import proofs.«01_k».proof.Proof.ClassSpec

@[expose] public section

set_option maxRecDepth 16384

noncomputable section

namespace Cert.Proof.Mining

open Cert.MiningIdeal Cert.MiningIdeal.Gen
open Idealize.ShloMosaic Idealize.ShloMosaic.TcCoe Idealize.ShloMosaic.Tactic

/-! ## A chunk's three rows -/

section Rows

variable (X : Vec Ideal S1x8192x81 .f32) (B : Vec Ideal S1x1x8192 .i8) (l : Fin 8192)

theorem pay1_max : k0_pay1 X B (ix2 0 l) = ClassSpec.mx fun x => X (ix3 0 l x) := by
  unfold k0_pay1
  pointwise
  rfl
theorem pay1_sum : k0_pay1 X B (ix2 1 l) = ClassSpec.sm fun x => X (ix3 0 l x) := by
  unfold k0_pay1
  pointwise
  rfl
theorem pay1_tgt : k0_pay1 X B (ix2 2 l) = ClassSpec.tg (fun x => X (ix3 0 l x)) (BitVec.signExtend 32 (B (ix3 0 0 l))) := by
  unfold k0_pay1
  pointwise
  refine Finset.sum_congr rfl fun x _ => ?_
  unfold IntOp.cmpi
  dsimp only
  rw [ClassSpec.sel]
  simp only [beq_iff_eq]
  simp only [eq_comm]

end Rows

/-! ## The last part -/

section Last

variable (A B D : Vec Ideal S6x8192 .f32) (C : Vec Ideal S1x6x8192 .i8)

/-- The class of a lane. -/
abbrev cls (x : Fin 6 × Fin 8192) : BitVec 32 := BitVec.signExtend 32 (C (ix3 0 x.1 x.2))
/-- What a lane may be mined for. -/
abbrev lane (x : Fin 6 × Fin 8192) : EReal := k0_pay18 (F := Ideal) A B D C (ix2 x.1 x.2)

theorem inside (r : Fin 6) (l : Fin 8192) :
    (IntOp.addi (IntOp.muli (BitVec.ofNat 32 r.val) 8192#32) (BitVec.ofNat 32 l.val)).slt 24564#32 = decide (r.val * 8192 + l.val < 24564) := by
  have hr := r.isLt
  have hl := l.isLt
  have e : (IntOp.addi (IntOp.muli (BitVec.ofNat 32 r.val) 8192#32) (BitVec.ofNat 32 l.val)).toNat = r.val * 8192 + l.val := by
    show (BitVec.ofNat 32 r.val * 8192#32 + BitVec.ofNat 32 l.val).toNat = _
    simp only [BitVec.toNat_add, BitVec.toNat_mul, BitVec.toNat_ofNat]
    omega
  rw [BitVec.slt_eq_decide, BitVec.toInt_eq_toNat_of_lt (by omega), e]
  show decide (((r.val * 8192 + l.val : ℕ) : ℤ) < 24564) = _
  exact decide_eq_decide.2 (by omega)

theorem pay17 : (extractAt ![0, 0, 0] (k0_pay17 (F := Ideal) C) inpos_S1x1x1_p0_0_0).toNat
    = (Finset.univ.filter fun x => ClassSpec.pos (cls C x)).card := by
  refine Eq.trans (congrArg BitVec.toNat (?_ : _ = Finset.fold IntOp.addi 0#32 (fun x : Fin 6 × Fin 8192 => BitVec.setWidth 32 (BitVec.ofBool ((0#32).slt (cls C x)))) Finset.univ)) (ClassSpec.count _ (by simp))
  unfold k0_pay17 k0_pay15
  pointwise
  rfl
theorem pay18 (r : Fin 6) (l : Fin 8192) : lane A B D C (r, l)
    = if r.val * 8192 + l.val < 24564 ∧ ¬ ClassSpec.pos (cls C (r, l)) then Ideal.log (B (ix2 r l)) + A (ix2 r l) - D (ix2 r l) else 0 := by
  unfold lane k0_pay18 k0_pay14 k0_pay15
  pointwise
  unfold IntOp.cmpi
  dsimp only
  rw [inside, ClassSpec.sel_andNot]
  simp only [decide_eq_true_eq]
theorem pay16 : k0_pay16 (F := Ideal) A B D C
    = ∑ x : Fin 6 × Fin 8192, if ClassSpec.pos (cls C x) then Ideal.log (B (ix2 x.1 x.2)) + A (ix2 x.1 x.2) - D (ix2 x.1 x.2) else 0 := by
  unfold k0_pay16 k0_pay14 k0_pay15
  pointwise
  rw [Fintype.sum_prod_type]
  refine Finset.sum_congr rfl fun r _ => Finset.sum_congr rfl fun l _ => ?_
  unfold IntOp.cmpi
  dsimp only
  rw [ClassSpec.sel]
/-- How many lanes have a class that counts, and how many of the others are mined. -/
abbrev many : ℕ := (Finset.univ.filter fun x => ClassSpec.pos (cls C x)).card
abbrev want : ℕ := min (3 * many C) 24563

theorem pay19 (hC : many C ≤ 24564) (t : Ideal .f32) : k0_pay19 (F := Ideal) A B D C t = TopK.step (lane A B D C) (want C) t := by
  unfold k0_pay19
  pointwise
  have h17 : (k0_pay17 (F := Ideal) C (ix3 0 0 0)).toNat = many C := pay17 C
  have hq := ClassSpec.quota_word (k0_pay17 (F := Ideal) C (ix3 0 0 0)) (h17.trans_le hC)
  have hc := ClassSpec.count (fun x : Fin 6 × Fin 8192 => decide (t ≤ lane A B D C x)) (by simp)
  have hle := Finset.card_filter_le (Finset.univ : Finset (Fin 6 × Fin 8192)) fun x => decide (t ≤ lane A B D C x) = true
  rw [Finset.card_univ, show Fintype.card (Fin 6 × Fin 8192) = 49152 by simp] at hle
  generalize hw : IntOp.minsi (IntOp.muli 3#32 (k0_pay17 (F := Ideal) C (ix3 0 0 0))) 24563#32 = w at hq
  show Scalar.select (IntOp.cmpi .sge _ (IntOp.minsi (IntOp.muli 3#32 (k0_pay17 (F := Ideal) C (ix3 0 0 0))) 24563#32)) _ _ = _
  rw [hw]
  generalize hn : Finset.fold IntOp.addi 0#32 (fun x => BitVec.setWidth 32 (BitVec.ofBool (decide (t ≤ lane A B D C x)))) Finset.univ = n at hc
  rw [ClassSpec.sge n w (by rw [hc]; omega) (by rw [hq]; omega), ClassSpec.sel]
  simp only [decide_eq_true_eq, hc, hq, h17, ClassSpec.lowest]
  rfl
theorem pay13 (p : Ideal .f32) (n k : BitVec 32) (v : Vec Ideal S6x8192 .f32) (t : Ideal .f32) (j : Fin 128) : k0_pay13 (F := Ideal) p n k v t (ix3 0 0 j)
    = if j.val = 0 then p + ((∑ x : Fin 6 × Fin 8192, if t < v (ix2 x.1 x.2) then v (ix2 x.1 x.2) else 0)
        + (((k - Finset.fold IntOp.addi 0#32 (fun x : Fin 6 × Fin 8192 => BitVec.setWidth 32 (BitVec.ofBool (decide (t < v (ix2 x.1 x.2))))) Finset.univ).toInt : ℝ) : EReal) * t)
      else if j.val = 1 then ((n.toInt : ℝ) : EReal) else 0 := by
  unfold k0_pay13
  pointwise
  rw [Fintype.sum_prod_type, ClassSpec.eq_word _ 0 (by omega) (by omega), ClassSpec.eq_word _ 1 (by omega) (by omega), ClassSpec.sel, ClassSpec.sel]
  simp only [decide_eq_true_eq]
  rfl

theorem iter_foldl {α : Type} (s : α → α) {n : ℕ} (l : List (Fin n)) (a : α) : l.foldl (fun x _ => s x) a = s^[l.length] a := by
  induction l generalizing a with
  | nil => rfl
  | cons _ l ih => exact ih (s a)

/-- The loop finds the threshold. -/
theorem searched (hC : many C ≤ 24564) : Scf.fold (fun (_ : Fin k0_t1_loop.trips) x => k0_pay19 (F := Ideal) A B D C x) (Scalar.ofBits .f32 0x7F800000#32)
    = (TopK.step (lane A B D C) (want C))^[49152] ⊤ := by
  rw [Scf.fold_eq]
  simp only [pay19 A B D C hC]
  rw [iter_foldl, List.length_finRange, show k0_t1_loop.trips = 49152 from by decide +kernel]
  exact congrArg _ ClassSpec.greatest

/-- The lane of a prior. -/
def at_ (q : Fin 24564) : Fin 6 × Fin 8192 := (⟨q.val / 8192, by omega⟩, ⟨q.val % 8192, by omega⟩)
theorem at_injective : Function.Injective at_ := fun a b h => by
  have h1 := congrArg (fun x => x.1.val) h
  have h2 := congrArg (fun x => x.2.val) h
  simp only [at_] at h1 h2
  exact Fin.ext (by omega)
theorem at_range (x : Fin 6 × Fin 8192) (h : x ∉ Set.range at_) : ¬ x.1.val * 8192 + x.2.val < 24564 := fun hx =>
  h ⟨⟨x.1.val * 8192 + x.2.val, hx⟩, Prod.ext (Fin.ext (by simp only [at_]; omega)) (Fin.ext (by simp only [at_]; omega))⟩

variable (X : Fin 24564 → Fin 81 → EReal) (T : Fin 24564 → BitVec 32)

/-- A lane's class is its prior's, and the background's where no prior is. -/
def Classed : Prop := (∀ q, cls C (at_ q) = T q) ∧ ∀ x, ¬ x.1.val * 8192 + x.2.val < 24564 → cls C x = 0#32
/-- The three rows hold each prior's greatest score, its sum of exponentials and the score at its class. -/
def Scored : Prop := ∀ q, A (ix2 (at_ q).1 (at_ q).2) = ClassSpec.mx (X q) ∧ B (ix2 (at_ q).1 (at_ q).2) = ClassSpec.sm (X q)
  ∧ D (ix2 (at_ q).1 (at_ q).2) = ClassSpec.tg (X q) (T q)

variable {A B D C X T} (hC : Classed C T) (hS : Scored A B D X T)

include hC in
theorem many_eq : many C = ClassSpec.npos T := by
  unfold many ClassSpec.npos
  rw [Finset.card_eq_sum_ones, Finset.sum_filter, Finset.card_eq_sum_ones, Finset.sum_filter]
  refine (Fintype.sum_of_injective at_ at_injective _ _ (fun x hx => ?_) fun q => ?_).symm
  · rw [hC.2 x (at_range x hx)]; exact if_neg (by decide)
  · rw [hC.1 q]

include hC hS in
theorem pay16_eq : k0_pay16 (F := Ideal) A B D C = ∑ q, if ClassSpec.pos (T q) then ClassSpec.ce (X q) (T q) else 0 := by
  rw [pay16]
  refine (Fintype.sum_of_injective at_ at_injective _ _ (fun x hx => ?_) fun q => ?_).symm
  · rw [hC.2 x (at_range x hx)]; exact if_neg (by decide)
  · obtain ⟨ha, hb, hd⟩ := hS q
    rw [hC.1 q, ha, hb, hd]; rfl

include hC hS in
theorem lane_at (q : Fin 24564) : lane A B D C (at_ q) = ClassSpec.entry X T q := by
  obtain ⟨ha, hb, hd⟩ := hS q
  have hq : (at_ q).1.val * 8192 + (at_ q).2.val < 24564 := by simp only [at_]; omega
  rw [show at_ q = ((at_ q).1, (at_ q).2) from rfl, pay18, ha, hb, hd]
  unfold ClassSpec.entry
  have hc : cls C ((at_ q).1, (at_ q).2) = T q := hC.1 q
  rw [hc]
  by_cases hp : ClassSpec.pos (T q)
  · rw [if_neg fun e => e.2 hp, if_pos hp]
  · rw [if_pos ⟨hq, hp⟩, if_neg hp]; rfl

theorem lane_off (x : Fin 6 × Fin 8192) (hx : x ∉ Set.range at_) : lane A B D C x = 0 := by
  rw [show x = (x.1, x.2) from rfl, pay18, if_neg fun e => at_range x hx e.1]

/-- The block that the last part leaves. -/
abbrev last (A B D : Vec Ideal S6x8192 .f32) (C : Vec Ideal S1x6x8192 .i8) : Vec Ideal S1x1x128 .f32 :=
  k0_pay13 (k0_pay16 A B D C) (extractAt ![0, 0, 0] (k0_pay17 (F := Ideal) C) inpos_S1x1x1_p0_0_0)
    (Scalar.minsi (Scalar.muli 3#32 (extractAt ![0, 0, 0] (k0_pay17 (F := Ideal) C) inpos_S1x1x1_p0_0_0)) 24563#32) (k0_pay18 A B D C)
    (Scf.fold (fun (_ : Fin k0_t1_loop.trips) x => k0_pay19 A B D C x) (Scalar.ofBits .f32 0x7F800000#32))

include hC hS in
theorem last_eq (hce : ∀ q, 0 ≤ ClassSpec.ce (X q) (T q)) (g : Fin 24564 → EReal) (hg : Monotone g) (σ : Equiv.Perm (Fin 24564))
    (hσ : ∀ q, g q = ClassSpec.entry X T (σ q)) (j : Fin 128) : last A B D C (ix3 0 0 j) = ClassSpec.out X T g j := by
  have hn := ClassSpec.npos_le T
  have hm := many_eq hC
  have h17 := (pay17 C).trans hm
  have hw : want C = ClassSpec.quota T := by unfold want ClassSpec.quota; rw [hm]
  have hk := ClassSpec.quota_word _ (h17.trans_le hn)
  rw [h17] at hk
  unfold last
  rw [pay13, searched A B D C (hm.trans_le hn), pay16_eq hC hS, hw]
  have hle : ClassSpec.quota T ≤ 24563 := min_le_right _ _
  obtain ⟨h1, h2⟩ := TopK.search (lane A B D C) (ClassSpec.quota T) (by simp; omega) 49152
  generalize (TopK.step (lane A B D C) (ClassSpec.quota T))^[49152] ⊤ = τ at h1 h2 ⊢
  have h2 : ClassSpec.quota T ≤ TopK.atLeast (lane A B D C) τ := h2.elim id fun h => le_trans (by omega) h
  have key := TopK.lanes (lane A B D C) (ClassSpec.entry X T) at_ at_injective (lane_at hC hS) lane_off g hg σ hσ
    (fun q => by unfold ClassSpec.entry; split_ifs; exacts [le_rfl, hce q]) τ (ClassSpec.quota T) (by omega) (by simp; omega) h1 h2
  have hc := ClassSpec.count (fun x : Fin 6 × Fin 8192 => decide (τ < lane A B D C x)) (by simp)
  simp only [decide_eq_true_eq] at hc
  generalize Finset.fold IntOp.addi 0#32 (fun x : Fin 6 × Fin 8192 => BitVec.setWidth 32 (BitVec.ofBool (decide (τ < lane A B D C x)))) Finset.univ = w at hc ⊢
  generalize hv : extractAt ![0, 0, 0] (k0_pay17 (F := Ideal) C) inpos_S1x1x1_p0_0_0 = n at h17 hk ⊢
  generalize hu : IntOp.minsi (IntOp.muli 3#32 n) 24563#32 = u at hk
  unfold ClassSpec.out
  rw [ClassSpec.toInt_small n (by omega), h17, ← key]
  refine if_congr Iff.rfl (congrArg _ (congrArg _ ?_)) rfl
  have hab : w.toNat = TopK.above (lane A B D C) τ := hc
  have huw : w.toNat ≤ u.toNat := by rw [hk, hab]; exact h1
  have hd : (u - w).toNat = ClassSpec.quota T - TopK.above (lane A B D C) τ := by
    rw [BitVec.toNat_sub_of_le huw, hk, hab]; rfl
  show (((IntOp.minsi (IntOp.muli 3#32 n) 24563#32 - w).toInt : ℝ) : EReal) * τ = _
  rw [hu, ClassSpec.toInt_small _ (by rw [hd]; omega), hd, EReal.nsmul_eq_mul]
  rfl

end Last

end Cert.Proof.Mining

end
-- ==== Proof.ClassRef.lean ====
/- What the reference of the second call computes, at the ideal values. -/
module

public import proofs.«01_k».proof.Proof.Gen.ClassificationIdeal
public import proofs.«01_k».proof.Proof.Gen.ClassificationIdeal.Run
public import proofs.«01_k».proof.Proof.ClassSpec
public import Idealize.ShloMosaic.Lib.Pointwise
public import Idealize.ShloMosaic.Lib.ValueIdx
public import Idealize.ShloMosaic.Lib.SortFacts

@[expose] public section

set_option maxRecDepth 16384

noncomputable section

namespace Cert.Proof.ClassRef

open Cert.ClassificationIdeal
open Idealize.ShloMosaic Idealize.ShloMosaic.TcCoe Idealize.ShloMosaic.Tactic
open Idealize.SL.Sem

/-! ## The two sorts -/

/-- A key as the comparator reads it: itself. -/
def key (z : EReal) : EReal := Scalar.select (Ideal.cmp .une z z) (Ideal.ofBits .f32 0x7FC00000#32)
  (Scalar.select (Ideal.cmp .oeq z (Ideal.ofBits .f32 0x00000000#32)) (Ideal.ofBits .f32 0x00000000#32) z)
theorem key_eq (z : EReal) : key z = z := by
  unfold key Ideal.cmp
  dsimp only
  rw [ClassSpec.sel, ClassSpec.sel, if_neg (by simp)]
  split_ifs with h
  · exact (of_decide_eq_true h).symm
  · rfl
theorem before (x y : EReal × BitVec 32) : comparator_f32_i32_d1 (F := Ideal) x y = 1#1 ↔ x.1 < y.1 := by
  show Ideal.cmp .olt (key x.1) (key y.1) = 1#1 ↔ _
  rw [key_eq, key_eq]
  unfold Ideal.cmp
  by_cases h : x.1 < y.1 <;> simp [h]
theorem beforeI (x y : BitVec 32 × BitVec 32) : comparator_i32_i32_d1 x y = 1#1 ↔ x.1.toInt < y.1.toInt := by
  show BitVec.ofBool (x.1.slt y.1) = 1#1 ↔ _
  rw [BitVec.slt_eq_decide]
  by_cases h : x.1.toInt < y.1.toInt <;> simp [h]

/-- Sorting by a strict comparison of values: some permutation, ascending. -/
theorem sortedFrom_spec {α : Type} [LinearOrder α] {n : ℕ} (a : Fin n → α) (R : Fin n → Fin n → Bool) (hR : ∀ k k', R k k' = true ↔ a k < a k') :
    ∃ σ : Equiv.Perm (Fin n), (∀ q, sortedFrom R q = σ q) ∧ Monotone fun q => a (σ q) := by
  have hF : ∀ k k', R k k' = false ↔ a k' ≤ a k := fun k k' => by rw [← not_lt, ← hR, Bool.not_eq_true]
  refine ⟨Equiv.ofBijective _ ⟨sortedFrom_injective R, sortedFrom_surjective R⟩, fun _ => rfl, fun p q hpq => ?_⟩
  rcases hpq.lt_or_eq with h | rfl
  · exact (hF _ _).1 (sortedFrom_noInversion R R (fun a c h => (hF _ _).2 ((hR _ _).1 h).le) (fun _ _ h => h)
      (fun a c d h h' => (hF _ _).2 (((hF _ _).1 h').trans ((hF _ _).1 h))) p q h)
  · exact le_rfl

/-- Where the entries of each row stand when the row is sorted: some permutation, ascending. -/
theorem sorted {α κ : Type} [LinearOrder κ] (cmp : α × BitVec 32 → α × BitVec 32 → BitVec 1) (f : α → κ) (hc : ∀ u v, cmp u v = 1#1 ↔ f u.1 < f v.1)
    (A : S16x24564.Idx → α) (b : Fin 16) : ∃ σ : Equiv.Perm (Fin 24564),
    (∀ q, (Host.sort2 S16x24564 1 cmp A (iotaInDim S16x24564 32 1)).2 (ix2 b q) = BitVec.ofNat 32 (σ q).val)
      ∧ Monotone fun q => f (A (ix2 b (σ q))) := by
  have ha : ∀ q k : Fin 24564, Shape.Idx.along (s := S16x24564) (ix2 b q) (1 : Fin 2) k = ix2 b k := fun q k => by
    funext a; fin_cases a <;> rfl
  let R : Fin 24564 → Fin 24564 → Bool := fun k k' => cmp (A (ix2 b k), iotaInDim S16x24564 32 1 (ix2 b k)) (A (ix2 b k'), iotaInDim S16x24564 32 1 (ix2 b k')) == 1#1
  obtain ⟨σ, hσ, hm⟩ := sortedFrom_spec (fun k => f (A (ix2 b k))) R fun k k' => beq_iff_eq.trans (hc _ _)
  refine ⟨σ, fun q => ?_, hm⟩
  rw [← hσ]
  have hr : (fun k k' : Fin 24564 => cmp (A (Shape.Idx.along (s := S16x24564) (ix2 b q) (1 : Fin 2) k), iotaInDim S16x24564 32 1 (Shape.Idx.along (s := S16x24564) (ix2 b q) (1 : Fin 2) k))
      (A (Shape.Idx.along (s := S16x24564) (ix2 b q) (1 : Fin 2) k'), iotaInDim S16x24564 32 1 (Shape.Idx.along (s := S16x24564) (ix2 b q) (1 : Fin 2) k')) == 1#1) = R := by
    funext k k'
    rw [ha, ha]
  unfold Host.sort2
  rw [dif_pos (show 1 < S16x24564.rank by decide)]
  refine (congrArg (iotaInDim S16x24564 32 1) (ha q _)).trans ?_
  have hs := congrFun (congrArg sortedFrom hr) q
  exact congrArg (fun z : Fin 24564 => BitVec.ofNat 32 z.val) hs

/-- A permutation that ascends is the identity. -/
theorem ascending {n : ℕ} (σ τ : Equiv.Perm (Fin n)) (h : Monotone fun q => σ (τ q)) (q : Fin n) : τ q = σ.symm q := by
  have hs : StrictMono fun q => σ (τ q) := h.strictMono_of_injective (σ.injective.comp τ.injective)
  have e := (hs.range_inj strictMono_id).1 (by rw [Set.range_id]; exact (σ.surjective.comp τ.surjective).range_eq)
  rw [Equiv.eq_symm_apply]
  exact congrFun e q

/-! ## The readings -/

variable (x : FVec Ideal S16x24564x81 .f32) (y : IVec S16x192x128 32)

/-- An image's scores and its classes. -/
def scores (b : Fin 16) (q : Fin 24564) (k : Fin 81) : EReal := x (ix3 b q k)
def classes (b : Fin 16) (q : Fin 24564) : BitVec 32 := y (ix3 b ⟨q.val / 128, by omega⟩ ⟨q.val % 128, by omega⟩)

/-- The classes of the priors. -/
def cls : IVec S16x24564 32 := extractStridedSlice S16x24564 ![0, 0] (shapeCast _ y Gen.shapeCasts_S16x192x128_S16x24576) Gen.slices_S16x24576_S16x24564_0_0
theorem cls_at (b : Fin 16) (q : Fin 24564) : cls y (ix2 b q) = classes y b q := by
  unfold cls
  pointwise
  rfl

/-- The places that are looked up: a negative one counts from the end. -/
def place (t : IVec S16x24564 32) : IVec S16x24564x1x1 32 :=
  shapeCast _ (select (cmpi .slt (broadcastInDim S16x24564x1 ![0, 1] Gen.bcast_S16x24564_S16x24564x1_0_1 t) (broadcastInDim S16x24564x1 ![] Gen.bcast_S_S16x24564x1 (constantI S_ 32 0#32)))
    (addi (broadcastInDim S16x24564x1 ![0, 1] Gen.bcast_S16x24564_S16x24564x1_0_1 t) (broadcastInDim S16x24564x1 ![] Gen.bcast_S_S16x24564x1 (constantI S_ 32 81#32)))
    (broadcastInDim S16x24564x1 ![0, 1] Gen.bcast_S16x24564_S16x24564x1_0_1 t)) Gen.shapeCasts_S16x24564x1_S16x24564x1x1

/-- The scores looked up; outside the classes it would be no number. -/
def looked (t : IVec S16x24564 32) : FVec Ideal S16x24564 .f32 :=
  shapeCast _ (select (Host.reduce IntOp.andi (andi (cmpi .sge (place t) (broadcastInDim S16x24564x1x1 ![] Gen.bcast_S_S16x24564x1x1 (constantI S_ 32 0#32)))
      (cmpi .sle (place t) (broadcastInDim S16x24564x1x1 ![0, 1, 2, 3] Gen.bcast_S1x1x1x1_S16x24564x1x1_0_1_2_3 (broadcastInDim S1x1x1x1 ![3] Gen.bcast_S1_S1x1x1x1_3 (constantI S1 32 80#32)))))
      (constantI S_ 1 1#1) Gen.reducesTo_S16x24564x1x1_S16x24564x1_d3 Gen.h_S_)
    (Host.gather gather_S16x24564x81_S16x24564x1x1_S16x24564x1_n_2_01_01_2_3_111 x (place t))
    (broadcastInDim S16x24564x1 ![] Gen.bcast_S_S16x24564x1 (constant S_ .f32 0x7FC00000#32))) Gen.shapeCasts_S16x24564x1_S16x24564

theorem place_at (t : IVec S16x24564 32) (b : Fin 16) (q : Fin 24564) (k : Fin 81) (h : t (ix2 b q) = BitVec.ofNat 32 k.val) :
    place t (ix4 b q 0 0) = BitVec.ofNat 32 k.val := by
  have hn : ∀ k : Fin 81, IntOp.cmpi .slt (BitVec.ofNat 32 k.val) 0#32 = 0#1 := by decide
  unfold place
  pointwise
  rw [h, hn]
  rfl

theorem gather_at (t : IVec S16x24564x1x1 32) (b : Fin 16) (q : Fin 24564) (k : Fin 81) (h : t (ix4 b q 0 0) = BitVec.ofNat 32 k.val) :
    Host.gather gather_S16x24564x81_S16x24564x1x1_S16x24564x1_n_2_01_01_2_3_111 x t (ix3 b q 0) = x (ix3 b q k) := by
  have hw : ∀ k : Fin 81, min (BitVec.ofNat 32 k.val).toInt.toNat (81 - 1) + 0 + 0 = k.val := by decide
  have hs : ∀ c, gather_S16x24564x81_S16x24564x1x1_S16x24564x1_n_2_01_01_2_3_111.siIdx (ix3 b q 0) c = ix4 b q 0 0 := by
    intro c; funext a; fin_cases a
    · rfl
    · rfl
    · rfl
    · exact Fin.ext (by show c.val = 0; have h : c.val < 1 := c.isLt; omega)
  refine congrArg x (funext fun a => Fin.ext ?_)
  fin_cases a
  · show 0 + b.val + 0 = b.val; omega
  · show 0 + q.val + 0 = q.val; omega
  · show min (t _).toInt.toNat (81 - 1) + 0 + 0 = k.val
    rw [hs, h, hw]

/-- At a class of the 81 it is the score of that class. -/
theorem looked_at (t : IVec S16x24564 32) (b : Fin 16) (q : Fin 24564) (k : Fin 81) (h : t (ix2 b q) = BitVec.ofNat 32 k.val) :
    looked x t (ix2 b q) = x (ix3 b q k) := by
  have hp := place_at t b q k h
  have hg := gather_at x (place t) b q k hp
  have hi : ∀ k : Fin 81, IntOp.andi (IntOp.cmpi .sge (BitVec.ofNat 32 k.val) 0#32) (IntOp.cmpi .sle (BitVec.ofNat 32 k.val) 80#32) = 1#1 := by decide
  unfold looked
  generalize place t = P at hp hg ⊢
  generalize Host.gather gather_S16x24564x81_S16x24564x1x1_S16x24564x1_n_2_01_01_2_3_111 x P = G at hg ⊢
  pointwise
  rw [hg, Finset.univ_unique, Finset.fold_singleton, Subsingleton.elim (default : Fin 1) 0, hp, hi]
  rfl

/-- The cross entropies. -/
def losses : FVec Ideal S16x24564 .f32 :=
  subf (addf (Host.log (Host.reduceAdd (Host.exp (subf x (broadcastInDim S16x24564x81 ![0, 1, 2] Gen.bcast_S16x24564x1_S16x24564x81_0_1_2
      (broadcastInDim S16x24564x1 ![0, 1] Gen.bcast_S16x24564_S16x24564x1_0_1
        (Host.reduce FloatOps.maximumf x (constant S_ .f32 0xFF800000#32) Gen.reducesTo_S16x24564x81_S16x24564_d2 Gen.h_S_)))))
      (constant S_ .f32 0x00000000#32) Gen.reducesTo_S16x24564x81_S16x24564_d2 Gen.h_S_))
    (shapeCast _ (broadcastInDim S16x24564x1 ![0, 1] Gen.bcast_S16x24564_S16x24564x1_0_1
      (Host.reduce FloatOps.maximumf x (constant S_ .f32 0xFF800000#32) Gen.reducesTo_S16x24564x81_S16x24564_d2 Gen.h_S_)) Gen.shapeCasts_S16x24564x1_S16x24564))
    (looked x (cls y))

theorem losses_at (b : Fin 16) (hy : ∀ (i : Fin 192) (j : Fin 128), ∃ k : Fin 81, y (ix3 b i j) = BitVec.ofNat 32 k.val) (q : Fin 24564) :
    losses x y (ix2 b q) = ClassSpec.ce (scores x b q) (classes y b q) := by
  obtain ⟨k, hk⟩ := hy ⟨q.val / 128, by omega⟩ ⟨q.val % 128, by omega⟩
  have hl := looked_at x (cls y) b q k ((cls_at y b q).trans hk)
  unfold losses
  generalize looked x (cls y) = K at hl ⊢
  pointwise
  rw [hl, ← show scores x b q k = x (ix3 b q k) from rfl, ← ClassSpec.tg_eq (scores x b q) _ k hk]
  rfl

/-- The greatest score of all. -/
def top : FVec Ideal S_ .f32 := Host.reduce FloatOps.maximumf x (constant S_ .f32 0xFF800000#32) Gen.reducesTo_S16x24564x81_S_d0_1_2 Gen.h_S_

theorem top_real (hx : ∀ b q k, x (ix3 b q k) ≠ (⊥ : EReal) ∧ x (ix3 b q k) ≠ (⊤ : EReal)) : ∃ M : ℝ, top x ix0 = (M : EReal) := by
  have h : ∀ i, x i ≠ (⊥ : EReal) ∧ x i ≠ (⊤ : EReal) := fun i => by rw [eq_ix3 i]; exact hx _ _ _
  unfold top
  pointwise
  rw [ClassSpec.lowest]
  exact ClassSpec.fold_real _ (fun k => h _) (0, 0, 0)

/-- The losses that the negatives are mined by. -/
def ranked : FVec Ideal S16x24564 .f32 :=
  subf (addf (Host.log (Host.reduceAdd (Host.exp (subf x (broadcastInDim S16x24564x81 ![] Gen.bcast_S_S16x24564x81 (top x))))
      (constant S_ .f32 0x00000000#32) Gen.reducesTo_S16x24564x81_S16x24564_d2 Gen.h_S_))
    (broadcastInDim S16x24564 ![] Gen.bcast_S_S16x24564 (top x))) (looked x (cls y))

theorem ranked_at (b : Fin 16) (hx : ∀ b q k, x (ix3 b q k) ≠ (⊥ : EReal) ∧ x (ix3 b q k) ≠ (⊤ : EReal))
    (hy : ∀ (i : Fin 192) (j : Fin 128), ∃ k : Fin 81, y (ix3 b i j) = BitVec.ofNat 32 k.val) (q : Fin 24564) :
    ranked x y (ix2 b q) = ClassSpec.ce (scores x b q) (classes y b q) := by
  obtain ⟨k, hk⟩ := hy ⟨q.val / 128, by omega⟩ ⟨q.val % 128, by omega⟩
  have hl := looked_at x (cls y) b q k ((cls_at y b q).trans hk)
  obtain ⟨M, hM⟩ := top_real x hx
  unfold ranked
  generalize looked x (cls y) = K at hl ⊢
  generalize top x = N at hM ⊢
  pointwise
  rw [hl, hM, ← show scores x b q k = x (ix3 b q k) from rfl, ← ClassSpec.tg_eq (scores x b q) _ k hk]
  unfold ClassSpec.ce
  rw [← ClassSpec.lse_any (scores x b q) (hx b q) M]
  rfl

/-- What is ranked: zero at the positives. -/
def pool (t : IVec S16x24564 32) (L : FVec Ideal S16x24564 .f32) : FVec Ideal S16x24564 .f32 :=
  select (cmpi .sgt t (broadcastInDim S16x24564 ![] Gen.bcast_S_S16x24564 (constantI S_ 32 0#32)))
    (broadcastInDim S16x24564 ![] Gen.bcast_S_S16x24564 (id (constant S_ .f32 0x00000000#32))) L

theorem pool_at (t : IVec S16x24564 32) (L : FVec Ideal S16x24564 .f32) (b : Fin 16) (q : Fin 24564) :
    pool t L (ix2 b q) = if ClassSpec.pos (t (ix2 b q)) then 0 else L (ix2 b q) := by
  have hz : (id (constant (F := Ideal) S_ FTy.f32 0#32) ix0 : EReal) = 0 := Ideal.ofBits_zero_f32
  unfold pool
  pointwise
  rw [hz]
  unfold IntOp.cmpi
  dsimp only
  rw [ClassSpec.sel]

/-- The ranks: the places in the order of the places in descending order. -/
def ranks (A : FVec Ideal S16x24564 .f32) : IVec S16x24564 32 :=
  (Host.sort2 S16x24564 1 comparator_i32_i32_d1 ((Host.sort2 S16x24564 1 (comparator_f32_i32_d1 (F := Ideal)) (Host.negf A) (iotaInDim S16x24564 32 1)).2) (iotaInDim S16x24564 32 1)).2

/-- Ranking inverts some order in which the entries descend. -/
theorem ranks_at (A : FVec Ideal S16x24564 .f32) (b : Fin 16) : ∃ σ : Equiv.Perm (Fin 24564),
    (∀ q, ranks A (ix2 b q) = BitVec.ofNat 32 (σ.symm q).val) ∧ Antitone fun q => (A (ix2 b (σ q)) : EReal) := by
  obtain ⟨σ, hσ, hm⟩ := sorted (comparator_f32_i32_d1 (F := Ideal)) (fun z : EReal => z) before (Host.negf A) b
  obtain ⟨τ, hτ, hn⟩ := sorted comparator_i32_i32_d1 BitVec.toInt beforeI
    (Host.sort2 S16x24564 1 (comparator_f32_i32_d1 (F := Ideal)) (Host.negf A) (iotaInDim S16x24564 32 1)).2 b
  have hw : ∀ k : Fin 24564, (BitVec.ofNat 32 k.val).toInt = (k.val : ℤ) := fun k => by
    rw [BitVec.toInt_eq_toNat_of_lt (by rw [BitVec.toNat_ofNat]; omega), BitVec.toNat_ofNat, Nat.mod_eq_of_lt (by omega)]
  simp only [hσ, hw] at hn
  refine ⟨σ, fun q => ?_, fun p q h => EReal.neg_le_neg_iff.1 (hm h)⟩
  unfold ranks
  rw [hτ, ascending σ τ (fun p q h => Fin.le_def.2 (Int.ofNat_le.1 (hn h))) q]

/-- The result, from the classes, the losses and the ranks. -/
def total (t : IVec S16x24564 32) (L : FVec Ideal S16x24564 .f32) (R : IVec S16x24564 32) : FVec Ideal S16x1x128 .f32 :=
  shapeCast _ (pad S16x128 ![0, 0] ![0, 126] ![0, 0] (concatenate S16x2 1
    [⟨S16x1, (broadcastInDim S16x1 ![0] Gen.bcast_S16_S16x1_0 (Host.reduceAdd (mulf L
        (uitofp .f32 (ori (cmpi .sgt t (broadcastInDim S16x24564 ![] Gen.bcast_S_S16x24564 (constantI S_ 32 0#32)))
          (cmpi .slt R (broadcastInDim S16x24564 ![0, 1] Gen.bcast_S16x1_S16x24564_0_1 (minsi (muli (broadcastInDim S16x1 ![] Gen.bcast_S_S16x1 (constantI S_ 32 3#32))
            (broadcastInDim S16x1 ![0] Gen.bcast_S16_S16x1_0 (Host.reduce IntOp.addi (extui 32 (cmpi .sgt t (broadcastInDim S16x24564 ![] Gen.bcast_S_S16x24564 (constantI S_ 32 0#32))) Gen.natLt_1_32)
              (constantI S_ 32 0#32) Gen.reducesTo_S16x24564_S16_d1 Gen.h_S_))) (broadcastInDim S16x1 ![] Gen.bcast_S_S16x1 (constantI S_ 32 24563#32))))))))
        (constant S_ .f32 0x00000000#32) Gen.reducesTo_S16x24564_S16_d1 Gen.h_S_))⟩,
    ⟨S16x1, (sitofp .f32 (broadcastInDim S16x1 ![0] Gen.bcast_S16_S16x1_0 (Host.reduce IntOp.addi (extui 32 (cmpi .sgt t (broadcastInDim S16x24564 ![] Gen.bcast_S_S16x24564 (constantI S_ 32 0#32))) Gen.natLt_1_32)
      (constantI S_ 32 0#32) Gen.reducesTo_S16x24564_S16_d1 Gen.h_S_)))⟩]
    Gen.concatenates_S16x1_S16x1_S16x2_d1) (sitofp .f32 (constantI S_ 32 0#32)) Gen.pads_S16x2_S16x128_000_01260 Gen.h_S_) Gen.shapeCasts_S16x128_S16x1x128

/-- Choosing the positives and the first `k` of an order is adding up the positives, and of the others the last `k` of the order turned round. -/
theorem chosen (X : Fin 24564 → Fin 81 → EReal) (T : Fin 24564 → BitVec 32) (σ : Equiv.Perm (Fin 24564)) (k : ℕ) (hk : k ≤ 24563) :
    (∑ q, ClassSpec.ce (X q) (T q) * (if ClassSpec.pos (T q) ∨ (σ.symm q).val < k then 1 else 0))
      = (∑ q, if ClassSpec.pos (T q) then ClassSpec.ce (X q) (T q) else 0)
        + ∑ q : Fin 24564, if 24564 - k ≤ q.val then ClassSpec.entry X T (σ (Fin.rev q)) else 0 := by
  have e : (∑ q : Fin 24564, if 24564 - k ≤ q.val then ClassSpec.entry X T (σ (Fin.rev q)) else 0)
      = ∑ q, if (σ.symm q).val < k then ClassSpec.entry X T q else 0 := by
    rw [← Equiv.sum_comp (Fin.revPerm.trans σ) fun q => if (σ.symm q).val < k then ClassSpec.entry X T q else 0]
    refine Finset.sum_congr rfl fun q _ => ?_
    simp only [Equiv.trans_apply, Fin.revPerm_apply, Equiv.symm_apply_apply, Fin.val_rev]
    exact if_congr (by omega) rfl rfl
  rw [e, ← Finset.sum_add_distrib]
  refine Finset.sum_congr rfl fun q _ => ?_
  unfold ClassSpec.entry
  by_cases h : ClassSpec.pos (T q)
  · rw [if_pos (Or.inl h), if_pos h, if_pos h, ite_self, add_zero, mul_one]
  · rw [if_neg h, if_neg h, zero_add]
    by_cases h' : (σ.symm q).val < k
    · rw [if_pos (Or.inr h'), if_pos h', mul_one]
    · rw [if_neg (not_or.2 ⟨h, h'⟩), if_neg h', mul_zero]

/-- An image's result, from its classes, losses and ranks. -/
theorem total_at (t : IVec S16x24564 32) (L : FVec Ideal S16x24564 .f32) (R : IVec S16x24564 32) (b : Fin 16) (X : Fin 24564 → Fin 81 → EReal) (T : Fin 24564 → BitVec 32)
    (σ : Equiv.Perm (Fin 24564)) (ht : ∀ q, t (ix2 b q) = T q) (hL : ∀ q, L (ix2 b q) = ClassSpec.ce (X q) (T q)) (hR : ∀ q, R (ix2 b q) = BitVec.ofNat 32 (σ.symm q).val)
    (j : Fin 128) : total t L R (ix3 b 0 j) = ClassSpec.out X T (fun q => ClassSpec.entry X T (σ (Fin.rev q))) j := by
  unfold total
  pointwise
  have hn := ClassSpec.npos_le T
  have hc : (Finset.fold IntOp.addi (0#32) (fun q => BitVec.setWidth 32 (IntOp.cmpi CmpIPredicate.sgt (T q) 0#32)) Finset.univ).toNat
      = ClassSpec.npos T := ClassSpec.count (fun q => (0#32).slt (T q)) (by rw [Fintype.card_fin]; omega)
  simp only [ht, hL, hR]
  generalize Finset.fold IntOp.addi (0#32) (fun q => BitVec.setWidth 32 (IntOp.cmpi CmpIPredicate.sgt (T q) 0#32)) Finset.univ = n at hc ⊢
  have hq := ClassSpec.quota_word n (by omega)
  rw [hc] at hq
  generalize IntOp.minsi (IntOp.muli 3#32 n) 24563#32 = u at hq ⊢
  have hle : ClassSpec.quota T ≤ 24563 := min_le_right _ _
  unfold ClassSpec.out
  rcases j with ⟨j, hj⟩
  rcases j with _ | _ | j
  · rw [dif_pos (show (0 : ℕ) < 2 by decide), dif_pos (show (0 : ℕ) < 1 by decide), if_pos rfl, ← chosen X T σ _ hle]
    refine Finset.sum_congr rfl fun q _ => congrArg (ClassSpec.ce (X q) (T q) * ·) ?_
    have hs : IntOp.cmpi .slt (BitVec.ofNat 32 (σ.symm q).val) u = BitVec.ofBool (decide ((σ.symm q).val < ClassSpec.quota T)) := by
      show BitVec.ofBool (BitVec.slt _ _) = _
      rw [BitVec.slt_eq_decide, BitVec.toInt_eq_toNat_of_lt (by rw [BitVec.toNat_ofNat]; omega), BitVec.toInt_eq_toNat_of_lt (by rw [hq]; change 2 * ClassSpec.quota T < _; omega), hq,
        BitVec.toNat_ofNat, Nat.mod_eq_of_lt (by omega)]
      exact congrArg BitVec.ofBool (decide_eq_decide.2 Int.ofNat_lt)
    rw [hs]
    exact ClassSpec.one_of _ _
  · rw [dif_pos (show (1 : ℕ) < 2 by decide), dif_neg (show ¬ (1 : ℕ) < 1 by decide), if_neg (by simp), if_pos rfl]
    show ((n.toInt : ℝ) : EReal) = _
    rw [ClassSpec.toInt_small n (by omega), hc]
  · rw [dif_neg (by simp), if_neg (by simp), if_neg (by simp)]
    show (((0#32 : BitVec 32).toInt : ℝ) : EReal) = 0
    simp

variable (m : (ℓ : Loc nD τ sig) → Buf (Elt Ideal) ℓ) (c : Dev nD)

/-- The reference's result. -/
abbrev res : FVec Ideal S16x1x128 .f32 := Value.res_main_v50 m c

theorem out_at (b : Fin 16)
    (hx : ∀ b q k, (m ((c.tc : Thread nD τ).loc main_arg0) : FVec Ideal S16x24564x81 .f32) (ix3 b q k) ≠ (⊥ : EReal)
      ∧ (m ((c.tc : Thread nD τ).loc main_arg0) : FVec Ideal S16x24564x81 .f32) (ix3 b q k) ≠ (⊤ : EReal))
    (hy : ∀ (i : Fin 192) (j : Fin 128), ∃ k : Fin 81, (m ((c.tc : Thread nD τ).loc main_arg1) : IVec S16x192x128 32) (ix3 b i j) = BitVec.ofNat 32 k.val) :
    ∃ (g : Fin 24564 → EReal) (σ : Equiv.Perm (Fin 24564)), Monotone g
    ∧ (∀ q, g q = ClassSpec.entry (scores (m ((c.tc : Thread nD τ).loc main_arg0)) b) (classes (m ((c.tc : Thread nD τ).loc main_arg1)) b) (σ q))
    ∧ ∀ j, res m c (ix3 b 0 j) = ClassSpec.out (scores (m ((c.tc : Thread nD τ).loc main_arg0)) b) (classes (m ((c.tc : Thread nD τ).loc main_arg1)) b) g j := by
  have e : res m c = total (cls (m ((c.tc : Thread nD τ).loc main_arg1))) (losses (m ((c.tc : Thread nD τ).loc main_arg0)) (m ((c.tc : Thread nD τ).loc main_arg1)))
      (ranks (pool (cls (m ((c.tc : Thread nD τ).loc main_arg1))) (ranked (m ((c.tc : Thread nD τ).loc main_arg0)) (m ((c.tc : Thread nD τ).loc main_arg1))))) := rfl
  rw [e]
  generalize m ((c.tc : Thread nD τ).loc main_arg0) = x at hx ⊢
  generalize m ((c.tc : Thread nD τ).loc main_arg1) = y at hy ⊢
  obtain ⟨σ, hσ, hm⟩ := ranks_at (pool (cls y) (ranked x y)) b
  have hp : ∀ q, pool (cls y) (ranked x y) (ix2 b q) = ClassSpec.entry (scores x b) (classes y b) q := fun q => by
    rw [pool_at, cls_at, ranked_at x y b hx hy]
    rfl
  simp only [hp] at hm
  exact ⟨_, Fin.revPerm.trans σ, fun p q h => hm (Fin.rev_le_rev.2 h), fun q => rfl, total_at _ _ _ b _ _ σ (cls_at y b) (losses_at x y b hy) hσ⟩

end Cert.Proof.ClassRef

end
-- ==== Proof.MiningIn.lean ====
/- What the second call is handed: the classes cut to bytes and padded, the scores block by block. -/
module

public import proofs.«01_k».proof.Proof.MiningVal
public import proofs.«01_k».proof.Proof.ClassRef

@[expose] public section

set_option maxRecDepth 16384

noncomputable section

namespace Cert.Proof.Mining

open Cert.MiningIdeal Cert.MiningIdeal.Gen
open Idealize.ShloMosaic Idealize.ShloMosaic.TcCoe Idealize.ShloMosaic.Tactic Idealize.ShloMosaic.StableHlo

/-- The classes as the call is handed them. -/
def bytes (y : IVec S16x192x128 32) : IVec S16x8x8192 8 :=
  pad S16x8x8192 ![0, 0, 0] ![0, 5, 0] ![0, 0, 0] (trunci 8 (shapeCast S16x3x8192 y shapeCasts_S16x192x128_S16x3x8192) natLt_8_32)
    (trunci 8 (constantI S_ 32 0#32) natLt_8_32) pads_S16x3x8192_S16x8x8192_000_050_000 h_S_

theorem bytes_at (y : IVec S16x192x128 32) (b : Fin 16) (r : Fin 8) (l : Fin 8192) : bytes y (ix3 b r l)
    = if h : r.val < 3 then BitVec.setWidth 8 (y (ix3 b ⟨r.val * 64 + l.val / 128, by omega⟩ ⟨l.val % 128, by omega⟩)) else 0#8 := by
  unfold bytes
  pointwise
  rfl

section

variable {F : FTy → Type} [FloatOps F] (m : (ℓ : Loc nD τ sig) → Buf (Elt F) ℓ) (c : Dev nD)

theorem V_main_v2 : V m c main_v2 = bytes (m ((c : Thread nD τ).loc main_arg1)) := by
  show StableHlo.after (List.flatten [hostOps0, hostOps0_1]) _ (Proc.devRef .tc main_v2) = _
  simp only [hostOps0, hostOps0_1, List.flatten_cons, List.flatten_nil, List.append_nil, List.cons_append, List.nil_append]
  after_results_simp
  rfl

theorem iblk1_at (t : Fin cfg0.N) (r : Fin 8) (l : Fin 8192) : iblk m c 1 t (ix3 0 r l) = bytes (m ((c : Thread nD τ).loc main_arg1)) (ix3 (im t) r l) := by
  show V m c main_v2 (((cfg0.win 1).blk t).view.emb (ix3 0 r l)) = _
  rw [V_main_v2, emb1]
  rfl

theorem xsize0 : ∀ t : Fin cfg0.N, (cfg0.win 0).xsize (cfg0.grid.coords t) (0 : Fin 3) = 1
    ∧ (cfg0.win 0).xsize (cfg0.grid.coords t) (1 : Fin 3) = min 8192 (24564 - t.val % 3 * 8192) ∧ (cfg0.win 0).xsize (cfg0.grid.coords t) (2 : Fin 3) = 81 :=
  (by decide +kernel : ∀ t : Fin grid0.N, _)

/-- A row of the scores' block inside the array is a prior's. -/
theorem logits_at (t : Fin cfg0.N) (d : Vec F S1x8192x81 .f32) (l : Fin 8192) (x : Fin 81) (q : Fin 24564) (hq : q.val = t.val % 3 * 8192 + l.val) :
    logits m c t d (ix3 0 l x) = m ((c : Thread nD τ).loc main_arg0) (ix3 (im t) q x) := by
  obtain ⟨e0, e1, e2⟩ := xsize0 t
  have hm : (cfg0.win 0).moved (cfg0.grid.coords t) (ix3 0 l x) = true := ((cfg0.win 0).moved_iff _ _).mpr fun a => by
    match a with
    | ⟨0, _⟩ => exact lt_of_lt_of_eq (show 0 < 1 by decide) e0.symm
    | ⟨1, _⟩ => exact lt_of_lt_of_eq (show l.val < _ by omega) e1.symm
    | ⟨2, _⟩ => exact lt_of_lt_of_eq x.isLt e2.symm
  unfold logits Pipeline.Window.fill
  rw [dif_pos hm]
  show V m c main_arg0 (((cfg0.win 0).blk t).view.emb _) = _
  rw [V_main_arg0]
  refine congrArg _ ?_
  obtain ⟨i0, i1, i2⟩ := idx0 t
  funext a; apply Fin.ext
  match a with
  | ⟨0, _⟩ => show win0_0.index t (0 : Fin 3) * 1 + 1 * 0 = t.val / 3; omega
  | ⟨1, _⟩ => show win0_0.index t (1 : Fin 3) * 8192 + 1 * l.val = q.val; omega
  | ⟨2, _⟩ => show win0_0.index t (2 : Fin 3) * 81 + 1 * x.val = x.val; omega

end

/-- What the precondition says of one image: real scores, classes from `0` to `80`, the background's past the last prior. -/
structure Good (x : FVec Ideal S16x24564x81 .f32) (y : IVec S16x192x128 32) (b : Fin 16) : Prop where
  real : ∀ (q : Fin 24564) (k : Fin 81), x (ix3 b q k) ≠ (⊥ : EReal) ∧ x (ix3 b q k) ≠ (⊤ : EReal)
  cls : ∀ (i : Fin 192) (j : Fin 128), ∃ k : Fin 81, y (ix3 b i j) = BitVec.ofNat 32 k.val
  tail : ∀ (i : Fin 192) (j : Fin 128), 24564 ≤ i.val * 128 + j.val → y (ix3 b i j) = 0#32

/-- A class survives the cut to a byte. -/
theorem byte : ∀ k : Fin 81, BitVec.signExtend 32 (BitVec.setWidth 8 (BitVec.ofNat 32 k.val)) = BitVec.ofNat 32 k.val := by decide

section

variable {x : FVec Ideal S16x24564x81 .f32} {y : IVec S16x192x128 32} {b : Fin 16} (h : Good x y b)

include h

theorem ext_at (r : Fin 8) (l : Fin 8192) (q : Fin 24564) (hq : q.val = r.val * 8192 + l.val) :
    BitVec.signExtend 32 (bytes y (ix3 b r l)) = ClassRef.classes y b q := by
  rw [bytes_at, dif_pos (by omega)]
  have e : y (ix3 b ⟨r.val * 64 + l.val / 128, by omega⟩ ⟨l.val % 128, by omega⟩) = ClassRef.classes y b q := by
    unfold ClassRef.classes
    exact congrArg y (congrArg₂ (ix3 b) (Fin.ext (by show r.val * 64 + l.val / 128 = q.val / 128; omega)) (Fin.ext (by show l.val % 128 = q.val % 128; omega)))
  rw [e]
  obtain ⟨k, hk⟩ := h.cls ⟨q.val / 128, by omega⟩ ⟨q.val % 128, by omega⟩
  show BitVec.signExtend 32 (BitVec.setWidth 8 (y _)) = y _
  rw [hk]
  exact byte k

theorem ext_off (r : Fin 8) (l : Fin 8192) (hq : ¬ r.val * 8192 + l.val < 24564) : BitVec.signExtend 32 (bytes y (ix3 b r l)) = 0#32 := by
  rw [bytes_at]
  split_ifs with hr
  · rw [h.tail _ _ (by show 24564 ≤ (r.val * 64 + l.val / 128) * 128 + l.val % 128; omega)]; rfl
  · rfl

theorem ce_nonneg (q : Fin 24564) : 0 ≤ ClassSpec.ce (ClassRef.scores x b q) (ClassRef.classes y b q) := by
  obtain ⟨k, hk⟩ := h.cls ⟨q.val / 128, by omega⟩ ⟨q.val % 128, by omega⟩
  exact ClassSpec.ce_nonneg _ (h.real q) _ k hk

end

/-- What an image's last chunk leaves is the reference's row. -/
theorem mined_eq (m : (ℓ : Loc nD τ sig) → Buf (Elt Ideal) ℓ) (c : Dev nD) (t : Fin cfg0.N) (S : Vec Ideal S24x8192 .f32)
    (h : Good (m ((c : Thread nD τ).loc main_arg0)) (m ((c : Thread nD τ).loc main_arg1)) (im t)) (hd : Done m c (t.val / 3) 3 S)
    (g : Fin 24564 → EReal) (hg : Monotone g) (σ : Equiv.Perm (Fin 24564))
    (hσ : ∀ q, g q = ClassSpec.entry (ClassRef.scores (m ((c : Thread nD τ).loc main_arg0)) (im t)) (ClassRef.classes (m ((c : Thread nD τ).loc main_arg1)) (im t)) (σ q)) (j : Fin 128) :
    mined (iblk m c 1 t) S (ix3 0 0 j)
      = ClassSpec.out (ClassRef.scores (m ((c : Thread nD τ).loc main_arg0)) (im t)) (ClassRef.classes (m ((c : Thread nD τ).loc main_arg1)) (im t)) g j := by
  refine last_eq ⟨fun q => ?_, fun x hx => ?_⟩ (fun q => ?_) (ce_nonneg h) g hg σ hσ j
  · show BitVec.signExtend 32 (iblk m c 1 t (ix3 0 ⟨(at_ q).1.val, by omega⟩ (at_ q).2)) = _
    rw [iblk1_at]
    exact ext_at h _ _ q (by show q.val = q.val / 8192 * 8192 + q.val % 8192; omega)
  · show BitVec.signExtend 32 (iblk m c 1 t (ix3 0 ⟨x.1.val, by omega⟩ x.2)) = _
    rw [iblk1_at]
    exact ext_off h _ _ hx
  · obtain ⟨u, hu, d, hS⟩ := hd ⟨q.val / 8192, by omega⟩ (by show q.val / 8192 < 3; omega)
    replace hu : u.val = 3 * (t.val / 3) + q.val / 8192 := hu
    obtain ⟨h0, h1, h2⟩ := hS (at_ q).2
    rw [pay1_max] at h0
    rw [pay1_sum] at h1
    rw [pay1_tgt] at h2
    have hi : im u = im t := Fin.ext (by show u.val / 3 = t.val / 3; omega)
    have hl : (fun x => logits m c u d (ix3 0 (at_ q).2 x)) = ClassRef.scores (m ((c : Thread nD τ).loc main_arg0)) (im t) q := by
      funext x
      rw [logits_at m c u d (at_ q).2 x q (by show q.val = u.val % 3 * 8192 + q.val % 8192; omega), hi]
      rfl
    have hz : BitVec.signExtend 32 (zrow (iblk m c 1 u) ⟨q.val / 8192, by omega⟩ (ix3 0 0 (at_ q).2)) = ClassRef.classes (m ((c : Thread nD τ).loc main_arg1)) (im t) q := by
      show BitVec.signExtend 32 (iblk m c 1 u (ix3 0 ⟨q.val / 8192, by omega⟩ (at_ q).2)) = _
      rw [iblk1_at, hi]
      exact ext_at h _ _ q (by show q.val = q.val / 8192 * 8192 + q.val % 8192; omega)
    rw [hl] at h0 h1 h2
    rw [hz] at h2
    refine ⟨Eq.trans (congrArg S ?_) h0, Eq.trans (congrArg S ?_) h1, Eq.trans (congrArg S ?_) h2⟩
    · exact congrArg (fun k => ix2 k (at_ q).2) (Fin.ext (by show 8 * 0 + q.val / 8192 = q.val / 8192; omega))
    · exact congrArg (fun k => ix2 k (at_ q).2) (Fin.ext (by show 8 * 1 + q.val / 8192 = 8 + q.val / 8192; omega))
    · exact congrArg (fun k => ix2 k (at_ q).2) (Fin.ext (by show 8 * 2 + q.val / 8192 = 16 + q.val / 8192; omega))

end Cert.Proof.Mining

end
-- ==== Proof.PreScored.lean ====
/- What the precondition of the second call says of each image. -/
module

public import proofs.«01_k».proof.Pre_scored
public import proofs.«01_k».proof.Proof.MiningIn
public import Idealize.ShloMosaic.Lib.ReduceAll
public import Idealize.ShloMosaic.Lib.Pointwise

@[expose] public section

set_option maxRecDepth 16384

noncomputable section

namespace Cert.Proof.PreScored

open Cert.Pre_scored Idealize.ShloMosaic

/-- The side conditions of the precondition's operations. -/
instance facts : Cert.Pre_scored.Facts where
  bcast_S_S16x24564x81 := by decide
  reducesTo_S16x24564x81_S_d0_1_2 := by decide
  h_S_ := by decide
  bcast_S_S16x192x128 := by decide
  reducesTo_S16x192x128_S_d0_1_2 := by decide
  shapeCasts_S16x192x128_S16x24576 := by decide
  slices_S16x24576_S16x12_0_24564 := by decide
  bcast_S_S16x12 := by decide
  reducesTo_S16x12_S_d0_1 := by decide

instance : Subsingleton S_.Idx := ⟨fun a b => funext fun k => k.elim0⟩

/-- A value whose magnitude is below infinity is real. -/
theorem real_of_abs (x : EReal) (h : Ideal.cmp .olt (x ⊔ -x) (Ideal.ofBits .f32 0x7F800000#32) = 1#1) : x ≠ ⊥ ∧ x ≠ ⊤ := by
  rw [ClassSpec.greatest] at h
  constructor <;> rintro rfl <;> exact absurd h (by simp [Ideal.cmp])

theorem small (w : BitVec 32) (h0 : IntOp.cmpi .sge w 0#32 = 1#1) (h1 : IntOp.cmpi .sle w 80#32 = 1#1) : ∃ k : Fin 81, w = BitVec.ofNat 32 k.val := by
  have h0 : (0#32).sle w = true := by
    cases e : (0#32).sle w
    · rw [show IntOp.cmpi .sge w 0#32 = BitVec.ofBool ((0#32).sle w) from rfl, e] at h0; exact absurd h0 (by decide)
    · rfl
  have h1 : w.sle 80#32 = true := by
    cases e : w.sle 80#32
    · rw [show IntOp.cmpi .sle w 80#32 = BitVec.ofBool (w.sle 80#32) from rfl, e] at h1; exact absurd h1 (by decide)
    · rfl
  rw [BitVec.sle_eq_decide, decide_eq_true_eq] at h0 h1
  have e0 : (0#32).toInt = 0 := by decide
  have e1 : (80#32).toInt = 80 := by decide
  rw [e0] at h0
  rw [e1] at h1
  have hw : w.toInt = w.toNat := by
    rw [BitVec.toInt_eq_toNat_cond] at h0 ⊢
    split_ifs at h0 ⊢ with hc
    · rfl
    · have := w.isLt; omega
  exact ⟨⟨w.toNat, by omega⟩, by simp⟩

/-- The precondition makes every image good. -/
theorem good (x : FVec Ideal S16x24564x81 .f32) (y : IVec S16x192x128 32) (h : fn (F := Ideal) x y = fun _ => 1#1) (b : Fin 16) : Mining.Good x y b := by
  have h := congrFun h (fun k => k.elim0)
  obtain ⟨h, ht⟩ := IntOp.andi_eq_one.1 h
  obtain ⟨h, h80⟩ := IntOp.andi_eq_one.1 h
  obtain ⟨hx, h0⟩ := IntOp.andi_eq_one.1 h
  have hx := Host.reduce_andi_all _ _ _ _ _ hx
  have h0 := Host.reduce_andi_all _ _ _ _ _ h0
  have h80 := Host.reduce_andi_all _ _ _ _ _ h80
  have ht := Host.reduce_andi_all _ _ _ _ _ ht
  refine ⟨fun q k => real_of_abs _ (hx (ix3 b q k)), fun i j => small _ (h0 (ix3 b i j)) (h80 (ix3 b i j)), fun i j hij => ?_⟩
  have hj := j.isLt
  have hi := i.isLt
  have e := ht (ix2 b ⟨i.val * 128 + j.val - 24564, by omega⟩)
  have r : extractStridedSlice S16x12 ![0, 24564] (shapeCast S16x24576 y facts.shapeCasts_S16x192x128_S16x24576) facts.slices_S16x24576_S16x12_0_24564
      (ix2 b ⟨i.val * 128 + j.val - 24564, by omega⟩) = y (ix3 b i j) := by
    pointwise
    exact congrArg y (congrArg₂ (ix3 b) (Fin.ext (by show (24564 + (i.val * 128 + j.val - 24564)) / 128 = i.val; omega))
      (Fin.ext (by show (24564 + (i.val * 128 + j.val - 24564)) % 128 = j.val; omega)))
  dsimp only at e
  have e : IntOp.cmpi .eq (y (ix3 b i j)) 0#32 = 1#1 := by rw [← r]; exact e
  by_contra hc
  rw [show IntOp.cmpi .eq (y (ix3 b i j)) 0#32 = BitVec.ofBool (y (ix3 b i j) == 0#32) from rfl, beq_false_of_ne hc] at e
  exact absurd e (by decide)

end Cert.Proof.PreScored

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Run
public import proofs.«01_k».proof.Proof.RefPlain
public import proofs.«01_k».proof.Proof.RefOut
public import proofs.«01_k».proof.Proof.Pre
public import proofs.«01_k».proof.Proof.Mine
public import proofs.«01_k».proof.Proof.Gen.MiningIdeal
public import proofs.«01_k».proof.Proof.Gen.MiningIdeal.Frame
public import proofs.«01_k».proof.Proof.Gen.MiningIdeal.Loops
public import proofs.«01_k».proof.Proof.Gen.MiningIdeal.Skeleton
public import proofs.«01_k».proof.Proof.Gen.ClassificationIdeal
public import proofs.«01_k».proof.Proof.Gen.ClassificationIdeal.Run
public import proofs.«01_k».proof.Proof.MiningIn
public import proofs.«01_k».proof.Proof.ClassRef
public import proofs.«01_k».proof.Proof.PreScored
public import Idealize.ShloMosaic.Adequacy
public import Idealize.ShloMosaic.Init

@[expose] public section

noncomputable section

namespace Cert.Proof

open Idealize.ShloMosaic Idealize.SL.Sem

/-- The reference runs and leaves its arguments; it has no semaphore. -/
theorem frame_r (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2, sem_eq_zero_of_no_sems (by decide) r.2⟩) (RefPlain.run m ρ)

section
variable (a0 : FVec Ideal Cert.KernelIdeal.S16x24564x4 .f32) (a1 : FVec Ideal Cert.KernelIdeal.S16x20x5 .f32)
  (a2 : FVec Ideal Cert.KernelIdeal.S24564x4 .f32) (a3 : FVec Ideal Cert.KernelIdeal.S2 .f32) (g : ∀ b, (Run.img a0 a1 a2 a3 b).Good)
include g

/-- The reference's results are the specified arrays. -/
theorem ref0 : RefPlain.out0 (F := Ideal) a0 a1 a2 a3 = Run.G4 (Run.img a0 a1 a2 a3) := by
  funext y
  obtain ⟨b, i, j, rfl⟩ : ∃ b i j, y = ix3 b i j := ⟨_, _, _, eq_ix3 y⟩
  exact RefVal.out0_at (a0 := a0) (a1 := a1) (a2 := a2) (a3 := a3) g b i j
theorem ref1 : RefPlain.out1 (F := Ideal) a0 a1 a2 a3 = Run.G5 (Run.img a0 a1 a2 a3) := by
  funext y
  obtain ⟨b, i, j, rfl⟩ : ∃ b i j, y = ix3 b i j := ⟨_, _, _, eq_ix3 y⟩
  have hi : i = 0 := Subsingleton.elim (α := Fin 1) _ _
  subst hi
  exact RefVal.out1_at (a0 := a0) (a1 := a1) (a2 := a2) (a3 := a3) g b j
end

/-- Kernel and reference end with equal results. -/
theorem equal : Cert.algebraic_KernelIdeal_ReferenceIdeal_pre_boxes := by
  intro m ρ m' ρ' pre agree
  have g : ∀ (c : Dev Cert.KernelIdeal.nD) b, (Run.imgm m c b).Good := fun c => Pre.good _ _ _ _ (pre c)
  refine ⟨fun c => Run.G4 (Run.imgm m c), fun c => Run.G5 (Run.imgm m c), Run.run m ρ g, ?_⟩
  refine (θ_run Cert.ReferenceIdeal.defs _ _).mono (fun r h c => ⟨(h c).1.trans ?_, (h c).2.1.trans ?_, (h c).2.2⟩) (RefPlain.run m' ρ')
  · obtain ⟨e0, e1, e2, e3⟩ := agree c
    rw [e0, e1, e2, e3]
    exact ref0 _ _ _ _ (g c)
  · obtain ⟨e0, e1, e2, e3⟩ := agree c
    rw [e0, e1, e2, e3]
    exact ref1 _ _ _ _ (g c)

/-- The second reference runs and leaves its arguments; it has no semaphore. -/
theorem frame_c (m : (ℓ : Loc Cert.ClassificationIdeal.nD Cert.ClassificationIdeal.τ Cert.ClassificationIdeal.sig) → Buf (Elt Ideal) ℓ) (ρ : Dev Cert.ClassificationIdeal.nD → PrngReg) :
    θ_run (Cert.ClassificationIdeal.defs (F := Ideal)) (onTc (τ := Cert.ClassificationIdeal.τ) (Cert.ClassificationIdeal.main (F := Ideal))) ⟨m, fun _ => 0, ρ⟩ (fun r => (∀ c : Dev Cert.ClassificationIdeal.nD,
      r.2.mem ((c.tc : Thread Cert.ClassificationIdeal.nD Cert.ClassificationIdeal.τ).loc Cert.ClassificationIdeal.main_arg0) = m ((c.tc : Thread Cert.ClassificationIdeal.nD Cert.ClassificationIdeal.τ).loc Cert.ClassificationIdeal.main_arg0)
      ∧ r.2.mem ((c.tc : Thread Cert.ClassificationIdeal.nD Cert.ClassificationIdeal.τ).loc Cert.ClassificationIdeal.main_arg1) = m ((c.tc : Thread Cert.ClassificationIdeal.nD Cert.ClassificationIdeal.τ).loc Cert.ClassificationIdeal.main_arg1))
      ∧ r.2.sem = fun _ => 0) :=
  (θ_run Cert.ClassificationIdeal.defs _ _).mono (fun r h => ⟨fun c => (h c).2, sem_eq_zero_of_no_sems (by decide) r.2⟩) (Cert.ClassificationIdeal.Value.run m ρ)

/-- The second call, its search replaced, and its reference end with equal results. -/
theorem equal_c : Cert.algebraic_MiningIdeal_ClassificationIdeal_pre_scored := by
  intro m ρ m' ρ' pre agree
  refine ⟨fun c => (fun y => ClassRef.res m' c (ix3 (y 0) 0 (y 2)) : Cert.MiningIdeal.S16x1x128.Idx → EReal),
    Mining.final m ρ (fun c b j => ClassRef.res m' c (ix3 b 0 j)) (fun c t S _ hd j => ?_), ?_⟩
  · obtain ⟨e0, e1⟩ := agree c
    have good := PreScored.good _ _ (pre c) (Mining.im t)
    obtain ⟨g, σ, hg, hσ, ho⟩ := ClassRef.out_at m' c (Mining.im t) (by rw [e0]; exact fun b => (PreScored.good _ _ (pre c) b).real) (by rw [e1]; exact good.cls)
    rw [e0, e1] at hσ ho
    exact (Mining.mined_eq m c t S good hd g hg σ hσ j).trans (ho j).symm
  · refine (θ_run Cert.ClassificationIdeal.defs _ _).mono (fun r h c => ⟨(h c).1.trans ?_, (h c).2⟩) (Cert.ClassificationIdeal.Value.run m' ρ')
    funext y
    obtain ⟨b, i, j, rfl⟩ : ∃ b i j, y = ix3 b i j := ⟨_, _, _, eq_ix3 y⟩
    have hi : i = 0 := Subsingleton.elim (α := Fin 1) _ _
    subst hi
    rfl

theorem claim : Cert.Claim :=
  ⟨Cert.Kernel.Gen.facts, Cert.KernelIdeal.Gen.facts, Cert.ReferenceIdeal.Gen.facts, Cert.Mine.Gen.facts, Cert.MiningIdeal.Gen.facts,
    Cert.ClassificationIdeal.Gen.facts, Pre.facts, PreScored.facts,
    fun m ρ _ => Cert.Kernel.Gen.frame m ρ, fun m ρ _ => Cert.KernelIdeal.Gen.frame m ρ, fun m ρ _ => Cert.KernelIdeal.Gen.frame m ρ,
    fun m ρ _ => frame_r m ρ, fun m ρ _ => frame_r m ρ, fun m ρ _ => Cert.Mine.Hand.frame m ρ,
    fun m ρ _ => Mining.frame m ρ, fun m ρ _ => Mining.frame m ρ, fun m ρ _ => frame_c m ρ, fun m ρ _ => frame_c m ρ, trivial, equal, equal_c⟩

end Cert.Proof

end
